-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .f32) (main_arg1 : FVec F S768x512 .f32) (main_arg2 : FVec F S2x512x64x64 .f32) (main_arg3 : FVec F S2x512x64x64 .f32) (main_arg4 : FVec F S512x768 .f32) : IVec S2x512x768 1 × IVec S768x512 1 × IVec S2x512x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x64x64 .f32 := Host.absf main_arg2
  let main_cst_1 : FVec F S_ .f32 := constant S_ .f32 0x7F800000#32
  let main_v7 : FVec F S2x512x64x64 .f32 := broadcastInDim S2x512x64x64 ![] bcast_S_S2x512x64x64 main_cst_1
  let main_v8 : IVec S2x512x64x64 1 := cmpf .olt main_v6 main_v7
  (main_v2, main_v5, main_v8)
-- ==== Pre_finite_ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x4096x64x64 : S_.BroadcastsInDim S2x4096x64x64 (![] : Fin 0 → Fin S2x4096x64x64.rank)

variable [Facts]

def fn {F : FTy → Type} [FloatOps F] (main_arg0 : FVec F S2x512x768 .f32) (main_arg1 : FVec F S768x4096 .f32) (main_arg2 : FVec F S2x4096x64x64 .f32) (main_arg3 : FVec F S2x4096x64x64 .f32) (main_arg4 : FVec F S4096x768 .f32) : IVec S2x512x768 1 × IVec S768x4096 1 × IVec S2x4096x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x4096 .f32 := Host.absf main_arg1
  let main_cst_0 : FVec F S_ .f32 := constant S_ .f32 0x7F800000#32
  let main_v4 : FVec F S768x4096 .f32 := broadcastInDim S768x4096 ![] bcast_S_S768x4096 main_cst_0
  let main_v5 : IVec S768x4096 1 := cmpf .olt main_v3 main_v4
  let main_v6 : FVec F S2x4096x64x64 .f32 := Host.absf main_arg2
  let main_cst_1 : FVec F S_ .f32 := constant S_ .f32 0x7F800000#32
  let main_v7 : FVec F S2x4096x64x64 .f32 := broadcastInDim S2x4096x64x64 ![] bcast_S_S2x4096x64x64 main_cst_1
  let main_v8 : IVec S2x4096x64x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S1x2x512x64x64 : Shape := ⟨5, ![1, 2, 512, 64, 64]⟩
abbrev S2x2x512x64x64 : Shape := ⟨5, ![2, 2, 512, 64, 64]⟩
abbrev S2x2x512x4096 : Shape := ⟨4, ![2, 2, 512, 4096]⟩
abbrev S8x2x2x512x512 : Shape := ⟨5, ![8, 2, 2, 512, 512]⟩
abbrev S8x2x64x768 : Shape := ⟨4, ![8, 2, 64, 768]⟩
abbrev S2x4x128x8 : Shape := ⟨4, ![2, 4, 128, 8]⟩
abbrev S2x4x128x512 : Shape := ⟨4, ![2, 4, 128, 512]⟩
abbrev S7 : Shape := ⟨1, ![7]⟩
abbrev S2x7 : Shape := ⟨2, ![2, 7]⟩
abbrev S3 : Shape := ⟨1, ![3]⟩
abbrev S_ : Shape := ⟨0, ![]⟩
abbrev S1 : Shape := ⟨1, ![1]⟩
abbrev S1x2x2x512x512 : Shape := ⟨5, ![1, 2, 2, 512, 512]⟩
abbrev S2x2x512x512 : Shape := ⟨4, ![2, 2, 512, 512]⟩
abbrev S1024x768 : Shape := ⟨2, ![1024, 768]⟩
abbrev S1024x512 : Shape := ⟨2, ![1024, 512]⟩
abbrev S64x512 : Shape := ⟨2, ![64, 512]⟩
abbrev S128x512 : Shape := ⟨2, ![128, 512]⟩
abbrev S1x1x1x64x512 : Shape := ⟨5, ![1, 1, 1, 64, 512]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x8 : Shape := ⟨2, ![128, 8]⟩
abbrev S1x1x128x8 : Shape := ⟨4, ![1, 1, 128, 8]⟩
abbrev S1x1x128x512 : Shape := ⟨4, ![1, 1, 128, 512]⟩
abbrev S512x512 : Shape := ⟨2, ![512, 512]⟩
abbrev S1x512x768 : Shape := ⟨3, ![1, 512, 768]⟩
abbrev S1x1x64x768 : Shape := ⟨4, ![1, 1, 64, 768]⟩
abbrev S64x768 : Shape := ⟨2, ![64, 768]⟩
abbrev S1x64x768 : Shape := ⟨3, ![1, 64, 768]⟩
abbrev S1x1 : Shape := ⟨2, ![1, 1]⟩
abbrev S2x64x768 : Shape := ⟨3, ![2, 64, 768]⟩

abbrev nBuf : Space → Nat
  | .hbm => 12
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S2x512x64x64, .bf16⟩
  | .hbm, ⟨6, _⟩ => ⟨S2x512x64x64, .bf16⟩
  | .hbm, ⟨7, _⟩ => ⟨S1x2x512x64x64, .bf16⟩
  | .hbm, ⟨8, _⟩ => ⟨S1x2x512x64x64, .bf16⟩
  | .hbm, ⟨9, _⟩ => ⟨S2x2x512x64x64, .bf16⟩
  | .hbm, ⟨10, _⟩ => ⟨S2x2x512x4096, .bf16⟩
  | .hbm, ⟨11, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x2x512x4096, .bf16⟩
  | .local _ .vmem, ⟨3, _⟩ => ⟨S512x768, .f32⟩
  | .local _ .vmem, ⟨4, _⟩ => ⟨S2x512x768, .f32⟩
  | .local _ .vmem, ⟨5, _⟩ => ⟨S8x2x2x512x512, .bf16⟩
  | .local _ .vmem, ⟨6, _⟩ => ⟨S2x512x768, .bf16⟩
  | .local _ .vmem, ⟨7, _⟩ => ⟨S8x2x64x768, .bf16⟩
  | .local _ .vmem, ⟨8, _⟩ => ⟨S2x4x128x8, .f32⟩
  | .local _ .vmem, ⟨9, _⟩ => ⟨S2x4x128x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 4 → Nat :=
  let c0_i32_80 : BitVec 32 := 0#32
  let c0_i32_81 : BitVec 32 := 0#32
  let c0_i32_82 : BitVec 32 := 0#32
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let v106 : BitVec 32 := Scalar.muli c512_i32 v105
  ![0, 0, 0, v106.toNat]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_74 : BitVec 32 := 1#32
  let v107 : BitVec 32 := Scalar.muli v105 c1_i32_74
  let v108 : BitVec 32 := Scalar.addi c0_i32_75 v107
  v108.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v116 : BitVec 32 := Scalar.addi v2 c2_i32_83
  let c8_i32_84 : BitVec 32 := 8#32
  let c0_i32_85 : BitVec 32 := 0#32
  let v117 : BitVec 1 := Scalar.cmpi .eq c8_i32_84 c0_i32_85
  let c1_i32_86 : BitVec 32 := 1#32
  let v118 : BitVec 32 := Scalar.select v117 c1_i32_86 c8_i32_84
  let v119 : BitVec 32 := Scalar.remsi v116 v118
  let c0_i32_88 : BitVec 32 := 0#32
  let v121 : BitVec 1 := Scalar.cmpi .slt v119 c0_i32_88
  let c0_i32_89 : BitVec 32 := 0#32
  let v122 : BitVec 1 := Scalar.cmpi .slt v118 c0_i32_89
  let v123 : BitVec 1 := Scalar.xori v121 v122
  let c0_i32_87 : BitVec 32 := 0#32
  let v120 : BitVec 1 := Scalar.cmpi .ne v119 c0_i32_87
  let v124 : BitVec 1 := Scalar.andi v123 v120
  let v125 : BitVec 32 := Scalar.addi v119 v118
  let v126 : BitVec 32 := Scalar.select v124 v125 v119
  let c1_i32_94 : BitVec 32 := 1#32
  let v128 : BitVec 32 := Scalar.muli v126 c1_i32_94
  let v129 : BitVec 32 := Scalar.addi c0_i32_95 v128
  v129.toNat
def k0_dev10 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_103 : BitVec 32 := 3#32
  let v137 : BitVec 32 := Scalar.addi v2 c3_i32_103
  let c8_i32_104 : BitVec 32 := 8#32
  let c0_i32_105 : BitVec 32 := 0#32
  let v138 : BitVec 1 := Scalar.cmpi .eq c8_i32_104 c0_i32_105
  let c1_i32_106 : BitVec 32 := 1#32
  let v139 : BitVec 32 := Scalar.select v138 c1_i32_106 c8_i32_104
  let v140 : BitVec 32 := Scalar.remsi v137 v139
  let c0_i32_108 : BitVec 32 := 0#32
  let v142 : BitVec 1 := Scalar.cmpi .slt v140 c0_i32_108
  let c0_i32_109 : BitVec 32 := 0#32
  let v143 : BitVec 1 := Scalar.cmpi .slt v139 c0_i32_109
  let v144 : BitVec 1 := Scalar.xori v142 v143
  let c0_i32_107 : BitVec 32 := 0#32
  let v141 : BitVec 1 := Scalar.cmpi .ne v140 c0_i32_107
  let v145 : BitVec 1 := Scalar.andi v144 v141
  let v146 : BitVec 32 := Scalar.addi v140 v139
  let v147 : BitVec 32 := Scalar.select v145 v146 v140
  let c1_i32_114 : BitVec 32 := 1#32
  let v149 : BitVec 32 := Scalar.muli v147 c1_i32_114
  let v150 : BitVec 32 := Scalar.addi c0_i32_115 v149
  v150.toNat
def k0_dev11 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_123 : BitVec 32 := 4#32
  let v158 : BitVec 32 := Scalar.addi v2 c4_i32_123
  let c8_i32_124 : BitVec 32 := 8#32
  let c0_i32_125 : BitVec 32 := 0#32
  let v159 : BitVec 1 := Scalar.cmpi .eq c8_i32_124 c0_i32_125
  let c1_i32_126 : BitVec 32 := 1#32
  let v160 : BitVec 32 := Scalar.select v159 c1_i32_126 c8_i32_124
  let v161 : BitVec 32 := Scalar.remsi v158 v160
  let c0_i32_128 : BitVec 32 := 0#32
  let v163 : BitVec 1 := Scalar.cmpi .slt v161 c0_i32_128
  let c0_i32_129 : BitVec 32 := 0#32
  let v164 : BitVec 1 := Scalar.cmpi .slt v160 c0_i32_129
  let v165 : BitVec 1 := Scalar.xori v163 v164
  let c0_i32_127 : BitVec 32 := 0#32
  let v162 : BitVec 1 := Scalar.cmpi .ne v161 c0_i32_127
  let v166 : BitVec 1 := Scalar.andi v165 v162
  let v167 : BitVec 32 := Scalar.addi v161 v160
  let v168 : BitVec 32 := Scalar.select v166 v167 v161
  let c1_i32_134 : BitVec 32 := 1#32
  let v170 : BitVec 32 := Scalar.muli v168 c1_i32_134
  let v171 : BitVec 32 := Scalar.addi c0_i32_135 v170
  v171.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_143 : BitVec 32 := 5#32
  let v179 : BitVec 32 := Scalar.addi v2 c5_i32_143
  let c8_i32_144 : BitVec 32 := 8#32
  let c0_i32_145 : BitVec 32 := 0#32
  let v180 : BitVec 1 := Scalar.cmpi .eq c8_i32_144 c0_i32_145
  let c1_i32_146 : BitVec 32 := 1#32
  let v181 : BitVec 32 := Scalar.select v180 c1_i32_146 c8_i32_144
  let v182 : BitVec 32 := Scalar.remsi v179 v181
  let c0_i32_148 : BitVec 32 := 0#32
  let v184 : BitVec 1 := Scalar.cmpi .slt v182 c0_i32_148
  let c0_i32_149 : BitVec 32 := 0#32
  let v185 : BitVec 1 := Scalar.cmpi .slt v181 c0_i32_149
  let v186 : BitVec 1 := Scalar.xori v184 v185
  let c0_i32_147 : BitVec 32 := 0#32
  let v183 : BitVec 1 := Scalar.cmpi .ne v182 c0_i32_147
  let v187 : BitVec 1 := Scalar.andi v186 v183
  let v188 : BitVec 32 := Scalar.addi v182 v181
  let v189 : BitVec 32 := Scalar.select v187 v188 v182
  let c1_i32_154 : BitVec 32 := 1#32
  let v191 : BitVec 32 := Scalar.muli v189 c1_i32_154
  let v192 : BitVec 32 := Scalar.addi c0_i32_155 v191
  v192.toNat
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v200 : BitVec 32 := Scalar.addi v2 c6_i32_163
  let c8_i32_164 : BitVec 32 := 8#32
  let c0_i32_165 : BitVec 32 := 0#32
  let v201 : BitVec 1 := Scalar.cmpi .eq c8_i32_164 c0_i32_165
  let c1_i32_166 : BitVec 32 := 1#32
  let v202 : BitVec 32 := Scalar.select v201 c1_i32_166 c8_i32_164
  let v203 : BitVec 32 := Scalar.remsi v200 v202
  let c0_i32_168 : BitVec 32 := 0#32
  let v205 : BitVec 1 := Scalar.cmpi .slt v203 c0_i32_168
  let c0_i32_169 : BitVec 32 := 0#32
  let v206 : BitVec 1 := Scalar.cmpi .slt v202 c0_i32_169
  let v207 : BitVec 1 := Scalar.xori v205 v206
  let c0_i32_167 : BitVec 32 := 0#32
  let v204 : BitVec 1 := Scalar.cmpi .ne v203 c0_i32_167
  let v208 : BitVec 1 := Scalar.andi v207 v204
  let v209 : BitVec 32 := Scalar.addi v203 v202
  let v210 : BitVec 32 := Scalar.select v208 v209 v203
  let c1_i32_174 : BitVec 32 := 1#32
  let v212 : BitVec 32 := Scalar.muli v210 c1_i32_174
  let v213 : BitVec 32 := Scalar.addi c0_i32_175 v212
  v213.toNat
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_183 : BitVec 32 := 7#32
  let v221 : BitVec 32 := Scalar.addi v2 c7_i32_183
  let c8_i32_184 : BitVec 32 := 8#32
  let c0_i32_185 : BitVec 32 := 0#32
  let v222 : BitVec 1 := Scalar.cmpi .eq c8_i32_184 c0_i32_185
  let c1_i32_186 : BitVec 32 := 1#32
  let v223 : BitVec 32 := Scalar.select v222 c1_i32_186 c8_i32_184
  let v224 : BitVec 32 := Scalar.remsi v221 v223
  let c0_i32_188 : BitVec 32 := 0#32
  let v226 : BitVec 1 := Scalar.cmpi .slt v224 c0_i32_188
  let c0_i32_189 : BitVec 32 := 0#32
  let v227 : BitVec 1 := Scalar.cmpi .slt v223 c0_i32_189
  let v228 : BitVec 1 := Scalar.xori v226 v227
  let c0_i32_187 : BitVec 32 := 0#32
  let v225 : BitVec 1 := Scalar.cmpi .ne v224 c0_i32_187
  let v229 : BitVec 1 := Scalar.andi v228 v225
  let v230 : BitVec 32 := Scalar.addi v224 v223
  let v231 : BitVec 32 := Scalar.select v229 v230 v224
  let c1_i32_194 : BitVec 32 := 1#32
  let v233 : BitVec 32 := Scalar.muli v231 c1_i32_194
  let v234 : BitVec 32 := Scalar.addi c0_i32_195 v233
  v234.toNat
def k0_off2 (d0 : Dev nD) : Fin 4 → Nat :=
  let c0_i32_210 : BitVec 32 := 0#32
  let c0_i32_211 : BitVec 32 := 0#32
  let c0_i32_212 : BitVec 32 := 0#32
  let c512_i32_203 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v242 : BitVec 32 := Scalar.muli c512_i32_203 v2
  ![0, 0, 0, v242.toNat]
def k0_off3 (d0 : Dev nD) : Fin 3 → Nat :=
  let c0_i32_4622 : BitVec 32 := 0#32
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7589 : BitVec 32 := Scalar.muli c64_i32 v2
  let c0_i32_4628 : BitVec 32 := 0#32
  ![0, v7589.toNat, 0]
def k0_off4 (d0 : Dev nD) (c1_i32_4629 : BitVec 32) : Fin 3 → Nat :=
  let c0_i32_4637 : BitVec 32 := 0#32
  let c64_i32_4636 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7596 : BitVec 32 := Scalar.addi v2 c1_i32_4629
  let c8_i32_4630 : BitVec 32 := 8#32
  let c0_i32_4631 : BitVec 32 := 0#32
  let v7597 : BitVec 1 := Scalar.cmpi .eq c8_i32_4630 c0_i32_4631
  let c1_i32_4632 : BitVec 32 := 1#32
  let v7598 : BitVec 32 := Scalar.select v7597 c1_i32_4632 c8_i32_4630
  let v7599 : BitVec 32 := Scalar.remsi v7596 v7598
  let c0_i32_4634 : BitVec 32 := 0#32
  let v7601 : BitVec 1 := Scalar.cmpi .slt v7599 c0_i32_4634
  let c0_i32_4635 : BitVec 32 := 0#32
  let v7602 : BitVec 1 := Scalar.cmpi .slt v7598 c0_i32_4635
  let v7603 : BitVec 1 := Scalar.xori v7601 v7602
  let c0_i32_4633 : BitVec 32 := 0#32
  let v7600 : BitVec 1 := Scalar.cmpi .ne v7599 c0_i32_4633
  let v7604 : BitVec 1 := Scalar.andi v7603 v7600
  let v7605 : BitVec 32 := Scalar.addi v7599 v7598
  let v7606 : BitVec 32 := Scalar.select v7604 v7605 v7599
  let v7607 : BitVec 32 := Scalar.muli c64_i32_4636 v7606
  let c0_i32_4648 : BitVec 32 := 0#32
  ![0, v7607.toNat, 0]
def k0_dev15 (d0 : Dev nD) : Nat :=
  let c0_i32_4645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4629 : BitVec 32 := 1#32
  let v7596 : BitVec 32 := Scalar.addi v2 c1_i32_4629
  let c8_i32_4630 : BitVec 32 := 8#32
  let c0_i32_4631 : BitVec 32 := 0#32
  let v7597 : BitVec 1 := Scalar.cmpi .eq c8_i32_4630 c0_i32_4631
  let c1_i32_4632 : BitVec 32 := 1#32
  let v7598 : BitVec 32 := Scalar.select v7597 c1_i32_4632 c8_i32_4630
  let v7599 : BitVec 32 := Scalar.remsi v7596 v7598
  let c0_i32_4634 : BitVec 32 := 0#32
  let v7601 : BitVec 1 := Scalar.cmpi .slt v7599 c0_i32_4634
  let c0_i32_4635 : BitVec 32 := 0#32
  let v7602 : BitVec 1 := Scalar.cmpi .slt v7598 c0_i32_4635
  let v7603 : BitVec 1 := Scalar.xori v7601 v7602
  let c0_i32_4633 : BitVec 32 := 0#32
  let v7600 : BitVec 1 := Scalar.cmpi .ne v7599 c0_i32_4633
  let v7604 : BitVec 1 := Scalar.andi v7603 v7600
  let v7605 : BitVec 32 := Scalar.addi v7599 v7598
  let v7606 : BitVec 32 := Scalar.select v7604 v7605 v7599
  let c1_i32_4644 : BitVec 32 := 1#32
  let v7608 : BitVec 32 := Scalar.muli v7606 c1_i32_4644
  let v7609 : BitVec 32 := Scalar.addi c0_i32_4645 v7608
  v7609.toNat
def k0_dev16 (d0 : Dev nD) : Nat :=
  let c0_i32_4665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4649 : BitVec 32 := 2#32
  let v7618 : BitVec 32 := Scalar.addi v2 c2_i32_4649
  let c8_i32_4650 : BitVec 32 := 8#32
  let c0_i32_4651 : BitVec 32 := 0#32
  let v7619 : BitVec 1 := Scalar.cmpi .eq c8_i32_4650 c0_i32_4651
  let c1_i32_4652 : BitVec 32 := 1#32
  let v7620 : BitVec 32 := Scalar.select v7619 c1_i32_4652 c8_i32_4650
  let v7621 : BitVec 32 := Scalar.remsi v7618 v7620
  let c0_i32_4654 : BitVec 32 := 0#32
  let v7623 : BitVec 1 := Scalar.cmpi .slt v7621 c0_i32_4654
  let c0_i32_4655 : BitVec 32 := 0#32
  let v7624 : BitVec 1 := Scalar.cmpi .slt v7620 c0_i32_4655
  let v7625 : BitVec 1 := Scalar.xori v7623 v7624
  let c0_i32_4653 : BitVec 32 := 0#32
  let v7622 : BitVec 1 := Scalar.cmpi .ne v7621 c0_i32_4653
  let v7626 : BitVec 1 := Scalar.andi v7625 v7622
  let v7627 : BitVec 32 := Scalar.addi v7621 v7620
  let v7628 : BitVec 32 := Scalar.select v7626 v7627 v7621
  let c1_i32_4664 : BitVec 32 := 1#32
  let v7630 : BitVec 32 := Scalar.muli v7628 c1_i32_4664
  let v7631 : BitVec 32 := Scalar.addi c0_i32_4665 v7630
  v7631.toNat
def k0_dev17 (d0 : Dev nD) : Nat :=
  let c0_i32_4685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4669 : BitVec 32 := 3#32
  let v7640 : BitVec 32 := Scalar.addi v2 c3_i32_4669
  let c8_i32_4670 : BitVec 32 := 8#32
  let c0_i32_4671 : BitVec 32 := 0#32
  let v7641 : BitVec 1 := Scalar.cmpi .eq c8_i32_4670 c0_i32_4671
  let c1_i32_4672 : BitVec 32 := 1#32
  let v7642 : BitVec 32 := Scalar.select v7641 c1_i32_4672 c8_i32_4670
  let v7643 : BitVec 32 := Scalar.remsi v7640 v7642
  let c0_i32_4674 : BitVec 32 := 0#32
  let v7645 : BitVec 1 := Scalar.cmpi .slt v7643 c0_i32_4674
  let c0_i32_4675 : BitVec 32 := 0#32
  let v7646 : BitVec 1 := Scalar.cmpi .slt v7642 c0_i32_4675
  let v7647 : BitVec 1 := Scalar.xori v7645 v7646
  let c0_i32_4673 : BitVec 32 := 0#32
  let v7644 : BitVec 1 := Scalar.cmpi .ne v7643 c0_i32_4673
  let v7648 : BitVec 1 := Scalar.andi v7647 v7644
  let v7649 : BitVec 32 := Scalar.addi v7643 v7642
  let v7650 : BitVec 32 := Scalar.select v7648 v7649 v7643
  let c1_i32_4684 : BitVec 32 := 1#32
  let v7652 : BitVec 32 := Scalar.muli v7650 c1_i32_4684
  let v7653 : BitVec 32 := Scalar.addi c0_i32_4685 v7652
  v7653.toNat
def k0_dev18 (d0 : Dev nD) : Nat :=
  let c0_i32_4705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4689 : BitVec 32 := 4#32
  let v7662 : BitVec 32 := Scalar.addi v2 c4_i32_4689
  let c8_i32_4690 : BitVec 32 := 8#32
  let c0_i32_4691 : BitVec 32 := 0#32
  let v7663 : BitVec 1 := Scalar.cmpi .eq c8_i32_4690 c0_i32_4691
  let c1_i32_4692 : BitVec 32 := 1#32
  let v7664 : BitVec 32 := Scalar.select v7663 c1_i32_4692 c8_i32_4690
  let v7665 : BitVec 32 := Scalar.remsi v7662 v7664
  let c0_i32_4694 : BitVec 32 := 0#32
  let v7667 : BitVec 1 := Scalar.cmpi .slt v7665 c0_i32_4694
  let c0_i32_4695 : BitVec 32 := 0#32
  let v7668 : BitVec 1 := Scalar.cmpi .slt v7664 c0_i32_4695
  let v7669 : BitVec 1 := Scalar.xori v7667 v7668
  let c0_i32_4693 : BitVec 32 := 0#32
  let v7666 : BitVec 1 := Scalar.cmpi .ne v7665 c0_i32_4693
  let v7670 : BitVec 1 := Scalar.andi v7669 v7666
  let v7671 : BitVec 32 := Scalar.addi v7665 v7664
  let v7672 : BitVec 32 := Scalar.select v7670 v7671 v7665
  let c1_i32_4704 : BitVec 32 := 1#32
  let v7674 : BitVec 32 := Scalar.muli v7672 c1_i32_4704
  let v7675 : BitVec 32 := Scalar.addi c0_i32_4705 v7674
  v7675.toNat
def k0_dev19 (d0 : Dev nD) : Nat :=
  let c0_i32_4725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_4709 : BitVec 32 := 5#32
  let v7684 : BitVec 32 := Scalar.addi v2 c5_i32_4709
  let c8_i32_4710 : BitVec 32 := 8#32
  let c0_i32_4711 : BitVec 32 := 0#32
  let v7685 : BitVec 1 := Scalar.cmpi .eq c8_i32_4710 c0_i32_4711
  let c1_i32_4712 : BitVec 32 := 1#32
  let v7686 : BitVec 32 := Scalar.select v7685 c1_i32_4712 c8_i32_4710
  let v7687 : BitVec 32 := Scalar.remsi v7684 v7686
  let c0_i32_4714 : BitVec 32 := 0#32
  let v7689 : BitVec 1 := Scalar.cmpi .slt v7687 c0_i32_4714
  let c0_i32_4715 : BitVec 32 := 0#32
  let v7690 : BitVec 1 := Scalar.cmpi .slt v7686 c0_i32_4715
  let v7691 : BitVec 1 := Scalar.xori v7689 v7690
  let c0_i32_4713 : BitVec 32 := 0#32
  let v7688 : BitVec 1 := Scalar.cmpi .ne v7687 c0_i32_4713
  let v7692 : BitVec 1 := Scalar.andi v7691 v7688
  let v7693 : BitVec 32 := Scalar.addi v7687 v7686
  let v7694 : BitVec 32 := Scalar.select v7692 v7693 v7687
  let c1_i32_4724 : BitVec 32 := 1#32
  let v7696 : BitVec 32 := Scalar.muli v7694 c1_i32_4724
  let v7697 : BitVec 32 := Scalar.addi c0_i32_4725 v7696
  v7697.toNat
def k0_dev20 (d0 : Dev nD) : Nat :=
  let c0_i32_4745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4729 : BitVec 32 := 6#32
  let v7706 : BitVec 32 := Scalar.addi v2 c6_i32_4729
  let c8_i32_4730 : BitVec 32 := 8#32
  let c0_i32_4731 : BitVec 32 := 0#32
  let v7707 : BitVec 1 := Scalar.cmpi .eq c8_i32_4730 c0_i32_4731
  let c1_i32_4732 : BitVec 32 := 1#32
  let v7708 : BitVec 32 := Scalar.select v7707 c1_i32_4732 c8_i32_4730
  let v7709 : BitVec 32 := Scalar.remsi v7706 v7708
  let c0_i32_4734 : BitVec 32 := 0#32
  let v7711 : BitVec 1 := Scalar.cmpi .slt v7709 c0_i32_4734
  let c0_i32_4735 : BitVec 32 := 0#32
  let v7712 : BitVec 1 := Scalar.cmpi .slt v7708 c0_i32_4735
  let v7713 : BitVec 1 := Scalar.xori v7711 v7712
  let c0_i32_4733 : BitVec 32 := 0#32
  let v7710 : BitVec 1 := Scalar.cmpi .ne v7709 c0_i32_4733
  let v7714 : BitVec 1 := Scalar.andi v7713 v7710
  let v7715 : BitVec 32 := Scalar.addi v7709 v7708
  let v7716 : BitVec 32 := Scalar.select v7714 v7715 v7709
  let c1_i32_4744 : BitVec 32 := 1#32
  let v7718 : BitVec 32 := Scalar.muli v7716 c1_i32_4744
  let v7719 : BitVec 32 := Scalar.addi c0_i32_4745 v7718
  v7719.toNat
def k0_dev21 (d0 : Dev nD) : Nat :=
  let c0_i32_4765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4749 : BitVec 32 := 7#32
  let v7728 : BitVec 32 := Scalar.addi v2 c7_i32_4749
  let c8_i32_4750 : BitVec 32 := 8#32
  let c0_i32_4751 : BitVec 32 := 0#32
  let v7729 : BitVec 1 := Scalar.cmpi .eq c8_i32_4750 c0_i32_4751
  let c1_i32_4752 : BitVec 32 := 1#32
  let v7730 : BitVec 32 := Scalar.select v7729 c1_i32_4752 c8_i32_4750
  let v7731 : BitVec 32 := Scalar.remsi v7728 v7730
  let c0_i32_4754 : BitVec 32 := 0#32
  let v7733 : BitVec 1 := Scalar.cmpi .slt v7731 c0_i32_4754
  let c0_i32_4755 : BitVec 32 := 0#32
  let v7734 : BitVec 1 := Scalar.cmpi .slt v7730 c0_i32_4755
  let v7735 : BitVec 1 := Scalar.xori v7733 v7734
  let c0_i32_4753 : BitVec 32 := 0#32
  let v7732 : BitVec 1 := Scalar.cmpi .ne v7731 c0_i32_4753
  let v7736 : BitVec 1 := Scalar.andi v7735 v7732
  let v7737 : BitVec 32 := Scalar.addi v7731 v7730
  let v7738 : BitVec 32 := Scalar.select v7736 v7737 v7731
  let c1_i32_4764 : BitVec 32 := 1#32
  let v7740 : BitVec 32 := Scalar.muli v7738 c1_i32_4764
  let v7741 : BitVec 32 := Scalar.addi c0_i32_4765 v7740
  v7741.toNat
def k0_off5 (d0 : Dev nD) : Fin 3 → Nat :=
  let c1_i32_4808 : BitVec 32 := 1#32
  let c64_i32_4807 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7886 : BitVec 32 := Scalar.muli c64_i32_4807 v2
  let c0_i32_4814 : BitVec 32 := 0#32
  ![1, v7886.toNat, 0]
def k0_off6 (d0 : Dev nD) (c1_i32_4815 : BitVec 32) : Fin 3 → Nat :=
  let c1_i32_4823 : BitVec 32 := 1#32
  let c64_i32_4822 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7893 : BitVec 32 := Scalar.addi v2 c1_i32_4815
  let c8_i32_4816 : BitVec 32 := 8#32
  let c0_i32_4817 : BitVec 32 := 0#32
  let v7894 : BitVec 1 := Scalar.cmpi .eq c8_i32_4816 c0_i32_4817
  let c1_i32_4818 : BitVec 32 := 1#32
  let v7895 : BitVec 32 := Scalar.select v7894 c1_i32_4818 c8_i32_4816
  let v7896 : BitVec 32 := Scalar.remsi v7893 v7895
  let c0_i32_4820 : BitVec 32 := 0#32
  let v7898 : BitVec 1 := Scalar.cmpi .slt v7896 c0_i32_4820
  let c0_i32_4821 : BitVec 32 := 0#32
  let v7899 : BitVec 1 := Scalar.cmpi .slt v7895 c0_i32_4821
  let v7900 : BitVec 1 := Scalar.xori v7898 v7899
  let c0_i32_4819 : BitVec 32 := 0#32
  let v7897 : BitVec 1 := Scalar.cmpi .ne v7896 c0_i32_4819
  let v7901 : BitVec 1 := Scalar.andi v7900 v7897
  let v7902 : BitVec 32 := Scalar.addi v7896 v7895
  let v7903 : BitVec 32 := Scalar.select v7901 v7902 v7896
  let v7904 : BitVec 32 := Scalar.muli c64_i32_4822 v7903
  let c0_i32_4834 : BitVec 32 := 0#32
  ![1, v7904.toNat, 0]
def k0_dev22 (d0 : Dev nD) : Nat :=
  let c0_i32_4831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4815 : BitVec 32 := 1#32
  let v7893 : BitVec 32 := Scalar.addi v2 c1_i32_4815
  let c8_i32_4816 : BitVec 32 := 8#32
  let c0_i32_4817 : BitVec 32 := 0#32
  let v7894 : BitVec 1 := Scalar.cmpi .eq c8_i32_4816 c0_i32_4817
  let c1_i32_4818 : BitVec 32 := 1#32
  let v7895 : BitVec 32 := Scalar.select v7894 c1_i32_4818 c8_i32_4816
  let v7896 : BitVec 32 := Scalar.remsi v7893 v7895
  let c0_i32_4820 : BitVec 32 := 0#32
  let v7898 : BitVec 1 := Scalar.cmpi .slt v7896 c0_i32_4820
  let c0_i32_4821 : BitVec 32 := 0#32
  let v7899 : BitVec 1 := Scalar.cmpi .slt v7895 c0_i32_4821
  let v7900 : BitVec 1 := Scalar.xori v7898 v7899
  let c0_i32_4819 : BitVec 32 := 0#32
  let v7897 : BitVec 1 := Scalar.cmpi .ne v7896 c0_i32_4819
  let v7901 : BitVec 1 := Scalar.andi v7900 v7897
  let v7902 : BitVec 32 := Scalar.addi v7896 v7895
  let v7903 : BitVec 32 := Scalar.select v7901 v7902 v7896
  let c1_i32_4830 : BitVec 32 := 1#32
  let v7905 : BitVec 32 := Scalar.muli v7903 c1_i32_4830
  let v7906 : BitVec 32 := Scalar.addi c0_i32_4831 v7905
  v7906.toNat
def k0_dev23 (d0 : Dev nD) : Nat :=
  let c0_i32_4851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4835 : BitVec 32 := 2#32
  let v7915 : BitVec 32 := Scalar.addi v2 c2_i32_4835
  let c8_i32_4836 : BitVec 32 := 8#32
  let c0_i32_4837 : BitVec 32 := 0#32
  let v7916 : BitVec 1 := Scalar.cmpi .eq c8_i32_4836 c0_i32_4837
  let c1_i32_4838 : BitVec 32 := 1#32
  let v7917 : BitVec 32 := Scalar.select v7916 c1_i32_4838 c8_i32_4836
  let v7918 : BitVec 32 := Scalar.remsi v7915 v7917
  let c0_i32_4840 : BitVec 32 := 0#32
  let v7920 : BitVec 1 := Scalar.cmpi .slt v7918 c0_i32_4840
  let c0_i32_4841 : BitVec 32 := 0#32
  let v7921 : BitVec 1 := Scalar.cmpi .slt v7917 c0_i32_4841
  let v7922 : BitVec 1 := Scalar.xori v7920 v7921
  let c0_i32_4839 : BitVec 32 := 0#32
  let v7919 : BitVec 1 := Scalar.cmpi .ne v7918 c0_i32_4839
  let v7923 : BitVec 1 := Scalar.andi v7922 v7919
  let v7924 : BitVec 32 := Scalar.addi v7918 v7917
  let v7925 : BitVec 32 := Scalar.select v7923 v7924 v7918
  let c1_i32_4850 : BitVec 32 := 1#32
  let v7927 : BitVec 32 := Scalar.muli v7925 c1_i32_4850
  let v7928 : BitVec 32 := Scalar.addi c0_i32_4851 v7927
  v7928.toNat
def k0_dev24 (d0 : Dev nD) : Nat :=
  let c0_i32_4871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4855 : BitVec 32 := 3#32
  let v7937 : BitVec 32 := Scalar.addi v2 c3_i32_4855
  let c8_i32_4856 : BitVec 32 := 8#32
  let c0_i32_4857 : BitVec 32 := 0#32
  let v7938 : BitVec 1 := Scalar.cmpi .eq c8_i32_4856 c0_i32_4857
  let c1_i32_4858 : BitVec 32 := 1#32
  let v7939 : BitVec 32 := Scalar.select v7938 c1_i32_4858 c8_i32_4856
  let v7940 : BitVec 32 := Scalar.remsi v7937 v7939
  let c0_i32_4860 : BitVec 32 := 0#32
  let v7942 : BitVec 1 := Scalar.cmpi .slt v7940 c0_i32_4860
  let c0_i32_4861 : BitVec 32 := 0#32
  let v7943 : BitVec 1 := Scalar.cmpi .slt v7939 c0_i32_4861
  let v7944 : BitVec 1 := Scalar.xori v7942 v7943
  let c0_i32_4859 : BitVec 32 := 0#32
  let v7941 : BitVec 1 := Scalar.cmpi .ne v7940 c0_i32_4859
  let v7945 : BitVec 1 := Scalar.andi v7944 v7941
  let v7946 : BitVec 32 := Scalar.addi v7940 v7939
  let v7947 : BitVec 32 := Scalar.select v7945 v7946 v7940
  let c1_i32_4870 : BitVec 32 := 1#32
  let v7949 : BitVec 32 := Scalar.muli v7947 c1_i32_4870
  let v7950 : BitVec 32 := Scalar.addi c0_i32_4871 v7949
  v7950.toNat
def k0_dev25 (d0 : Dev nD) : Nat :=
  let c0_i32_4891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4875 : BitVec 32 := 4#32
  let v7959 : BitVec 32 := Scalar.addi v2 c4_i32_4875
  let c8_i32_4876 : BitVec 32 := 8#32
  let c0_i32_4877 : BitVec 32 := 0#32
  let v7960 : BitVec 1 := Scalar.cmpi .eq c8_i32_4876 c0_i32_4877
  let c1_i32_4878 : BitVec 32 := 1#32
  let v7961 : BitVec 32 := Scalar.select v7960 c1_i32_4878 c8_i32_4876
  let v7962 : BitVec 32 := Scalar.remsi v7959 v7961
  let c0_i32_4880 : BitVec 32 := 0#32
  let v7964 : BitVec 1 := Scalar.cmpi .slt v7962 c0_i32_4880
  let c0_i32_4881 : BitVec 32 := 0#32
  let v7965 : BitVec 1 := Scalar.cmpi .slt v7961 c0_i32_4881
  let v7966 : BitVec 1 := Scalar.xori v7964 v7965
  let c0_i32_4879 : BitVec 32 := 0#32
  let v7963 : BitVec 1 := Scalar.cmpi .ne v7962 c0_i32_4879
  let v7967 : BitVec 1 := Scalar.andi v7966 v7963
  let v7968 : BitVec 32 := Scalar.addi v7962 v7961
  let v7969 : BitVec 32 := Scalar.select v7967 v7968 v7962
  let c1_i32_4890 : BitVec 32 := 1#32
  let v7971 : BitVec 32 := Scalar.muli v7969 c1_i32_4890
  let v7972 : BitVec 32 := Scalar.addi c0_i32_4891 v7971
  v7972.toNat
def k0_dev26 (d0 : Dev nD) : Nat :=
  let c0_i32_4911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_4895 : BitVec 32 := 5#32
  let v7981 : BitVec 32 := Scalar.addi v2 c5_i32_4895
  let c8_i32_4896 : BitVec 32 := 8#32
  let c0_i32_4897 : BitVec 32 := 0#32
  let v7982 : BitVec 1 := Scalar.cmpi .eq c8_i32_4896 c0_i32_4897
  let c1_i32_4898 : BitVec 32 := 1#32
  let v7983 : BitVec 32 := Scalar.select v7982 c1_i32_4898 c8_i32_4896
  let v7984 : BitVec 32 := Scalar.remsi v7981 v7983
  let c0_i32_4900 : BitVec 32 := 0#32
  let v7986 : BitVec 1 := Scalar.cmpi .slt v7984 c0_i32_4900
  let c0_i32_4901 : BitVec 32 := 0#32
  let v7987 : BitVec 1 := Scalar.cmpi .slt v7983 c0_i32_4901
  let v7988 : BitVec 1 := Scalar.xori v7986 v7987
  let c0_i32_4899 : BitVec 32 := 0#32
  let v7985 : BitVec 1 := Scalar.cmpi .ne v7984 c0_i32_4899
  let v7989 : BitVec 1 := Scalar.andi v7988 v7985
  let v7990 : BitVec 32 := Scalar.addi v7984 v7983
  let v7991 : BitVec 32 := Scalar.select v7989 v7990 v7984
  let c1_i32_4910 : BitVec 32 := 1#32
  let v7993 : BitVec 32 := Scalar.muli v7991 c1_i32_4910
  let v7994 : BitVec 32 := Scalar.addi c0_i32_4911 v7993
  v7994.toNat
def k0_dev27 (d0 : Dev nD) : Nat :=
  let c0_i32_4931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4915 : BitVec 32 := 6#32
  let v8003 : BitVec 32 := Scalar.addi v2 c6_i32_4915
  let c8_i32_4916 : BitVec 32 := 8#32
  let c0_i32_4917 : BitVec 32 := 0#32
  let v8004 : BitVec 1 := Scalar.cmpi .eq c8_i32_4916 c0_i32_4917
  let c1_i32_4918 : BitVec 32 := 1#32
  let v8005 : BitVec 32 := Scalar.select v8004 c1_i32_4918 c8_i32_4916
  let v8006 : BitVec 32 := Scalar.remsi v8003 v8005
  let c0_i32_4920 : BitVec 32 := 0#32
  let v8008 : BitVec 1 := Scalar.cmpi .slt v8006 c0_i32_4920
  let c0_i32_4921 : BitVec 32 := 0#32
  let v8009 : BitVec 1 := Scalar.cmpi .slt v8005 c0_i32_4921
  let v8010 : BitVec 1 := Scalar.xori v8008 v8009
  let c0_i32_4919 : BitVec 32 := 0#32
  let v8007 : BitVec 1 := Scalar.cmpi .ne v8006 c0_i32_4919
  let v8011 : BitVec 1 := Scalar.andi v8010 v8007
  let v8012 : BitVec 32 := Scalar.addi v8006 v8005
  let v8013 : BitVec 32 := Scalar.select v8011 v8012 v8006
  let c1_i32_4930 : BitVec 32 := 1#32
  let v8015 : BitVec 32 := Scalar.muli v8013 c1_i32_4930
  let v8016 : BitVec 32 := Scalar.addi c0_i32_4931 v8015
  v8016.toNat
def k0_dev28 (d0 : Dev nD) : Nat :=
  let c0_i32_4951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4935 : BitVec 32 := 7#32
  let v8025 : BitVec 32 := Scalar.addi v2 c7_i32_4935
  let c8_i32_4936 : BitVec 32 := 8#32
  let c0_i32_4937 : BitVec 32 := 0#32
  let v8026 : BitVec 1 := Scalar.cmpi .eq c8_i32_4936 c0_i32_4937
  let c1_i32_4938 : BitVec 32 := 1#32
  let v8027 : BitVec 32 := Scalar.select v8026 c1_i32_4938 c8_i32_4936
  let v8028 : BitVec 32 := Scalar.remsi v8025 v8027
  let c0_i32_4940 : BitVec 32 := 0#32
  let v8030 : BitVec 1 := Scalar.cmpi .slt v8028 c0_i32_4940
  let c0_i32_4941 : BitVec 32 := 0#32
  let v8031 : BitVec 1 := Scalar.cmpi .slt v8027 c0_i32_4941
  let v8032 : BitVec 1 := Scalar.xori v8030 v8031
  let c0_i32_4939 : BitVec 32 := 0#32
  let v8029 : BitVec 1 := Scalar.cmpi .ne v8028 c0_i32_4939
  let v8033 : BitVec 1 := Scalar.andi v8032 v8029
  let v8034 : BitVec 32 := Scalar.addi v8028 v8027
  let v8035 : BitVec 32 := Scalar.select v8033 v8034 v8028
  let c1_i32_4950 : BitVec 32 := 1#32
  let v8037 : BitVec 32 := Scalar.muli v8035 c1_i32_4950
  let v8038 : BitVec 32 := Scalar.addi c0_i32_4951 v8037
  v8038.toNat
def k0_off7 (d0 : Dev nD) : Fin 3 → Nat :=
  let c0_5145 : Index := 0#32
  let c64_i32_5144 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8174 : BitVec 32 := Scalar.muli c64_i32_5144 v2
  let v8175 : Index := Scalar.indexCast v8174
  let c0_5146 : Index := 0#32
  ![0, v8175.toNat, 0]
def k0_off8 (d0 : Dev nD) : Fin 3 → Nat :=
  let c0_i32_5160 : BitVec 32 := 0#32
  let c64_i32_5155 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8189 : BitVec 32 := Scalar.muli c64_i32_5155 v2
  let c0_i32_5161 : BitVec 32 := 0#32
  ![0, v8189.toNat, 0]
def k0_dev29 (d0 : Dev nD) : Nat :=
  let c0_i32_5159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5147 : BitVec 32 := 1#32
  let v8177 : BitVec 32 := Scalar.addi v2 c1_i32_5147
  let c8_i32_5148 : BitVec 32 := 8#32
  let c0_i32_5149 : BitVec 32 := 0#32
  let v8178 : BitVec 1 := Scalar.cmpi .eq c8_i32_5148 c0_i32_5149
  let c1_i32_5150 : BitVec 32 := 1#32
  let v8179 : BitVec 32 := Scalar.select v8178 c1_i32_5150 c8_i32_5148
  let v8180 : BitVec 32 := Scalar.remsi v8177 v8179
  let c0_i32_5152 : BitVec 32 := 0#32
  let v8182 : BitVec 1 := Scalar.cmpi .slt v8180 c0_i32_5152
  let c0_i32_5153 : BitVec 32 := 0#32
  let v8183 : BitVec 1 := Scalar.cmpi .slt v8179 c0_i32_5153
  let v8184 : BitVec 1 := Scalar.xori v8182 v8183
  let c0_i32_5151 : BitVec 32 := 0#32
  let v8181 : BitVec 1 := Scalar.cmpi .ne v8180 c0_i32_5151
  let v8185 : BitVec 1 := Scalar.andi v8184 v8181
  let v8186 : BitVec 32 := Scalar.addi v8180 v8179
  let v8187 : BitVec 32 := Scalar.select v8185 v8186 v8180
  let c1_i32_5158 : BitVec 32 := 1#32
  let v8190 : BitVec 32 := Scalar.muli v8187 c1_i32_5158
  let v8191 : BitVec 32 := Scalar.addi c0_i32_5159 v8190
  v8191.toNat
def k0_dev30 (d0 : Dev nD) : Nat :=
  let c0_i32_5176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_5164 : BitVec 32 := 2#32
  let v8198 : BitVec 32 := Scalar.addi v2 c2_i32_5164
  let c8_i32_5165 : BitVec 32 := 8#32
  let c0_i32_5166 : BitVec 32 := 0#32
  let v8199 : BitVec 1 := Scalar.cmpi .eq c8_i32_5165 c0_i32_5166
  let c1_i32_5167 : BitVec 32 := 1#32
  let v8200 : BitVec 32 := Scalar.select v8199 c1_i32_5167 c8_i32_5165
  let v8201 : BitVec 32 := Scalar.remsi v8198 v8200
  let c0_i32_5169 : BitVec 32 := 0#32
  let v8203 : BitVec 1 := Scalar.cmpi .slt v8201 c0_i32_5169
  let c0_i32_5170 : BitVec 32 := 0#32
  let v8204 : BitVec 1 := Scalar.cmpi .slt v8200 c0_i32_5170
  let v8205 : BitVec 1 := Scalar.xori v8203 v8204
  let c0_i32_5168 : BitVec 32 := 0#32
  let v8202 : BitVec 1 := Scalar.cmpi .ne v8201 c0_i32_5168
  let v8206 : BitVec 1 := Scalar.andi v8205 v8202
  let v8207 : BitVec 32 := Scalar.addi v8201 v8200
  let v8208 : BitVec 32 := Scalar.select v8206 v8207 v8201
  let c1_i32_5175 : BitVec 32 := 1#32
  let v8211 : BitVec 32 := Scalar.muli v8208 c1_i32_5175
  let v8212 : BitVec 32 := Scalar.addi c0_i32_5176 v8211
  v8212.toNat
def k0_dev31 (d0 : Dev nD) : Nat :=
  let c0_i32_5193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5181 : BitVec 32 := 3#32
  let v8219 : BitVec 32 := Scalar.addi v2 c3_i32_5181
  let c8_i32_5182 : BitVec 32 := 8#32
  let c0_i32_5183 : BitVec 32 := 0#32
  let v8220 : BitVec 1 := Scalar.cmpi .eq c8_i32_5182 c0_i32_5183
  let c1_i32_5184 : BitVec 32 := 1#32
  let v8221 : BitVec 32 := Scalar.select v8220 c1_i32_5184 c8_i32_5182
  let v8222 : BitVec 32 := Scalar.remsi v8219 v8221
  let c0_i32_5186 : BitVec 32 := 0#32
  let v8224 : BitVec 1 := Scalar.cmpi .slt v8222 c0_i32_5186
  let c0_i32_5187 : BitVec 32 := 0#32
  let v8225 : BitVec 1 := Scalar.cmpi .slt v8221 c0_i32_5187
  let v8226 : BitVec 1 := Scalar.xori v8224 v8225
  let c0_i32_5185 : BitVec 32 := 0#32
  let v8223 : BitVec 1 := Scalar.cmpi .ne v8222 c0_i32_5185
  let v8227 : BitVec 1 := Scalar.andi v8226 v8223
  let v8228 : BitVec 32 := Scalar.addi v8222 v8221
  let v8229 : BitVec 32 := Scalar.select v8227 v8228 v8222
  let c1_i32_5192 : BitVec 32 := 1#32
  let v8232 : BitVec 32 := Scalar.muli v8229 c1_i32_5192
  let v8233 : BitVec 32 := Scalar.addi c0_i32_5193 v8232
  v8233.toNat
def k0_dev32 (d0 : Dev nD) : Nat :=
  let c0_i32_5210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5198 : BitVec 32 := 4#32
  let v8240 : BitVec 32 := Scalar.addi v2 c4_i32_5198
  let c8_i32_5199 : BitVec 32 := 8#32
  let c0_i32_5200 : BitVec 32 := 0#32
  let v8241 : BitVec 1 := Scalar.cmpi .eq c8_i32_5199 c0_i32_5200
  let c1_i32_5201 : BitVec 32 := 1#32
  let v8242 : BitVec 32 := Scalar.select v8241 c1_i32_5201 c8_i32_5199
  let v8243 : BitVec 32 := Scalar.remsi v8240 v8242
  let c0_i32_5203 : BitVec 32 := 0#32
  let v8245 : BitVec 1 := Scalar.cmpi .slt v8243 c0_i32_5203
  let c0_i32_5204 : BitVec 32 := 0#32
  let v8246 : BitVec 1 := Scalar.cmpi .slt v8242 c0_i32_5204
  let v8247 : BitVec 1 := Scalar.xori v8245 v8246
  let c0_i32_5202 : BitVec 32 := 0#32
  let v8244 : BitVec 1 := Scalar.cmpi .ne v8243 c0_i32_5202
  let v8248 : BitVec 1 := Scalar.andi v8247 v8244
  let v8249 : BitVec 32 := Scalar.addi v8243 v8242
  let v8250 : BitVec 32 := Scalar.select v8248 v8249 v8243
  let c1_i32_5209 : BitVec 32 := 1#32
  let v8253 : BitVec 32 := Scalar.muli v8250 c1_i32_5209
  let v8254 : BitVec 32 := Scalar.addi c0_i32_5210 v8253
  v8254.toNat
def k0_dev33 (d0 : Dev nD) : Nat :=
  let c0_i32_5227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_5215 : BitVec 32 := 5#32
  let v8261 : BitVec 32 := Scalar.addi v2 c5_i32_5215
  let c8_i32_5216 : BitVec 32 := 8#32
  let c0_i32_5217 : BitVec 32 := 0#32
  let v8262 : BitVec 1 := Scalar.cmpi .eq c8_i32_5216 c0_i32_5217
  let c1_i32_5218 : BitVec 32 := 1#32
  let v8263 : BitVec 32 := Scalar.select v8262 c1_i32_5218 c8_i32_5216
  let v8264 : BitVec 32 := Scalar.remsi v8261 v8263
  let c0_i32_5220 : BitVec 32 := 0#32
  let v8266 : BitVec 1 := Scalar.cmpi .slt v8264 c0_i32_5220
  let c0_i32_5221 : BitVec 32 := 0#32
  let v8267 : BitVec 1 := Scalar.cmpi .slt v8263 c0_i32_5221
  let v8268 : BitVec 1 := Scalar.xori v8266 v8267
  let c0_i32_5219 : BitVec 32 := 0#32
  let v8265 : BitVec 1 := Scalar.cmpi .ne v8264 c0_i32_5219
  let v8269 : BitVec 1 := Scalar.andi v8268 v8265
  let v8270 : BitVec 32 := Scalar.addi v8264 v8263
  let v8271 : BitVec 32 := Scalar.select v8269 v8270 v8264
  let c1_i32_5226 : BitVec 32 := 1#32
  let v8274 : BitVec 32 := Scalar.muli v8271 c1_i32_5226
  let v8275 : BitVec 32 := Scalar.addi c0_i32_5227 v8274
  v8275.toNat
def k0_dev34 (d0 : Dev nD) : Nat :=
  let c0_i32_5244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_5232 : BitVec 32 := 6#32
  let v8282 : BitVec 32 := Scalar.addi v2 c6_i32_5232
  let c8_i32_5233 : BitVec 32 := 8#32
  let c0_i32_5234 : BitVec 32 := 0#32
  let v8283 : BitVec 1 := Scalar.cmpi .eq c8_i32_5233 c0_i32_5234
  let c1_i32_5235 : BitVec 32 := 1#32
  let v8284 : BitVec 32 := Scalar.select v8283 c1_i32_5235 c8_i32_5233
  let v8285 : BitVec 32 := Scalar.remsi v8282 v8284
  let c0_i32_5237 : BitVec 32 := 0#32
  let v8287 : BitVec 1 := Scalar.cmpi .slt v8285 c0_i32_5237
  let c0_i32_5238 : BitVec 32 := 0#32
  let v8288 : BitVec 1 := Scalar.cmpi .slt v8284 c0_i32_5238
  let v8289 : BitVec 1 := Scalar.xori v8287 v8288
  let c0_i32_5236 : BitVec 32 := 0#32
  let v8286 : BitVec 1 := Scalar.cmpi .ne v8285 c0_i32_5236
  let v8290 : BitVec 1 := Scalar.andi v8289 v8286
  let v8291 : BitVec 32 := Scalar.addi v8285 v8284
  let v8292 : BitVec 32 := Scalar.select v8290 v8291 v8285
  let c1_i32_5243 : BitVec 32 := 1#32
  let v8295 : BitVec 32 := Scalar.muli v8292 c1_i32_5243
  let v8296 : BitVec 32 := Scalar.addi c0_i32_5244 v8295
  v8296.toNat
def k0_dev35 (d0 : Dev nD) : Nat :=
  let c0_i32_5261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_5249 : BitVec 32 := 7#32
  let v8303 : BitVec 32 := Scalar.addi v2 c7_i32_5249
  let c8_i32_5250 : BitVec 32 := 8#32
  let c0_i32_5251 : BitVec 32 := 0#32
  let v8304 : BitVec 1 := Scalar.cmpi .eq c8_i32_5250 c0_i32_5251
  let c1_i32_5252 : BitVec 32 := 1#32
  let v8305 : BitVec 32 := Scalar.select v8304 c1_i32_5252 c8_i32_5250
  let v8306 : BitVec 32 := Scalar.remsi v8303 v8305
  let c0_i32_5254 : BitVec 32 := 0#32
  let v8308 : BitVec 1 := Scalar.cmpi .slt v8306 c0_i32_5254
  let c0_i32_5255 : BitVec 32 := 0#32
  let v8309 : BitVec 1 := Scalar.cmpi .slt v8305 c0_i32_5255
  let v8310 : BitVec 1 := Scalar.xori v8308 v8309
  let c0_i32_5253 : BitVec 32 := 0#32
  let v8307 : BitVec 1 := Scalar.cmpi .ne v8306 c0_i32_5253
  let v8311 : BitVec 1 := Scalar.andi v8310 v8307
  let v8312 : BitVec 32 := Scalar.addi v8306 v8305
  let v8313 : BitVec 32 := Scalar.select v8311 v8312 v8306
  let c1_i32_5260 : BitVec 32 := 1#32
  let v8316 : BitVec 32 := Scalar.muli v8313 c1_i32_5260
  let v8317 : BitVec 32 := Scalar.addi c0_i32_5261 v8316
  v8317.toNat
def k0_off9 (d0 : Dev nD) (c7_i32_5266 : BitVec 32) : Fin 3 → Nat :=
  let c0_i32_5278 : BitVec 32 := 0#32
  let c64_i32_5273 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8324 : BitVec 32 := Scalar.addi v2 c7_i32_5266
  let c8_i32_5267 : BitVec 32 := 8#32
  let c0_i32_5268 : BitVec 32 := 0#32
  let v8325 : BitVec 1 := Scalar.cmpi .eq c8_i32_5267 c0_i32_5268
  let c1_i32_5269 : BitVec 32 := 1#32
  let v8326 : BitVec 32 := Scalar.select v8325 c1_i32_5269 c8_i32_5267
  let v8327 : BitVec 32 := Scalar.remsi v8324 v8326
  let c0_i32_5271 : BitVec 32 := 0#32
  let v8329 : BitVec 1 := Scalar.cmpi .slt v8327 c0_i32_5271
  let c0_i32_5272 : BitVec 32 := 0#32
  let v8330 : BitVec 1 := Scalar.cmpi .slt v8326 c0_i32_5272
  let v8331 : BitVec 1 := Scalar.xori v8329 v8330
  let c0_i32_5270 : BitVec 32 := 0#32
  let v8328 : BitVec 1 := Scalar.cmpi .ne v8327 c0_i32_5270
  let v8332 : BitVec 1 := Scalar.andi v8331 v8328
  let v8333 : BitVec 32 := Scalar.addi v8327 v8326
  let v8334 : BitVec 32 := Scalar.select v8332 v8333 v8327
  let v8335 : BitVec 32 := Scalar.muli c64_i32_5273 v8334
  let c0_i32_5279 : BitVec 32 := 0#32
  ![0, v8335.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S2x512x4096 : Shape := ⟨3, ![2, 512, 4096]⟩
abbrev S2x512x64x64 : Shape := ⟨4, ![2, 512, 64, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x4096, .f32⟩
  | 2 => ⟨S2x4096x64x64, .f32⟩
  | 3 => ⟨S2x4096x64x64, .f32⟩
  | 4 => ⟨S4096x768, .f32⟩
  | 5 => ⟨S2x512x4096, .f32⟩
  | 6 => ⟨S2x512x64x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S512x4096, .i32⟩
  | 48 => ⟨S512x4096, .i32⟩
  | 49 => ⟨S512x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x4096, .i32⟩
  | 95 => ⟨S512x4096, .i32⟩
  | 96 => ⟨S512x4096, .i1⟩
  | 97 => ⟨S512x4096, .i1⟩
  | 98 => ⟨S2x64x512x4096, .f32⟩
  | 99 => ⟨S_, .f32⟩
  | 100 => ⟨S2x64x512x4096, .f32⟩
  | 101 => ⟨S2x64x512x4096, .f32⟩
  | 102 => ⟨S1x1x512x4096, .i1⟩
  | 103 => ⟨S_, .f32⟩
  | 104 => ⟨S_, .f32⟩
  | 105 => ⟨S2x64x512x4096, .i1⟩
  | 106 => ⟨S2x64x512x4096, .f32⟩
  | 107 => ⟨S2x64x512x4096, .f32⟩
  | 108 => ⟨S_, .f32⟩
  | 109 => ⟨S2x64x512, .f32⟩
  | 110 => ⟨S2x64x512x1, .f32⟩
  | 111 => ⟨S2x64x512x4096, .f32⟩
  | 112 => ⟨S2x64x512x4096, .f32⟩
  | 113 => ⟨S2x64x512x4096, .f32⟩
  | 114 => ⟨S_, .i1⟩
  | 115 => ⟨S512, .i1⟩
  | 116 => ⟨S1x1x512x1, .i1⟩
  | 117 => ⟨S_, .f32⟩
  | 118 => ⟨S2x64x512, .f32⟩
  | 119 => ⟨S2x64x512x1, .f32⟩
  | 120 => ⟨S_, .f32⟩
  | 121 => ⟨S_, .f32⟩
  | 122 => ⟨S2x64x512x1, .i1⟩
  | 123 => ⟨S2x64x512x1, .f32⟩
  | 124 => ⟨S2x64x512x1, .f32⟩
  | 125 => ⟨S2x64x512x4096, .f32⟩
  | 126 => ⟨S2x64x512x4096, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x64x512x4096, .i1⟩
  | 3 => ⟨S2x64x512x4096, .f32⟩
  | 4 => ⟨S2x64x512x4096, .f32⟩
  | 5 => ⟨S2x64x64x512, .f32⟩
  | 6 => ⟨S2x512x64x64, .f32⟩
  | 7 => ⟨S2x512x4096, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Body.lean ====
/- The kernel's body written as loops: over the seven other devices, over the eight slots of gathered
   keys and values, over the two batches and the four classes of query blocks. The printed body is
   this one, operation for operation (`body_eq`). -/
module

public import proofs.«01_k».proof.Proof.Gen.KernelIdeal.Skeleton

@[expose] public section

noncomputable section

namespace Cert.KernelIdeal.Att

open Idealize.ShloMosaic Idealize.ShloMosaic.TcCoe Idealize.SL.Sem Facts₀ Facts

variable {F : FTy → Type} [FloatOps F]

/-! ## The values one step computes -/

/-- Row `64 (4 h + c)` of batch `b` among the 1024 rows of both batches lies in the array. -/
theorem slices_q : ∀ (b h : Fin 2) (c : Fin 4),
    S1024x512.Slices ![512 * b.val + 256 * h.val + 64 * c.val, 0] S64x512 := by decide +kernel
theorem slices_h : ∀ h : Fin 8, S128x512.Slices ![0, 64 * h.val] S128x64 := by decide +kernel
theorem slices_s : ∀ h : Fin 8, S128x8.Slices ![0, h.val] S128x1 := by decide +kernel

/-- The device's projected queries, both batches' rows one after the other. -/
def qAll (x : Vec F S2x512x768 .f32) (w : Vec F S768x512 .f32) : FVec F S1024x512 .bf16 :=
  truncf .bf16 (matmul dot_S1024x768_S768x512_S1024x512_1_0_0_1_n_n none
    (shapeCast S1024x768 (shapeCast S2x512x768 x shapeCasts_S2x512x768_S2x512x768 : FVec F S2x512x768 .f32) shapeCasts_S2x512x768_S1024x768 : FVec F S1024x768 .f32)
    (shapeCast S768x512 w shapeCasts_S768x512_S768x512 : FVec F S768x512 .f32)
    (constant S1024x512 .f32 0x00000000#32)) bitsLt_bf16_f32

/-- The two query blocks of class `c` in batch `b`. -/
def qRows (x : Vec F S2x512x768 .f32) (w : Vec F S768x512 .f32) (b : Fin 2) (c : Fin 4) : FVec F S128x512 .bf16 :=
  concatenate S128x512 0
    [⟨S64x512, extractStridedSlice S64x512 ![512 * b.val + 256 * (0 : Fin 2).val + 64 * c.val, 0] (qAll x w) (slices_q b 0 c)⟩,
     ⟨S64x512, extractStridedSlice S64x512 ![512 * b.val + 256 * (1 : Fin 2).val + 64 * c.val, 0] (qAll x w) (slices_q b 1 c)⟩]
    concatenates_S64x512_S64x512_S128x512_d0

/-- Two loaded blocks of 64 rows, one above the other. -/
def two (u v : Vec F S1x1x1x64x512 .bf16) : FVec F S128x512 .bf16 :=
  concatenate S128x512 0
    [⟨S64x512, shapeCast S64x512 u shapeCasts_S1x1x1x64x512_S64x512⟩,
     ⟨S64x512, shapeCast S64x512 v shapeCasts_S1x1x1x64x512_S64x512⟩] concatenates_S64x512_S64x512_S128x512_d0

/-- Head `h`'s exponentiated scores of 128 queries against 128 keys. -/
def wts (q k : FVec F S128x512 .bf16) (h : Fin 8) : FVec F S128x128 .f32 :=
  exp (mulf (matmul dot_S128x64_S128x64_S128x128_1_1_0_0_n_n none
      (extractStridedSlice S128x64 ![0, 64 * h.val] q (slices_h h) : FVec F S128x64 .bf16)
      (extractStridedSlice S128x64 ![0, 64 * h.val] k (slices_h h) : FVec F S128x64 .bf16) (constant S128x128 .f32 0x00000000#32))
    (broadcast S128x128 (Scalar.ofBits .f32 0x3E000000#32)))

/-- Their sum over the keys. -/
def wsum (q k : FVec F S128x512 .bf16) (h : Fin 8) : FVec F S128x1 .f32 :=
  shapeCast S128x1 (multiReduction .add [1] S128 (wts q k h) 0x00000000#32 reduces_S128x128_S128 (.inl rfl) rfl : FVec F S128 .f32)
    shapeCasts_S128_S128x1

/-- Their product with the values. -/
def wctx (q k v : FVec F S128x512 .bf16) (h : Fin 8) : FVec F S128x64 .f32 :=
  matmul dot_S128x128_S128x64_S128x64_1_0_0_1_n_n none (truncf .bf16 (wts q k h) bitsLt_bf16_f32)
    (extractStridedSlice S128x64 ![0, 64 * h.val] v (slices_h h) : FVec F S128x64 .bf16) (constant S128x64 .f32 0x00000000#32)

/-- The eight heads' sums, a column each. -/
def sAll (q k : FVec F S128x512 .bf16) : FVec F S128x8 .f32 :=
  concatenate S128x8 1 [⟨S128x1, wsum q k 0⟩, ⟨S128x1, wsum q k 1⟩, ⟨S128x1, wsum q k 2⟩, ⟨S128x1, wsum q k 3⟩,
    ⟨S128x1, wsum q k 4⟩, ⟨S128x1, wsum q k 5⟩, ⟨S128x1, wsum q k 6⟩, ⟨S128x1, wsum q k 7⟩]
    concatenates_S128x1_S128x1_S128x1_S128x1_S128x1_S128x1_S128x1_S128x1_S128x8_d1

/-- The eight heads' products, 64 columns each. -/
def cAll (q k v : FVec F S128x512 .bf16) : FVec F S128x512 .f32 :=
  concatenate S128x512 1 [⟨S128x64, wctx q k v 0⟩, ⟨S128x64, wctx q k v 1⟩, ⟨S128x64, wctx q k v 2⟩, ⟨S128x64, wctx q k v 3⟩,
    ⟨S128x64, wctx q k v 4⟩, ⟨S128x64, wctx q k v 5⟩, ⟨S128x64, wctx q k v 6⟩, ⟨S128x64, wctx q k v 7⟩]
    concatenates_S128x64_S128x64_S128x64_S128x64_S128x64_S128x64_S128x64_S128x64_S128x512_d1

def sNew (q k : FVec F S128x512 .bf16) : FVec F S1x1x128x8 .f32 := shapeCast S1x1x128x8 (sAll q k) shapeCasts_S128x8_S1x1x128x8
def cNew (q k v : FVec F S128x512 .bf16) : FVec F S1x1x128x512 .f32 :=
  shapeCast S1x1x128x512 (cAll q k v) shapeCasts_S128x512_S1x1x128x512
def sAdd (old : Vec F S1x1x128x8 .f32) (q k : FVec F S128x512 .bf16) : FVec F S1x1x128x8 .f32 :=
  shapeCast S1x1x128x8 (addf (shapeCast S128x8 old shapeCasts_S1x1x128x8_S128x8 : FVec F S128x8 .f32) (sAll q k)) shapeCasts_S128x8_S1x1x128x8
def cAdd (old : Vec F S1x1x128x512 .f32) (q k v : FVec F S128x512 .bf16) : FVec F S1x1x128x512 .f32 :=
  shapeCast S1x1x128x512 (addf (shapeCast S128x512 old shapeCasts_S1x1x128x512_S128x512 : FVec F S128x512 .f32) (cAll q k v))
    shapeCasts_S128x512_S1x1x128x512

/-- One column of sums spread over the head's 64 columns. -/
def spread (s : FVec F S128x8 .f32) (h : Fin 8) : FVec F S128x64 .f32 :=
  broadcastTo S128x64 (shapeCast S128x1 (extractStridedSlice S128x1 ![0, h.val] s (slices_s h) : FVec F S128x1 .f32)
    shapeCasts_S128x1_S128x1 : FVec F S128x1 .f32) broadcasts_S128x1_S128x64

/-- The accumulated products over the accumulated sums. -/
def quot (s : Vec F S1x1x128x8 .f32) (v : Vec F S1x1x128x512 .f32) : FVec F S128x512 .f32 :=
  divf (shapeCast S128x512 v shapeCasts_S1x1x128x512_S128x512 : FVec F S128x512 .f32)
    (concatenate S128x512 1
      [⟨S128x64, spread (shapeCast S128x8 s shapeCasts_S1x1x128x8_S128x8) 0⟩, ⟨S128x64, spread (shapeCast S128x8 s shapeCasts_S1x1x128x8_S128x8) 1⟩,
       ⟨S128x64, spread (shapeCast S128x8 s shapeCasts_S1x1x128x8_S128x8) 2⟩, ⟨S128x64, spread (shapeCast S128x8 s shapeCasts_S1x1x128x8_S128x8) 3⟩,
       ⟨S128x64, spread (shapeCast S128x8 s shapeCasts_S1x1x128x8_S128x8) 4⟩, ⟨S128x64, spread (shapeCast S128x8 s shapeCasts_S1x1x128x8_S128x8) 5⟩,
       ⟨S128x64, spread (shapeCast S128x8 s shapeCasts_S1x1x128x8_S128x8) 6⟩, ⟨S128x64, spread (shapeCast S128x8 s shapeCasts_S1x1x128x8_S128x8) 7⟩]
      concatenates_S128x64_S128x64_S128x64_S128x64_S128x64_S128x64_S128x64_S128x64_S128x512_d1)

/-- A batch's context rows, times the device's rows of the output projection. -/
def proj (d0 d1 d2 d3 : FVec F S128x512 .f32) (wo : Vec F S512x768 .f32) : FVec F S1x512x768 .bf16 :=
  shapeCast S1x512x768
    (truncf .bf16 (matmul dot_S512x512_S512x768_S512x768_1_0_0_1_n_n none
      (concatenate S512x512 0
        [⟨S64x512, extractStridedSlice S64x512 ![0, 0] d0 slices_S128x512_o0_0_S64x512⟩, ⟨S64x512, extractStridedSlice S64x512 ![0, 0] d1 slices_S128x512_o0_0_S64x512⟩,
         ⟨S64x512, extractStridedSlice S64x512 ![0, 0] d2 slices_S128x512_o0_0_S64x512⟩, ⟨S64x512, extractStridedSlice S64x512 ![0, 0] d3 slices_S128x512_o0_0_S64x512⟩,
         ⟨S64x512, extractStridedSlice S64x512 ![64, 0] d0 slices_S128x512_o64_0_S64x512⟩, ⟨S64x512, extractStridedSlice S64x512 ![64, 0] d1 slices_S128x512_o64_0_S64x512⟩,
         ⟨S64x512, extractStridedSlice S64x512 ![64, 0] d2 slices_S128x512_o64_0_S64x512⟩, ⟨S64x512, extractStridedSlice S64x512 ![64, 0] d3 slices_S128x512_o64_0_S64x512⟩]
        concatenates_S64x512_S64x512_S64x512_S64x512_S64x512_S64x512_S64x512_S64x512_S512x512_d0 : FVec F S512x512 .f32)
      (shapeCast S512x768 wo shapeCasts_S512x768_S512x768 : FVec F S512x768 .f32) (constant S512x768 .f32 0x00000000#32)) bitsLt_bf16_f32 : FVec F S512x768 .bf16)
    shapeCasts_S512x768_S1x512x768

/-- The eight devices' partial rows, added up. -/
def rsum (p : Vec F S8x2x64x768 .bf16) : FVec F S2x64x768 .f32 :=
  multiReduction .add [0] S2x64x768 (extf .f32 p bitsLt_bf16_f32 : FVec F S8x2x64x768 .f32) 0x00000000#32 reduces_S8x2x64x768_S2x64x768 (.inl rfl) rfl

/-! ## The views -/

abbrev mX : Memref sig .tc .vmem S2x512x768 .f32 := Memref.whole cc0_stg0_0
abbrev mWq : Memref sig .tc .vmem S768x512 .f32 := Memref.whole cc0_stg1_0
abbrev mKv : Memref sig .tc .vmem S2x2x512x4096 .bf16 := Memref.whole cc0_stg2_0
abbrev mWo : Memref sig .tc .vmem S512x768 .f32 := Memref.whole cc0_stg3_0
abbrev mOut : Memref sig .tc .vmem S2x512x768 .f32 := Memref.whole cc0_stg4_0
abbrev mFull : Memref sig .tc .vmem S8x2x2x512x512 .bf16 := Memref.whole cc0_scratch0
abbrev mPart : Memref sig .tc .vmem S2x512x768 .bf16 := Memref.whole cc0_scratch1
abbrev mRs : Memref sig .tc .vmem S8x2x64x768 .bf16 := Memref.whole cc0_scratch2
abbrev mS : Memref sig .tc .vmem S2x4x128x8 .f32 := Memref.whole cc0_scratch3
abbrev mC : Memref sig .tc .vmem S2x4x128x512 .f32 := Memref.whole cc0_scratch4

theorem inb7 : ∀ o : Fin 7, ∀ a, (![o.val] : Fin 1 → Nat) a + S1.size a ≤ S7.size a := by decide +kernel
theorem inb3 : ∀ o : Fin 3, ∀ a, (![o.val] : Fin 1 → Nat) a + S1.size a ≤ S3.size a := by decide +kernel
theorem inb27 : ∀ (b : Fin 2) (o : Fin 7), ∀ a, (![b.val, o.val] : Fin 2 → Nat) a + S1x1.size a ≤ S2x7.size a := by decide +kernel
theorem inbFull : ∀ o : Fin 8, ∀ a, (![o.val, 0, 0, 0, 0] : Fin 5 → Nat) a + S1x2x2x512x512.size a ≤ S8x2x2x512x512.size a := by decide +kernel
theorem inbRs : ∀ (o : Fin 8) (b : Fin 2), ∀ a, (![o.val, b.val, 0, 0] : Fin 4 → Nat) a + S1x1x64x768.size a ≤ S8x2x64x768.size a := by decide +kernel
theorem inbBlk : ∀ (o : Fin 8) (w b h : Fin 2) (c : Fin 4), ∀ a,
    (![o.val, w.val, b.val, 256 * h.val + 64 * c.val, 0] : Fin 5 → Nat) a + S1x1x1x64x512.size a ≤ S8x2x2x512x512.size a := by decide +kernel
theorem inbS : ∀ (b : Fin 2) (c : Fin 4), ∀ a, (![b.val, c.val, 0, 0] : Fin 4 → Nat) a + S1x1x128x8.size a ≤ S2x4x128x8.size a := by decide +kernel
theorem inbC : ∀ (b : Fin 2) (c : Fin 4), ∀ a, (![b.val, c.val, 0, 0] : Fin 4 → Nat) a + S1x1x128x512.size a ≤ S2x4x128x512.size a := by decide +kernel
theorem inbPart : ∀ b : Fin 2, ∀ a, (![b.val, 0, 0] : Fin 3 → Nat) a + S1x512x768.size a ≤ S2x512x768.size a := by decide +kernel
theorem inbPart64 : ∀ b : Fin 2, ∀ a, (![b.val, 0, 0] : Fin 3 → Nat) a + S1x64x768.size a ≤ S2x512x768.size a := by decide +kernel
theorem wordsFull : ∀ o : Fin 8, (Rect.unit (s := S8x2x2x512x512) ![o.val, 0, 0, 0, 0] S1x2x2x512x512.size (inbFull o)).WholeWords (EltTy.packing .bf16) := by decide +kernel
theorem wordsRs : ∀ (o : Fin 8) (b : Fin 2), (Rect.unit (s := S8x2x64x768) ![o.val, b.val, 0, 0] S1x1x64x768.size (inbRs o b)).WholeWords (EltTy.packing .bf16) := by decide +kernel
theorem wordsPart64 : ∀ b : Fin 2, (Rect.unit (s := S2x512x768) ![b.val, 0, 0] S1x64x768.size (inbPart64 b)).WholeWords (EltTy.packing .bf16) := by decide +kernel
theorem rowsPart : ∀ b : Fin 2, (Rect.unit (s := S2x512x768) ![b.val, 0, 0] S1x512x768.size (inbPart b)).PackedRows (EltTy.packing .bf16) := by decide +kernel

/-- One cell of an array of seven semaphores, of three, of two times seven. -/
abbrev cell7 (a : DmaSems sig S7) (o : Fin 7) : DmaSem sig := ((a.slice (Rect.unit (s := S7) ![o.val] S1.size (inb7 o))).squeeze S_ squeezes_S1_S_).sem
abbrev cell3 (a : DmaSems sig S3) (o : Fin 3) : DmaSem sig := ((a.slice (Rect.unit (s := S3) ![o.val] S1.size (inb3 o))).squeeze S_ squeezes_S1_S_).sem
abbrev cell27 (a : DmaSems sig S2x7) (b : Fin 2) (o : Fin 7) : DmaSem sig :=
  ((a.slice (Rect.unit (s := S2x7) ![b.val, o.val] S1x1.size (inb27 b o))).squeeze S_ squeezes_S1x1_S_).sem

/-- The columns of the local keys and values that the `o`-th next device takes, and the device's own. -/
abbrev vKv (d : Dev nD) (o : Fin 7) : Memref sig .tc .vmem S2x2x512x512 .bf16 :=
  mKv.slice (Rect.unit (s := S2x2x512x4096) (k0_off1 d (BitVec.ofNat 32 (1 + o.val))) S2x2x512x512.size (k0_off1_inb d o)) (fun _ => rfl)
abbrev vKvOwn (d : Dev nD) : Memref sig .tc .vmem S2x2x512x512 .bf16 :=
  mKv.slice (Rect.unit (s := S2x2x512x4096) (k0_off2 d) S2x2x512x512.size (k0_off2_inb d)) (fun _ => rfl)
/-- Slot `o` of the gathered keys and values. -/
abbrev vFull (o : Fin 8) : Memref sig .tc .vmem S2x2x512x512 .bf16 :=
  (mFull.slice (Rect.unit (s := S8x2x2x512x512) ![o.val, 0, 0, 0, 0] S1x2x2x512x512.size (inbFull o)) (fun _ => rfl)).squeeze S2x2x512x512
    squeezes_S1x2x2x512x512_S2x2x512x512
/-- Slot `o`, batch `b` of the gathered partial rows. -/
abbrev vRs (o : Fin 8) (b : Fin 2) : Memref sig .tc .vmem S64x768 .bf16 :=
  (mRs.slice (Rect.unit (s := S8x2x64x768) ![o.val, b.val, 0, 0] S1x1x64x768.size (inbRs o b)) (fun _ => rfl)).squeeze S64x768 squeezes_S1x1x64x768_S64x768

/-- A device's 64 rows of batch `b` of the local partial sums: its own, and those the `o`-th next device takes. -/
abbrev offOwn (d : Dev nD) : Fin 2 → Fin 3 → ℕ | 0 => k0_off3 d | 1 => k0_off5 d
abbrev offTo (d : Dev nD) (o : Fin 7) : Fin 2 → Fin 3 → ℕ
  | 0 => k0_off4 d (BitVec.ofNat 32 (1 + o.val)) | 1 => k0_off6 d (BitVec.ofNat 32 (1 + o.val))
theorem inbOwn (d : Dev nD) : ∀ b a, offOwn d b a + S1x64x768.size a ≤ S2x512x768.size a
  | 0 => k0_off3_inb d | 1 => k0_off5_inb d
theorem inbTo (d : Dev nD) (o : Fin 7) : ∀ b a, offTo d o b a + S1x64x768.size a ≤ S2x512x768.size a
  | 0 => k0_off4_inb d o | 1 => k0_off6_inb d o
theorem wordsOwn (d : Dev nD) : ∀ b, (Rect.unit (s := S2x512x768) (offOwn d b) S1x64x768.size (inbOwn d b)).WholeWords (EltTy.packing .bf16)
  | 0 => k0_off3_wordsbf16 d | 1 => k0_off5_wordsbf16 d
theorem wordsTo (d : Dev nD) (o : Fin 7) : ∀ b, (Rect.unit (s := S2x512x768) (offTo d o b) S1x64x768.size (inbTo d o b)).WholeWords (EltTy.packing .bf16)
  | 0 => k0_off4_wordsbf16 d o | 1 => k0_off6_wordsbf16 d o
abbrev vOwn (d : Dev nD) (b : Fin 2) : Memref sig .tc .vmem S64x768 .bf16 :=
  (mPart.slice (Rect.unit (s := S2x512x768) (offOwn d b) S1x64x768.size (inbOwn d b)) (fun _ => rfl)).squeeze S64x768 squeezes_S1x64x768_S64x768
abbrev vTo (d : Dev nD) (o : Fin 7) (b : Fin 2) : Memref sig .tc .vmem S64x768 .bf16 :=
  (mPart.slice (Rect.unit (s := S2x512x768) (offTo d o b) S1x64x768.size (inbTo d o b)) (fun _ => rfl)).squeeze S64x768 squeezes_S1x64x768_S64x768
abbrev vTop (b : Fin 2) : Memref sig .tc .vmem S64x768 .bf16 :=
  (mPart.slice (Rect.unit (s := S2x512x768) ![b.val, 0, 0] S1x64x768.size (inbPart64 b)) (fun _ => rfl)).squeeze S64x768 squeezes_S1x64x768_S64x768
/-- A device's rows of the result: its own, and those the `o`-th copy received brings. -/
abbrev vOut (d : Dev nD) : Memref sig .tc .vmem S2x64x768 .f32 :=
  mOut.slice (Rect.unit (s := S2x512x768) (k0_off8 d) S2x64x768.size (k0_off8_inb d)) (fun _ => rfl)
abbrev vFrom (d : Dev nD) (o : Fin 7) : Memref sig .tc .vmem S2x64x768 .f32 :=
  mOut.slice (Rect.unit (s := S2x512x768) (k0_off9 d (BitVec.ofNat 32 (1 + o.rev.val))) S2x64x768.size (k0_off9_inb d o.rev)) (fun _ => rfl)
abbrev vOut0 : Memref sig .tc .vmem S2x64x768 .f32 :=
  mOut.slice (Rect.unit (s := S2x512x768) ![0, 0, 0] S2x64x768.size inb_S2x512x768_S2x64x768_0_0_0) (fun _ => rfl)

/-- The devices the kernel addresses, as it computes them. -/
def devBar (d : Dev nD) : Fin 7 → Dev nD
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩
def devKv (d : Dev nD) : Fin 7 → Dev nD
  | 0 => ⟨k0_dev8 d, k0_dev8_lt d⟩ | 1 => ⟨k0_dev9 d, k0_dev9_lt d⟩ | 2 => ⟨k0_dev10 d, k0_dev10_lt d⟩ | 3 => ⟨k0_dev11 d, k0_dev11_lt d⟩
  | 4 => ⟨k0_dev12 d, k0_dev12_lt d⟩ | 5 => ⟨k0_dev13 d, k0_dev13_lt d⟩ | 6 => ⟨k0_dev14 d, k0_dev14_lt d⟩
def devRs (d : Dev nD) : Fin 2 → Fin 7 → Dev nD
  | 0, 0 => ⟨k0_dev15 d, k0_dev15_lt d⟩ | 0, 1 => ⟨k0_dev16 d, k0_dev16_lt d⟩ | 0, 2 => ⟨k0_dev17 d, k0_dev17_lt d⟩ | 0, 3 => ⟨k0_dev18 d, k0_dev18_lt d⟩
  | 0, 4 => ⟨k0_dev19 d, k0_dev19_lt d⟩ | 0, 5 => ⟨k0_dev20 d, k0_dev20_lt d⟩ | 0, 6 => ⟨k0_dev21 d, k0_dev21_lt d⟩
  | 1, 0 => ⟨k0_dev22 d, k0_dev22_lt d⟩ | 1, 1 => ⟨k0_dev23 d, k0_dev23_lt d⟩ | 1, 2 => ⟨k0_dev24 d, k0_dev24_lt d⟩ | 1, 3 => ⟨k0_dev25 d, k0_dev25_lt d⟩
  | 1, 4 => ⟨k0_dev26 d, k0_dev26_lt d⟩ | 1, 5 => ⟨k0_dev27 d, k0_dev27_lt d⟩ | 1, 6 => ⟨k0_dev28 d, k0_dev28_lt d⟩
def devAg (d : Dev nD) : Fin 7 → Dev nD
  | 0 => ⟨k0_dev29 d, k0_dev29_lt d⟩ | 1 => ⟨k0_dev30 d, k0_dev30_lt d⟩ | 2 => ⟨k0_dev31 d, k0_dev31_lt d⟩ | 3 => ⟨k0_dev32 d, k0_dev32_lt d⟩
  | 4 => ⟨k0_dev33 d, k0_dev33_lt d⟩ | 5 => ⟨k0_dev34 d, k0_dev34_lt d⟩ | 6 => ⟨k0_dev35 d, k0_dev35_lt d⟩

/-! ## The program -/

/-- The programs of this kernel's body. -/
abbrev P (F : FTy → Type) (α : Type) := Prog (TpuEff nD τ sig (Elt F) Λ₀ .tc) α

def seq7 (f : Fin 7 → P F PUnit) : P F PUnit := do f 0; f 1; f 2; f 3; f 4; f 5; f 6
def seq4 (f : Fin 4 → P F PUnit) : P F PUnit := do f 0; f 1; f 2; f 3
def seq2 (f : Fin 2 → P F PUnit) : P F PUnit := do f 0; f 1

/-- Loads the 64 rows of half `h` of class `c`'s keys (`w = 0`) or values (`w = 1`) in slot `s`. -/
abbrev ldBlk (s : Fin 8) (w b h : Fin 2) (c : Fin 4) : P F (Vec F S1x1x1x64x512 .bf16) :=
  Prog.lift (.load mFull (Rect.unit (s := S8x2x2x512x512) ![s.val, w.val, b.val, 256 * h.val + 64 * c.val, 0] S1x1x1x64x512.size
    (inbBlk s w b h c)).toLoadRect (View.loadsAt_vmem h_S1x1x1x64x512))
abbrev ldS (b : Fin 2) (c : Fin 4) : P F (Vec F S1x1x128x8 .f32) :=
  Prog.lift (.load mS (Rect.unit (s := S2x4x128x8) ![b.val, c.val, 0, 0] S1x1x128x8.size (inbS b c)).toLoadRect (View.loadsAt_vmem h_S1x1x128x8))
abbrev ldC (b : Fin 2) (c : Fin 4) : P F (Vec F S1x1x128x512 .f32) :=
  Prog.lift (.load mC (Rect.unit (s := S2x4x128x512) ![b.val, c.val, 0, 0] S1x1x128x512.size (inbC b c)).toLoadRect (View.loadsAt_vmem h_S1x1x128x512))
abbrev stS (b : Fin 2) (c : Fin 4) (v : FVec F S1x1x128x8 .f32) : P F PUnit :=
  Prog.lift (.store mS (Rect.unit (s := S2x4x128x8) ![b.val, c.val, 0, 0] S1x1x128x8.size (inbS b c)) v Finset.univ
    (View.stores_vmem_bits_univ h_S1x1x128x8 rfl) (.inl rfl))
abbrev stC (b : Fin 2) (c : Fin 4) (v : FVec F S1x1x128x512 .f32) : P F PUnit :=
  Prog.lift (.store mC (Rect.unit (s := S2x4x128x512) ![b.val, c.val, 0, 0] S1x1x128x512.size (inbC b c)) v Finset.univ
    (View.stores_vmem_bits_univ h_S1x1x128x512 rfl) (.inl rfl))

/-- Class `c` of batch `b` against the device's own slot: the accumulators are set. -/
def first (q : Fin 2 → Fin 4 → FVec F S128x512 .bf16) (b : Fin 2) (c : Fin 4) : P F PUnit := do
  let k0 ← ldBlk 0 0 b 0 c
  let v0 ← ldBlk 0 1 b 0 c
  let k1 ← ldBlk 0 0 b 1 c
  let v1 ← ldBlk 0 1 b 1 c
  let _ ← ldS b c
  stS b c (sNew (q b c) (two k0 k1))
  let _ ← ldC b c
  stC b c (cNew (q b c) (two k0 k1) (two v0 v1))

/-- Class `c` of batch `b` against slot `s`: the accumulators grow. -/
def more (q : Fin 2 → Fin 4 → FVec F S128x512 .bf16) (s : Fin 8) (b : Fin 2) (c : Fin 4) : P F PUnit := do
  let k0 ← ldBlk s 0 b 0 c
  let v0 ← ldBlk s 1 b 0 c
  let k1 ← ldBlk s 0 b 1 c
  let v1 ← ldBlk s 1 b 1 c
  let s0 ← ldS b c
  let _ ← ldS b c
  stS b c (sAdd s0 (q b c) (two k0 k1))
  let c0 ← ldC b c
  let _ ← ldC b c
  stC b c (cAdd c0 (q b c) (two k0 k1) (two v0 v1))

/-- The meeting at the start: one signal to each other device, then seven units awaited. -/
abbrev bar : Sem sig := (SemArray.scalar (sig.barrier 0 rfl) : Sems sig S_).sem

abbrev sendKv (d : Dev nD) (o : Fin 7) : P F PUnit :=
  Prog.lift (.enqueueDma (vKv d o) (.remote (Dev.tc (devKv d o)) (vFull o.succ) (.dma (cell7 cc0_scratch5 o))) (.dma (cell7 cc0_scratch6 o))
    ((Memref.isWhole_whole _).wordExact_slice rfl _ (k0_off1_wordsbf16 d o))
    (((Memref.isWhole_whole _).wordExact_slice rfl _ (wordsFull o.succ)).reshape _ _) ⟨⟨rfl, Or.inl rfl⟩, trivial⟩)
abbrev waitKv (d : Dev nD) (o : Fin 7) : P F PUnit :=
  Prog.lift (.waitDma2 (cell7 cc0_scratch6 o) (vKv d o) (vFull o.succ)
    ((Memref.isWhole_whole _).wordExact_slice rfl _ (k0_off1_wordsbf16 d o))
    (((Memref.isWhole_whole _).wordExact_slice rfl _ (wordsFull o.succ)).reshape _ _))
abbrev sentKv (d : Dev nD) (o : Fin 7) : P F PUnit :=
  Prog.lift (.waitDma2 (cell7 cc0_scratch5 o) (vFull o.succ) (vKv d o)
    (((Memref.isWhole_whole _).wordExact_slice rfl _ (wordsFull o.succ)).reshape _ _)
    ((Memref.isWhole_whole _).wordExact_slice rfl _ (k0_off1_wordsbf16 d o)))
abbrev sendOwn (d : Dev nD) : P F PUnit :=
  Prog.lift (.enqueueDma (vKvOwn d) (.here (vFull 0)) (.dma (cell3 cc0_scratch11 0))
    ((Memref.isWhole_whole _).wordExact_slice rfl _ (k0_off2_wordsbf16 d))
    (((Memref.isWhole_whole _).wordExact_slice rfl _ (wordsFull 0)).reshape _ _) ⟨Or.inl rfl, trivial⟩)
abbrev waitOwn (d : Dev nD) : P F PUnit :=
  Prog.lift (.waitDma2 (cell3 cc0_scratch11 0) (vKvOwn d) (vFull 0)
    ((Memref.isWhole_whole _).wordExact_slice rfl _ (k0_off2_wordsbf16 d))
    (((Memref.isWhole_whole _).wordExact_slice rfl _ (wordsFull 0)).reshape _ _))
abbrev sendRs (d : Dev nD) (b : Fin 2) (o : Fin 7) : P F PUnit :=
  Prog.lift (.enqueueDma (vTo d o b) (.remote (Dev.tc (devRs d b o)) (vRs o.succ b) (.dma (cell27 cc0_scratch7 b o))) (.dma (cell27 cc0_scratch8 b o))
    (((Memref.isWhole_whole _).wordExact_slice rfl _ (wordsTo d o b)).reshape _ _)
    (((Memref.isWhole_whole _).wordExact_slice rfl _ (wordsRs o.succ b)).reshape _ _) ⟨⟨rfl, Or.inl rfl⟩, trivial⟩)
abbrev waitRs (d : Dev nD) (b : Fin 2) (o : Fin 7) : P F PUnit :=
  Prog.lift (.waitDma2 (cell27 cc0_scratch8 b o) (vTo d o b) (vRs o.succ b)
    (((Memref.isWhole_whole _).wordExact_slice rfl _ (wordsTo d o b)).reshape _ _)
    (((Memref.isWhole_whole _).wordExact_slice rfl _ (wordsRs o.succ b)).reshape _ _))
abbrev sentRs (d : Dev nD) (b : Fin 2) (o : Fin 7) : P F PUnit :=
  Prog.lift (.waitDma2 (cell27 cc0_scratch7 b o) (vRs o.succ b) (vTo d o b)
    (((Memref.isWhole_whole _).wordExact_slice rfl _ (wordsRs o.succ b)).reshape _ _)
    (((Memref.isWhole_whole _).wordExact_slice rfl _ (wordsTo d o b)).reshape _ _))
abbrev keepRs (d : Dev nD) (b : Fin 2) : P F PUnit :=
  Prog.lift (.enqueueDma (vOwn d b) (.here (vRs 0 b)) (.dma (cell3 cc0_scratch11 b.succ))
    (((Memref.isWhole_whole _).wordExact_slice rfl _ (wordsOwn d b)).reshape _ _)
    (((Memref.isWhole_whole _).wordExact_slice rfl _ (wordsRs 0 b)).reshape _ _) ⟨Or.inl rfl, trivial⟩)
abbrev keptRs (b : Fin 2) : P F PUnit :=
  Prog.lift (.waitDma2 (cell3 cc0_scratch11 b.succ) (vTop b) (vRs 0 b)
    (((Memref.isWhole_whole _).wordExact_slice rfl _ (wordsPart64 b)).reshape _ _)
    (((Memref.isWhole_whole _).wordExact_slice rfl _ (wordsRs 0 b)).reshape _ _))
abbrev sendOut (d : Dev nD) (o : Fin 7) : P F PUnit :=
  Prog.lift (.enqueueDma (vOut d) (.remote (Dev.tc (devAg d o)) (vOut d) (.dma (cell7 cc0_scratch9 o))) (.dma (cell7 cc0_scratch10 o))
    (View.wordExact_bits rfl) (View.wordExact_bits rfl) ⟨⟨rfl, Or.inl rfl⟩, trivial⟩)
abbrev waitOut (d : Dev nD) (o : Fin 7) : P F PUnit :=
  Prog.lift (.waitDma2 (cell7 cc0_scratch10 o) vOut0 (vFrom d o) (View.wordExact_bits rfl) (View.wordExact_bits rfl))
abbrev sentOut (d : Dev nD) (o : Fin 7) : P F PUnit :=
  Prog.lift (.waitDma2 (cell7 cc0_scratch9 o) (vOut d) (vOut d) (View.wordExact_bits rfl) (View.wordExact_bits rfl))

/-- One batch's context, its projection stored and its blocks of rows sent out. -/
def finish (d : Dev nD) (b : Fin 2) : P F PUnit := do
  let s0 ← ldS b 0
  let c0 ← ldC b 0
  let s1 ← ldS b 1
  let c1 ← ldC b 1
  let s2 ← ldS b 2
  let c2 ← ldC b 2
  let s3 ← ldS b 3
  let c3 ← ldC b 3
  let wo ← Prog.lift (.load mWo (Rect.unit (s := S512x768) ![0, 0] S512x768.size inb_S512x768_S512x768_0_0).toLoadRect (View.loadsAt_vmem h_S512x768))
  let _ ← (Prog.lift (.load mPart (Rect.unit (s := S2x512x768) ![b.val, 0, 0] S1x512x768.size (inbPart b)).toLoadRect
    (View.loadsAt_vmem h_S1x512x768)) : P F (Vec F S1x512x768 .bf16))
  Prog.lift (.store mPart (Rect.unit (s := S2x512x768) ![b.val, 0, 0] S1x512x768.size (inbPart b))
    (proj (quot s0 c0) (quot s1 c1) (quot s2 c2) (quot s3 c3) wo) Finset.univ
    (View.stores_vmem h_S1x512x768 ((Memref.isWhole_whole _).storeExact_slice rfl _ (rowsPart b)) (fun _ => rfl)) (.inl rfl))
  keepRs d b
  seq7 (sendRs d b)

/-- The rows this device adds up, stored and sent to every other device. -/
def reduce (d : Dev nD) : P F PUnit := do
  let p ← Prog.lift (.load mRs (Rect.unit (s := S8x2x64x768) ![0, 0, 0, 0] S8x2x64x768.size inb_S8x2x64x768_S8x2x64x768_0_0_0_0).toLoadRect
    (View.loadsAt_vmem h_S8x2x64x768))
  let _ ← (Prog.lift (.load mOut (Rect.unit (s := S2x512x768) (k0_off7 d) S2x64x768.size (k0_off7_inb d)).toLoadRect
    (View.loadsAt_vmem h_S2x64x768)) : P F (Vec F S2x64x768 .f32))
  Prog.lift (.store mOut (Rect.unit (s := S2x512x768) (k0_off7 d) S2x64x768.size (k0_off7_inb d)) (rsum p) Finset.univ
    (View.stores_vmem_bits_univ h_S2x64x768 rfl) (.inl rfl))

/-- What the device does between its own copy in and the waits at the end. -/
def work (d : Dev nD) (x : Vec F S2x512x768 .f32) (w : Vec F S768x512 .f32) : P F PUnit := do
  waitOwn d
  seq2 fun b => seq4 fun c => first (qRows x w) b c
  seq7 fun o => do
    waitKv d o
    seq2 fun b => seq4 fun c => more (qRows x w) o.succ b c
  seq2 (finish d)
  seq2 keptRs
  seq2 fun b => seq7 (waitRs d b)
  reduce d
  seq7 (sendOut d)
  seq7 (waitOut d)
  seq7 (sentKv d)
  seq2 fun b => seq7 (sentRs d b)
  seq7 (sentOut d)

def body : P F PUnit := do
  let d ← Prog.lift .deviceId
  seq7 fun o => semSignalWord (devBar d o) bar 1#32
  semWaitWord bar 7#32
  seq7 (sendKv d)
  sendOwn d
  let x ← Prog.lift (.load mX (Rect.unit (s := S2x512x768) ![0, 0, 0] S2x512x768.size inb_S2x512x768_S2x512x768_0_0_0).toLoadRect (View.loadsAt_vmem h_S2x512x768))
  let w ← Prog.lift (.load mWq (Rect.unit (s := S768x512) ![0, 0] S768x512.size inb_S768x512_S768x512_0_0).toLoadRect (View.loadsAt_vmem h_S768x512))
  work d x w

end Cert.KernelIdeal.Att
end
-- ==== Proof.Contents.lean ====
/- What every buffer of the kernel holds, as functions of the devices' inputs: the gathered keys and
   values, the accumulators after each slot, the partial sums, the gathered partial rows, the result;
   and that the views the copies name read them as the copies carry them. -/
module

public import proofs.«01_k».proof.Proof.Body
public import proofs.«01_k».proof.Proof.Gen.KernelIdeal
public import Idealize.ShloMosaic.Lib.ValueLayout
public import Idealize.ShloMosaic.Lib.Ring

@[expose] public section

noncomputable section

namespace Cert.KernelIdeal.Att

open Idealize.ShloMosaic Idealize.ShloMosaic.TcCoe Idealize.ShloMosaic.ValueIdx Idealize.SL.Sem Facts₀ Facts

variable {F : FTy → Type} [FloatOps F]

/-! ## The devices around the ring -/

/-- The `o`-th device after `c`. -/
def nx (c : Dev nD) (o : Fin 7) : Dev nD := ⟨(c.val + o.val + 1) % 8, Nat.mod_lt _ (by decide)⟩
/-- The device whose keys and values land in slot `s` of device `c`. -/
def src (c : Dev nD) (s : Fin 8) : Dev nD := ⟨(c.val + 8 - s.val) % 8, Nat.mod_lt _ (by decide)⟩

theorem nx_rev : ∀ (c : Dev nD) (o : Fin 7), nx (nx c o) o.rev = c := by decide +kernel
theorem nx_rev' : ∀ (c : Dev nD) (o : Fin 7), nx (nx c o.rev) o = c := by decide +kernel
theorem src_nx : ∀ (c : Dev nD) (o : Fin 7), src (nx c o) o.succ = c := by decide +kernel
theorem src_zero : ∀ c : Dev nD, src c 0 = c := by decide +kernel
theorem src_succ : ∀ (c : Dev nD) (o : Fin 7), src c o.succ = nx c o.rev := by decide +kernel
theorem nx_ne : ∀ (c : Dev nD) (o : Fin 7), nx c o ≠ c := by decide +kernel
theorem nx_inj : ∀ (c : Dev nD) (o o' : Fin 7), nx c o = nx c o' → o = o' := by decide +kernel

theorem devBar_eq : ∀ (c : Dev nD) (o : Fin 7), devBar c o = nx c o := by decide +kernel
theorem devKv_eq : ∀ (c : Dev nD) (o : Fin 7), devKv c o = nx c o := by decide +kernel
theorem devRs_eq : ∀ (c : Dev nD) (b : Fin 2) (o : Fin 7), devRs c b o = nx c o := by decide +kernel
theorem devAg_eq : ∀ (c : Dev nD) (o : Fin 7), devAg c o = nx c o := by decide +kernel

/-! ## The offsets, in closed form -/

theorem offKv : ∀ (c : Dev nD) (o : Fin 7), k0_off1 c (BitVec.ofNat 32 (1 + o.val)) = ![0, 0, 0, 512 * (nx c o).val] := by decide +kernel
theorem offKvOwn : ∀ c : Dev nD, k0_off2 c = ![0, 0, 0, 512 * c.val] := by decide +kernel
theorem offOwn_eq : ∀ (c : Dev nD) (b : Fin 2), offOwn c b = ![b.val, 64 * c.val, 0] := by decide +kernel
theorem offTo_eq : ∀ (c : Dev nD) (o : Fin 7) (b : Fin 2), offTo c o b = ![b.val, 64 * (nx c o).val, 0] := by decide +kernel
theorem offOut : ∀ c : Dev nD, k0_off8 c = ![0, 64 * c.val, 0] := by decide +kernel
theorem offRed : ∀ c : Dev nD, k0_off7 c = ![0, 64 * c.val, 0] := by decide +kernel

/-! ## The contents -/

/-- What each device holds when the kernel starts: the activations, its columns of the query
    projection, its keys and values, its rows of the output projection. -/
structure Ins (F : FTy → Type) [FloatOps F] where
  x : Dev nD → Vec F S2x512x768 .f32
  wq : Dev nD → Vec F S768x512 .f32
  kv : Dev nD → Vec F S2x2x512x4096 .bf16
  wo : Dev nD → Vec F S512x768 .f32

variable (I : Ins F)

def colIdx (c : Dev nD) (a : Fin 2) (b : Fin 2) (r : Fin 512) (j : Fin 512) : S2x2x512x4096.Idx :=
  ix4 a b r ⟨512 * c.val + j.val, by have := c.isLt; have := j.isLt; have : nD = 8 := rfl; omega⟩

/-- The gathered keys and values of device `c`: slot `s` holds the columns of `c`'s heads of device `src c s`. -/
def full (c : Dev nD) : Vec F S8x2x2x512x512 .bf16 := fun i => I.kv (src c (i 0)) (colIdx c (i 1) (i 2) (i 3) (i 4))

/-- The loaded inputs. -/
def xv (c : Dev nD) : Vec F S2x512x768 .f32 :=
  (mX.access (Rect.unit (s := S2x512x768) ![0, 0, 0] S2x512x768.size inb_S2x512x768_S2x512x768_0_0_0)).read (Elt F) (I.x c)
def wv (c : Dev nD) : Vec F S768x512 .f32 :=
  (mWq.access (Rect.unit (s := S768x512) ![0, 0] S768x512.size inb_S768x512_S768x512_0_0)).read (Elt F) (I.wq c)
def wov (c : Dev nD) : Vec F S512x768 .f32 :=
  (mWo.access (Rect.unit (s := S512x768) ![0, 0] S512x768.size inb_S512x768_S512x768_0_0)).read (Elt F) (I.wo c)
abbrev qv (c : Dev nD) (b : Fin 2) (k : Fin 4) : FVec F S128x512 .bf16 := qRows (xv I c) (wv I c) b k

/-- The 64 rows of keys (`w = 0`) or values (`w = 1`) of half `h` of class `k`, in slot `s`. -/
def blkv (c : Dev nD) (s : Fin 8) (w b h : Fin 2) (k : Fin 4) : Vec F S1x1x1x64x512 .bf16 :=
  (mFull.access (Rect.unit (s := S8x2x2x512x512) ![s.val, w.val, b.val, 256 * h.val + 64 * k.val, 0] S1x1x1x64x512.size
    (inbBlk s w b h k))).read (Elt F) (full I c)
abbrev keys (c : Dev nD) (s : Fin 8) (b : Fin 2) (k : Fin 4) : FVec F S128x512 .bf16 := two (blkv I c s 0 b 0 k) (blkv I c s 0 b 1 k)
abbrev vals (c : Dev nD) (s : Fin 8) (b : Fin 2) (k : Fin 4) : FVec F S128x512 .bf16 := two (blkv I c s 1 b 0 k) (blkv I c s 1 b 1 k)

/-- Slot `n` as a slot number, `n` below eight. -/
abbrev slotOf (n : ℕ) : Fin 8 := ⟨n % 8, Nat.mod_lt _ (by decide)⟩

/-- The accumulators of class `k`, batch `b` after slots `0, …, n`. -/
def sVal (c : Dev nD) (b : Fin 2) (k : Fin 4) : ℕ → FVec F S1x1x128x8 .f32
  | 0 => sNew (qv I c b k) (keys I c 0 b k)
  | n + 1 => sAdd (sVal c b k n) (qv I c b k) (keys I c (slotOf (n + 1)) b k)
def cVal (c : Dev nD) (b : Fin 2) (k : Fin 4) : ℕ → FVec F S1x1x128x512 .f32
  | 0 => cNew (qv I c b k) (keys I c 0 b k) (vals I c 0 b k)
  | n + 1 => cAdd (cVal c b k n) (qv I c b k) (keys I c (slotOf (n + 1)) b k) (vals I c (slotOf (n + 1)) b k)

/-- Batch `b` of the partial sums. -/
def partB (c : Dev nD) (b : Fin 2) : FVec F S1x512x768 .bf16 :=
  proj (quot (sVal I c b 0 7) (cVal I c b 0 7)) (quot (sVal I c b 1 7) (cVal I c b 1 7))
    (quot (sVal I c b 2 7) (cVal I c b 2 7)) (quot (sVal I c b 3 7) (cVal I c b 3 7)) (wov I c)
def part (c : Dev nD) : Vec F S2x512x768 .bf16 := fun i => partB I c (i 0) (ix3 (0 : Fin 1) (i 1) (i 2))

def rowIdx (c : Dev nD) (b : Fin 2) (r : Fin 64) (j : Fin 768) : S2x512x768.Idx :=
  ix3 b ⟨64 * c.val + r.val, by have := c.isLt; have := r.isLt; have : nD = 8 := rfl; omega⟩ j

/-- The gathered partial rows of device `c`. -/
def rs (c : Dev nD) : Vec F S8x2x64x768 .bf16 := fun i => part I (src c (i 0)) (rowIdx c (i 1) (i 2) (i 3))
def rsv (c : Dev nD) : Vec F S8x2x64x768 .bf16 :=
  (mRs.access (Rect.unit (s := S8x2x64x768) ![0, 0, 0, 0] S8x2x64x768.size inb_S8x2x64x768_S8x2x64x768_0_0_0_0)).read (Elt F) (rs I c)

/-- The device that adds up row `r`. -/
def rowDev (r : Fin 512) : Dev nD := ⟨r.val / 64, by have := r.isLt; have : nD = 8 := rfl; omega⟩
/-- The result, the same on every device. -/
def out : Vec F S2x512x768 .f32 := fun i =>
  rsum (rsv I (rowDev (i 1))) (ix3 (i 0) (⟨(i 1).val % 64, Nat.mod_lt _ (by decide)⟩ : Fin 64) (i 2))

/-! ## What the copies carry -/

/-- An entry of a unit rectangle of a buffer, by its coordinates. -/
theorem unit_emb {s : Shape} (off size : Fin s.rank → ℕ) (inb : ∀ a, off a + size a ≤ s.size a)
    (j : (Rect.unit off size inb).shape.Idx) (i : s.Idx) (h : ∀ a, (i a).val = off a + (j a).val) : (Rect.unit off size inb).emb j = i := by
  funext a
  apply Fin.ext
  rw [h a]
  show off a + 1 * (j a).val = _
  rw [Nat.one_mul]

/-- Slot `s`, read as four axes. -/
theorem read_slot (s : Fin 8) (f : Vec F S8x2x2x512x512 .bf16) (j : S2x2x512x512.Idx) :
    (vFull s).view.read (Elt F) f j = f (ix5 s (j 0) (j 1) (j 2) (j 3)) := by
  show f ((Rect.unit (s := S8x2x2x512x512) ![s.val, 0, 0, 0, 0] S1x2x2x512x512.size (inbFull s)).emb (Shape.reshapeEquiv _ j)) = _
  rw [Shape.reshapeEquiv_cons_one]
  congr 1
  refine unit_emb _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- Slot `s`, batch `b` of the gathered partial rows, read as two axes. -/
theorem read_rs (s : Fin 8) (b : Fin 2) (f : Vec F S8x2x64x768 .bf16) (j : S64x768.Idx) :
    (vRs s b).view.read (Elt F) f j = f (ix4 s b (j 0) (j 1)) := by
  show f ((Rect.unit (s := S8x2x64x768) ![s.val, b.val, 0, 0] S1x1x64x768.size (inbRs s b)).emb (Shape.reshapeEquiv _ j)) = _
  have e : ∀ (h : (⟨2, ![64, 768]⟩ : Shape).numel = (⟨4, ![1, 1, 64, 768]⟩ : Shape).numel), Shape.reshapeEquiv h j
      = ix4 (⟨0, Nat.one_pos⟩ : Fin 1) (⟨0, Nat.one_pos⟩ : Fin 1) (j 0 : Fin 64) (j 1 : Fin 768) := fun h =>
    (congrArg (Shape.reshapeEquiv h) (eq_ix2 (n0 := 64) (n1 := 768) j)).trans (Idealize.ShloMosaic.ValueIdx.reshapeEquiv_ix2_11ab (a := 64) (b := 768) h (j 0) (j 1))
  rw [e]
  congr 1
  refine unit_emb _ _ _ _ _ fun a => ?_
  match a with
  | ⟨0, _⟩ => rfl
  | ⟨1, _⟩ => rfl
  | ⟨2, _⟩ => exact (Nat.zero_add _).symm
  | ⟨3, _⟩ => exact (Nat.zero_add _).symm

/-- Columns of the local keys and values, at an offset. -/
theorem read_cols (d : Dev nD) (off : Fin 4 → ℕ) (inb : ∀ a, off a + S2x2x512x512.size a ≤ S2x2x512x4096.size a)
    (h : off = ![0, 0, 0, 512 * d.val]) (f : Vec F S2x2x512x4096 .bf16) (j : S2x2x512x512.Idx) :
    (mKv.slice (Rect.unit (s := S2x2x512x4096) off S2x2x512x512.size inb) (fun _ => rfl)).view.read (Elt F) f j
      = f (colIdx d (j 0) (j 1) (j 2) (j 3)) := by
  subst h
  show f ((Rect.unit (s := S2x2x512x4096) ![0, 0, 0, 512 * d.val] S2x2x512x512.size inb).emb j) = _
  congr 1
  refine unit_emb _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => rfl

/-- Rows of the local partial sums, at an offset. -/
theorem read_rows (d : Dev nD) (b : Fin 2) (off : Fin 3 → ℕ) (inb : ∀ a, off a + S1x64x768.size a ≤ S2x512x768.size a)
    (h : off = ![b.val, 64 * d.val, 0]) (f : Vec F S2x512x768 .bf16) (j : S64x768.Idx) :
    ((mPart.slice (Rect.unit (s := S2x512x768) off S1x64x768.size inb) (fun _ => rfl)).squeeze S64x768
      squeezes_S1x64x768_S64x768).view.read (Elt F) f j = f (rowIdx d b (j 0) (j 1)) := by
  subst h
  show f ((Rect.unit (s := S2x512x768) ![b.val, 64 * d.val, 0] S1x64x768.size inb).emb (Shape.reshapeEquiv _ j)) = _
  rw [Shape.reshapeEquiv_cons_one]
  congr 1
  refine unit_emb _ _ _ _ _ fun a => ?_
  match a with
  | ⟨0, _⟩ => rfl
  | ⟨1, _⟩ => rfl
  | ⟨2, _⟩ => exact (Nat.zero_add _).symm

theorem full_own (c : Dev nD) : (vFull 0).view.read (Elt F) (full I c) = (vKvOwn c).view.read (Elt F) (I.kv c) := by
  funext j
  rw [read_slot, read_cols c _ _ (offKvOwn c)]
  show I.kv (src c 0) _ = _
  rw [src_zero]

theorem full_sent (c : Dev nD) (o : Fin 7) :
    (vFull o.succ).view.read (Elt F) (full I (nx c o)) = (vKv c o).view.read (Elt F) (I.kv c) := by
  funext j
  rw [read_slot, read_cols (nx c o) _ _ (offKv c o)]
  show I.kv (src (nx c o) o.succ) _ = _
  rw [src_nx]

theorem rs_own (c : Dev nD) (b : Fin 2) : (vRs 0 b).view.read (Elt F) (rs I c) = (vOwn c b).view.read (Elt F) (part I c) := by
  funext j
  rw [read_rs, read_rows c b _ _ (offOwn_eq c b)]
  show part I (src c 0) _ = _
  rw [src_zero]

theorem rs_sent (c : Dev nD) (b : Fin 2) (o : Fin 7) :
    (vRs o.succ b).view.read (Elt F) (rs I (nx c o)) = (vTo c o b).view.read (Elt F) (part I c) := by
  funext j
  rw [read_rs, read_rows (nx c o) b _ _ (offTo_eq c o b)]
  show part I (src (nx c o) o.succ) _ = _
  rw [src_nx]

/-- The stored batch of the partial sums, and the stored rows of the result. -/
theorem part_stored (c : Dev nD) (b : Fin 2) :
    (mPart.access (Rect.unit (s := S2x512x768) ![b.val, 0, 0] S1x512x768.size (inbPart b))).read (Elt F) (part I c) = partB I c b := by
  funext j
  show part I c ((Rect.unit (s := S2x512x768) ![b.val, 0, 0] S1x512x768.size (inbPart b)).emb j) = _
  rw [unit_emb (s := S2x512x768) _ _ _ j (ix3 b (j 1) (j 2)) fun a => ?_]
  · show partB I c b (ix3 (0 : Fin 1) (j 1) (j 2)) = _
    congr 1
    funext a
    match a with
    | ⟨0, _⟩ => exact Subsingleton.elim (α := Fin 1) _ _
    | ⟨1, _⟩ => rfl
    | ⟨2, _⟩ => rfl
  · match a with
    | ⟨0, _⟩ => exact (congrArg (b.val + ·) (congrArg Fin.val (Subsingleton.elim (α := Fin 1) (j 0) 0))).symm
    | ⟨1, _⟩ => exact (Nat.zero_add _).symm
    | ⟨2, _⟩ => exact (Nat.zero_add _).symm

theorem out_stored (c : Dev nD) :
    (mOut.access (Rect.unit (s := S2x512x768) (k0_off7 c) S2x64x768.size (k0_off7_inb c))).read (Elt F) (out I) = rsum (rsv I c) := by
  funext j
  show out I ((Rect.unit (s := S2x512x768) (k0_off7 c) S2x64x768.size (k0_off7_inb c)).emb j) = _
  have hj : (j 1).val < 64 := (j 1).isLt
  rw [unit_emb (s := S2x512x768) _ _ _ j (rowIdx c (j 0) (j 1) (j 2)) fun a => ?_]
  · show rsum (rsv I (rowDev _)) _ = _
    have h1 : rowDev (rowIdx c (j 0) (j 1) (j 2) 1) = c := Fin.ext (show (64 * c.val + (j 1).val) / 64 = c.val by omega)
    rw [h1]
    congr 1
    funext a
    match a with
    | ⟨0, _⟩ => rfl
    | ⟨1, _⟩ => exact Fin.ext (show (64 * c.val + (j 1).val) % 64 = (j 1).val by omega)
    | ⟨2, _⟩ => rfl
  · refine Eq.trans ?_ (congrArg (· + (j a).val) (congrFun (offRed c) a).symm)
    match a with
    | ⟨0, _⟩ => exact (Nat.zero_add _).symm
    | ⟨1, _⟩ => rfl
    | ⟨2, _⟩ => exact (Nat.zero_add _).symm

end Cert.KernelIdeal.Att
end
-- ==== Proof.Pieces.lean ====
/- The pieces each buffer of the kernel is held in: a slot of the gathered keys and values, a device's
   columns of the local ones, a device's rows of the partial sums and of the result, one accumulator. -/
module

public import proofs.«01_k».proof.Proof.Contents
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.Writes

@[expose] public section

noncomputable section

namespace Cert.KernelIdeal.Att

open Idealize.ShloMosaic Idealize.ShloMosaic.TcCoe Idealize.ShloMosaic.ValueIdx Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging's copy of the rounds and the protocol's. -/
abbrev UU : Type := Rounds.URounds (GSem nD τ sig) Unit × Rounds.URounds (GSem nD τ sig) (Fin 7)

local notation "𝕄" => MT nD τ sig Unit (Elt F) ℕ UU ℕ

/-- A buffer's elements `S` on device `c`, at contents `f`. -/
abbrev at' (c : Dev nD) (b : Ref sig .tc) (S : Finset b.ty.Idx) (q : PosShare TreeShare) (f : b.ty.Contents (Elt F)) : sProp 𝕄 :=
  ((c : Thread nD τ).loc b) ↦[S]{q} f

section Split

variable {ℓ : Loc nD τ sig} {B : Type} [Fintype B] [DecidableEq B] (S : Finset (Idx ℓ)) (J : B → Finset (Idx ℓ)) (key : Idx ℓ → B)
  (h : ∀ b i, i ∈ J b ↔ i ∈ S ∧ key i = b)

include h in
/-- Elements sorted by a key are the keys' pieces. -/
theorem split_key {q : PosShare TreeShare} (f : Buf (Elt F) ℓ) :
    (ℓ ↦[S]{q} f : sProp 𝕄) = bigSep Finset.univ fun b => ℓ ↦[J b]{q} f := by
  refine Ring.pointsTo_sub_blocks J (fun b b' hb => Finset.disjoint_left.mpr fun i hi hi' => hb ?_) S ?_ f
  · exact ((h b i).mp hi).2.symm.trans ((h b' i).mp hi').2
  · ext i
    simp only [Finset.mem_biUnion, Finset.mem_univ, true_and]
    exact ⟨fun ⟨b, hb⟩ => ((h b i).mp hb).1, fun hi => ⟨key i, (h _ i).mpr ⟨hi, rfl⟩⟩⟩

include h in
theorem join_key {q : PosShare TreeShare} (f₀ : Buf (Elt F) ℓ) :
    bigSep Finset.univ (fun b => iprop(∃ f, ℓ ↦[J b]{q} f)) ⊢ (iprop(∃ g, ℓ ↦[S]{q} g) : sProp 𝕄) := by
  refine Ring.pointsTo_sub_blocks_join_exists J (fun b b' hb => Finset.disjoint_left.mpr fun i hi hi' => hb ?_) S ?_ f₀
  · exact ((h b i).mp hi).2.symm.trans ((h b' i).mp hi').2
  · ext i
    simp only [Finset.mem_biUnion, Finset.mem_univ, true_and]
    exact ⟨fun ⟨b, hb⟩ => ((h b i).mp hb).1, fun hi => ⟨key i, (h _ i).mpr ⟨hi, rfl⟩⟩⟩

end Split

/-- What a view wrote, at any contents that read the same through it. -/
theorem wrote {sp : Space} {s : Shape} {e : EltTy} (c : Dev nD) (v : View sig .tc sp s e) {q : PosShare TreeShare}
    (fd g : Buf (Elt F) (v.loc (c : Thread nD τ))) (w : s.Idx → Elt F e) (h : v.read (Elt F) g = w) :
    (v.loc (c : Thread nD τ) ↦[v.set]{q} v.write (Elt F) fd w Finset.univ : sProp 𝕄) = v.loc (c : Thread nD τ) ↦[v.set]{q} g := by
  subst h
  refine pointsTo_congr fun i hi => ?_
  obtain ⟨x, -, rfl⟩ := Finset.mem_map.mp hi
  rw [View.write_emb_of_mem _ _ (Finset.mem_univ _)]
  simp [View.read]

/-! ## The pieces -/

def colsOf (d : Dev nD) : Finset S2x2x512x4096.Idx := Finset.univ.filter fun i => (i 3).val / 512 = d.val
def slotSet (s : Fin 8) : Finset S8x2x2x512x512.Idx := Finset.univ.filter fun i => (i 0).val = s.val
def batchSet (b : Fin 2) : Finset S2x512x768.Idx := Finset.univ.filter fun i => (i 0).val = b.val
def rowsOf (b : Fin 2) (d : Dev nD) : Finset S2x512x768.Idx := Finset.univ.filter fun i => (i 0).val = b.val ∧ (i 1).val / 64 = d.val
def rsSet (s : Fin 8) (b : Fin 2) : Finset S8x2x64x768.Idx := Finset.univ.filter fun i => (i 0).val = s.val ∧ (i 1).val = b.val
def outSet (d : Dev nD) : Finset S2x512x768.Idx := Finset.univ.filter fun i => (i 1).val / 64 = d.val
def sSet (b : Fin 2) (k : Fin 4) : Finset S2x4x128x8.Idx := Finset.univ.filter fun i => (i 0).val = b.val ∧ (i 1).val = k.val
def cSet (b : Fin 2) (k : Fin 4) : Finset S2x4x128x512.Idx := Finset.univ.filter fun i => (i 0).val = b.val ∧ (i 1).val = k.val

theorem set_cols (d : Dev nD) (off : Fin 4 → ℕ) (inb : ∀ a, off a + S2x2x512x512.size a ≤ S2x2x512x4096.size a)
    (h : off = ![0, 0, 0, 512 * d.val]) : (Rect.unit (s := S2x2x512x4096) off S2x2x512x512.size inb).set = colsOf d := by
  subst h
  ext i
  have h0 : (i 0).val < 2 := (i 0).isLt
  have h1 : (i 1).val < 2 := (i 1).isLt
  have h2 : (i 2).val < 512 := (i 2).isLt
  rw [Rect.mem_set_unit, colsOf, Finset.mem_filter]
  constructor
  · intro H
    have := H 3
    simp only [S2x2x512x512, Matrix.cons_val] at this
    exact ⟨Finset.mem_univ _, by omega⟩
  · rintro ⟨-, H⟩ a
    match a with
    | ⟨0, _⟩ => exact ⟨Nat.zero_le _, by show (i 0).val < 0 + 2; omega⟩
    | ⟨1, _⟩ => exact ⟨Nat.zero_le _, by show (i 1).val < 0 + 2; omega⟩
    | ⟨2, _⟩ => exact ⟨Nat.zero_le _, by show (i 2).val < 0 + 512; omega⟩
    | ⟨3, _⟩ => exact ⟨by show 512 * d.val ≤ (i 3).val; omega, by show (i 3).val < 512 * d.val + 512; omega⟩

theorem set_rows (b : Fin 2) (d : Dev nD) (off : Fin 3 → ℕ) (inb : ∀ a, off a + S1x64x768.size a ≤ S2x512x768.size a)
    (h : off = ![b.val, 64 * d.val, 0]) : (Rect.unit (s := S2x512x768) off S1x64x768.size inb).set = rowsOf b d := by
  subst h
  ext i
  have h2 : (i 2).val < 768 := (i 2).isLt
  rw [Rect.mem_set_unit, rowsOf, Finset.mem_filter]
  constructor
  · intro H
    have h0 : b.val ≤ (i 0).val ∧ (i 0).val < b.val + 1 := H 0
    have h1 : 64 * d.val ≤ (i 1).val ∧ (i 1).val < 64 * d.val + 64 := H 1
    exact ⟨Finset.mem_univ _, by omega, by omega⟩
  · rintro ⟨-, hb, H⟩ a
    match a with
    | ⟨0, _⟩ => exact ⟨by show b.val ≤ (i 0).val; omega, by show (i 0).val < b.val + 1; omega⟩
    | ⟨1, _⟩ => exact ⟨by show 64 * d.val ≤ (i 1).val; omega, by show (i 1).val < 64 * d.val + 64; omega⟩
    | ⟨2, _⟩ => exact ⟨Nat.zero_le _, by show (i 2).val < 0 + 768; omega⟩

theorem set_out (d : Dev nD) (off : Fin 3 → ℕ) (inb : ∀ a, off a + S2x64x768.size a ≤ S2x512x768.size a)
    (h : off = ![0, 64 * d.val, 0]) : (Rect.unit (s := S2x512x768) off S2x64x768.size inb).set = outSet d := by
  subst h
  ext i
  have h0 : (i 0).val < 2 := (i 0).isLt
  have h2 : (i 2).val < 768 := (i 2).isLt
  rw [Rect.mem_set_unit, outSet, Finset.mem_filter]
  constructor
  · intro H
    have h1 : 64 * d.val ≤ (i 1).val ∧ (i 1).val < 64 * d.val + 64 := H 1
    exact ⟨Finset.mem_univ _, by omega⟩
  · rintro ⟨-, H⟩ a
    match a with
    | ⟨0, _⟩ => exact ⟨Nat.zero_le _, by show (i 0).val < 0 + 2; omega⟩
    | ⟨1, _⟩ => exact ⟨by show 64 * d.val ≤ (i 1).val; omega, by show (i 1).val < 64 * d.val + 64; omega⟩
    | ⟨2, _⟩ => exact ⟨Nat.zero_le _, by show (i 2).val < 0 + 768; omega⟩

theorem set_batch (b : Fin 2) : (Rect.unit (s := S2x512x768) ![b.val, 0, 0] S1x512x768.size (inbPart b)).set = batchSet b := by
  ext i
  have h1 : (i 1).val < 512 := (i 1).isLt
  have h2 : (i 2).val < 768 := (i 2).isLt
  rw [Rect.mem_set_unit, batchSet, Finset.mem_filter]
  constructor
  · intro H
    have h0 : b.val ≤ (i 0).val ∧ (i 0).val < b.val + 1 := H 0
    exact ⟨Finset.mem_univ _, by omega⟩
  · rintro ⟨-, hb⟩ a
    match a with
    | ⟨0, _⟩ => exact ⟨by show b.val ≤ (i 0).val; omega, by show (i 0).val < b.val + 1; omega⟩
    | ⟨1, _⟩ => exact ⟨Nat.zero_le _, by show (i 1).val < 0 + 512; omega⟩
    | ⟨2, _⟩ => exact ⟨Nat.zero_le _, by show (i 2).val < 0 + 768; omega⟩

theorem set_slot (s : Fin 8) : (Rect.unit (s := S8x2x2x512x512) ![s.val, 0, 0, 0, 0] S1x2x2x512x512.size (inbFull s)).set = slotSet s := by
  ext i
  have h1 : (i 1).val < 2 := (i 1).isLt
  have h2 : (i 2).val < 2 := (i 2).isLt
  have h3 : (i 3).val < 512 := (i 3).isLt
  have h4 : (i 4).val < 512 := (i 4).isLt
  rw [Rect.mem_set_unit, slotSet, Finset.mem_filter]
  constructor
  · intro H
    have h0 : s.val ≤ (i 0).val ∧ (i 0).val < s.val + 1 := H 0
    exact ⟨Finset.mem_univ _, by omega⟩
  · rintro ⟨-, hb⟩ a
    match a with
    | ⟨0, _⟩ => exact ⟨by show s.val ≤ (i 0).val; omega, by show (i 0).val < s.val + 1; omega⟩
    | ⟨1, _⟩ => exact ⟨Nat.zero_le _, by show (i 1).val < 0 + 2; omega⟩
    | ⟨2, _⟩ => exact ⟨Nat.zero_le _, by show (i 2).val < 0 + 2; omega⟩
    | ⟨3, _⟩ => exact ⟨Nat.zero_le _, by show (i 3).val < 0 + 512; omega⟩
    | ⟨4, _⟩ => exact ⟨Nat.zero_le _, by show (i 4).val < 0 + 512; omega⟩

/-- A block of 64 rows lies in its slot. -/
theorem set_blk (s : Fin 8) (w b h : Fin 2) (k : Fin 4) :
    (Rect.unit (s := S8x2x2x512x512) ![s.val, w.val, b.val, 256 * h.val + 64 * k.val, 0] S1x1x1x64x512.size (inbBlk s w b h k)).set ⊆ slotSet s := by
  intro i H
  rw [Rect.mem_set_unit] at H
  have h0 : s.val ≤ (i 0).val ∧ (i 0).val < s.val + 1 := H 0
  exact Finset.mem_filter.mpr ⟨Finset.mem_univ _, by omega⟩

/-- A unit rectangle of one index on each of the first two of four axes. -/
theorem set_two {n₀ n₁ n₂ n₃ : ℕ} (p : Fin n₀) (r : Fin n₁)
    (inb : ∀ a, (![p.val, r.val, 0, 0] : Fin 4 → ℕ) a + (![1, 1, n₂, n₃] : Fin 4 → ℕ) a ≤ (⟨4, ![n₀, n₁, n₂, n₃]⟩ : Shape).size a) :
    (Rect.unit (s := ⟨4, ![n₀, n₁, n₂, n₃]⟩) ![p.val, r.val, 0, 0] ![1, 1, n₂, n₃] inb).set
      = Finset.univ.filter fun i => (i 0).val = p.val ∧ (i 1).val = r.val := by
  ext i
  have h2 : (i 2).val < n₂ := (i 2).isLt
  have h3 : (i 3).val < n₃ := (i 3).isLt
  rw [Rect.mem_set_unit, Finset.mem_filter]
  constructor
  · intro H
    have h0 : p.val ≤ (i 0).val ∧ (i 0).val < p.val + 1 := H 0
    have h1 : r.val ≤ (i 1).val ∧ (i 1).val < r.val + 1 := H 1
    exact ⟨Finset.mem_univ _, by omega, by omega⟩
  · rintro ⟨-, hb, hc⟩ a
    match a with
    | ⟨0, _⟩ => exact ⟨by show p.val ≤ (i 0).val; omega, by show (i 0).val < p.val + 1; omega⟩
    | ⟨1, _⟩ => exact ⟨by show r.val ≤ (i 1).val; omega, by show (i 1).val < r.val + 1; omega⟩
    | ⟨2, _⟩ => exact ⟨Nat.zero_le _, by show (i 2).val < 0 + n₂; omega⟩
    | ⟨3, _⟩ => exact ⟨Nat.zero_le _, by show (i 3).val < 0 + n₃; omega⟩

theorem set_vFull (s : Fin 8) : (vFull s).view.set = slotSet s := by
  rw [Memref.set_view_squeeze]; exact (View.set_slice_whole _ _).trans (set_slot s)
theorem set_vKv (c : Dev nD) (o : Fin 7) : (vKv c o).view.set = colsOf (nx c o) :=
  (View.set_slice_whole _ _).trans (set_cols _ _ _ (offKv c o))
theorem set_vKvOwn (c : Dev nD) : (vKvOwn c).view.set = colsOf c := (View.set_slice_whole _ _).trans (set_cols _ _ _ (offKvOwn c))
theorem set_vRs (s : Fin 8) (b : Fin 2) : (vRs s b).view.set = rsSet s b := by
  rw [Memref.set_view_squeeze]; exact (View.set_slice_whole _ _).trans (set_two (n₀ := 8) (n₁ := 2) (n₂ := 64) (n₃ := 768) s b (inbRs s b))
theorem set_vTo (c : Dev nD) (o : Fin 7) (b : Fin 2) : (vTo c o b).view.set = rowsOf b (nx c o) := by
  rw [Memref.set_view_squeeze]; exact (View.set_slice_whole _ _).trans (set_rows _ _ _ _ (offTo_eq c o b))
theorem set_vOwn (c : Dev nD) (b : Fin 2) : (vOwn c b).view.set = rowsOf b c := by
  rw [Memref.set_view_squeeze]; exact (View.set_slice_whole _ _).trans (set_rows _ _ _ _ (offOwn_eq c b))
theorem set_vOut (c : Dev nD) : (vOut c).view.set = outSet c := (View.set_slice_whole _ _).trans (set_out _ _ _ (offOut c))

/-! ## The pieces held -/

abbrev kvAt (c d : Dev nD) (f : Vec F S2x2x512x4096 .bf16) : sProp 𝕄 := at' c cc0_stg2_0 (colsOf d) fullShare f
abbrev fullAt (c : Dev nD) (s : Fin 8) (f : Vec F S8x2x2x512x512 .bf16) : sProp 𝕄 := at' c cc0_scratch0 (slotSet s) fullShare f
abbrev batchAt (c : Dev nD) (b : Fin 2) (f : Vec F S2x512x768 .bf16) : sProp 𝕄 := at' c cc0_scratch1 (batchSet b) fullShare f
abbrev partAt (c : Dev nD) (b : Fin 2) (d : Dev nD) (f : Vec F S2x512x768 .bf16) : sProp 𝕄 := at' c cc0_scratch1 (rowsOf b d) fullShare f
abbrev rsAt (c : Dev nD) (s : Fin 8) (b : Fin 2) (f : Vec F S8x2x64x768 .bf16) : sProp 𝕄 := at' c cc0_scratch2 (rsSet s b) fullShare f
abbrev outAt (c d : Dev nD) (q : PosShare TreeShare) (f : Vec F S2x512x768 .f32) : sProp 𝕄 := at' c cc0_stg4_0 (outSet d) q f
abbrev sAt (c : Dev nD) (b : Fin 2) (k : Fin 4) (f : Vec F S2x4x128x8 .f32) : sProp 𝕄 := at' c cc0_scratch3 (sSet b k) fullShare f
abbrev cAt (c : Dev nD) (b : Fin 2) (k : Fin 4) (f : Vec F S2x4x128x512 .f32) : sProp 𝕄 := at' c cc0_scratch4 (cSet b k) fullShare f

def keyCol (i : S2x2x512x4096.Idx) : Dev nD := ⟨(i 3).val / 512, by have : (i 3).val < 4096 := (i 3).isLt; have : nD = 8 := rfl; omega⟩
def keyRow (i : S2x512x768.Idx) : Dev nD := ⟨(i 1).val / 64, by have : (i 1).val < 512 := (i 1).isLt; have : nD = 8 := rfl; omega⟩

theorem mem_cols (d : Dev nD) (i : S2x2x512x4096.Idx) : i ∈ colsOf d ↔ i ∈ (Finset.univ : Finset S2x2x512x4096.Idx) ∧ keyCol i = d := by
  rw [colsOf, Finset.mem_filter]; exact and_congr_right fun _ => (Fin.ext_iff (a := keyCol i) (b := d)).symm
theorem mem_slot (s : Fin 8) (i : S8x2x2x512x512.Idx) : i ∈ slotSet s ↔ i ∈ (Finset.univ : Finset S8x2x2x512x512.Idx) ∧ (i 0 : Fin 8) = s := by
  rw [slotSet, Finset.mem_filter]; exact and_congr_right fun _ => (Fin.ext_iff).symm
theorem mem_batch (b : Fin 2) (i : S2x512x768.Idx) : i ∈ batchSet b ↔ i ∈ (Finset.univ : Finset S2x512x768.Idx) ∧ (i 0 : Fin 2) = b := by
  rw [batchSet, Finset.mem_filter]; exact and_congr_right fun _ => (Fin.ext_iff).symm
theorem mem_rows (b : Fin 2) (d : Dev nD) (i : S2x512x768.Idx) : i ∈ rowsOf b d ↔ i ∈ batchSet b ∧ keyRow i = d := by
  rw [rowsOf, batchSet, Finset.mem_filter, Finset.mem_filter, and_assoc]
  exact and_congr_right fun _ => and_congr_right fun _ => (Fin.ext_iff (a := keyRow i) (b := d)).symm
theorem mem_out (d : Dev nD) (i : S2x512x768.Idx) : i ∈ outSet d ↔ i ∈ (Finset.univ : Finset S2x512x768.Idx) ∧ keyRow i = d := by
  rw [outSet, Finset.mem_filter]; exact and_congr_right fun _ => (Fin.ext_iff (a := keyRow i) (b := d)).symm
theorem mem_rs (p : Fin 8 × Fin 2) (i : S8x2x64x768.Idx) :
    i ∈ rsSet p.1 p.2 ↔ i ∈ (Finset.univ : Finset S8x2x64x768.Idx) ∧ ((i 0, i 1) : Fin 8 × Fin 2) = p := by
  rw [rsSet, Finset.mem_filter]; exact and_congr_right fun _ => ((and_congr Fin.ext_iff Fin.ext_iff).symm.trans (Prod.ext_iff (x := ((i 0, i 1) : Fin 8 × Fin 2)) (y := p)).symm)
theorem mem_s (p : Fin 2 × Fin 4) (i : S2x4x128x8.Idx) :
    i ∈ sSet p.1 p.2 ↔ i ∈ (Finset.univ : Finset S2x4x128x8.Idx) ∧ ((i 0, i 1) : Fin 2 × Fin 4) = p := by
  rw [sSet, Finset.mem_filter]; exact and_congr_right fun _ => ((and_congr Fin.ext_iff Fin.ext_iff).symm.trans (Prod.ext_iff (x := ((i 0, i 1) : Fin 2 × Fin 4)) (y := p)).symm)
theorem mem_c (p : Fin 2 × Fin 4) (i : S2x4x128x512.Idx) :
    i ∈ cSet p.1 p.2 ↔ i ∈ (Finset.univ : Finset S2x4x128x512.Idx) ∧ ((i 0, i 1) : Fin 2 × Fin 4) = p := by
  rw [cSet, Finset.mem_filter]; exact and_congr_right fun _ => ((and_congr Fin.ext_iff Fin.ext_iff).symm.trans (Prod.ext_iff (x := ((i 0, i 1) : Fin 2 × Fin 4)) (y := p)).symm)

/-- A whole buffer on device `c`. -/
abbrev whole (c : Dev nD) (b : Ref sig .tc) (f : b.ty.Contents (Elt F)) : sProp 𝕄 := ((c : Thread nD τ).loc b) ↦{fullShare} f

variable (c : Dev nD)

theorem split_kv (f : Vec F S2x2x512x4096 .bf16) : (whole c cc0_stg2_0 f : sProp 𝕄) = bigSep Finset.univ fun d => kvAt c d f :=
  split_key (ℓ := (c : Thread nD τ).loc cc0_stg2_0) Finset.univ colsOf keyCol mem_cols f
theorem split_full (f : Vec F S8x2x2x512x512 .bf16) : (whole c cc0_scratch0 f : sProp 𝕄) = bigSep Finset.univ fun s => fullAt c s f :=
  split_key (ℓ := (c : Thread nD τ).loc cc0_scratch0) Finset.univ slotSet (fun i => i 0) mem_slot f
theorem split_batch (f : Vec F S2x512x768 .bf16) : (whole c cc0_scratch1 f : sProp 𝕄) = bigSep Finset.univ fun b => batchAt c b f :=
  split_key (ℓ := (c : Thread nD τ).loc cc0_scratch1) Finset.univ batchSet (fun i => i 0) mem_batch f
theorem split_rows (b : Fin 2) (f : Vec F S2x512x768 .bf16) : (batchAt c b f : sProp 𝕄) = bigSep Finset.univ fun d => partAt c b d f :=
  split_key (ℓ := (c : Thread nD τ).loc cc0_scratch1) (batchSet b) (rowsOf b) keyRow (mem_rows b) f
theorem split_rs (f : Vec F S8x2x64x768 .bf16) :
    (whole c cc0_scratch2 f : sProp 𝕄) = bigSep Finset.univ fun p : Fin 8 × Fin 2 => rsAt c p.1 p.2 f :=
  split_key (ℓ := (c : Thread nD τ).loc cc0_scratch2) Finset.univ (fun p : Fin 8 × Fin 2 => rsSet p.1 p.2) (fun i => (i 0, i 1)) mem_rs f
theorem split_out (f : Vec F S2x512x768 .f32) : (whole c cc0_stg4_0 f : sProp 𝕄) = bigSep Finset.univ fun d => outAt c d fullShare f :=
  split_key (ℓ := (c : Thread nD τ).loc cc0_stg4_0) Finset.univ outSet keyRow mem_out f
theorem split_s (f : Vec F S2x4x128x8 .f32) : (whole c cc0_scratch3 f : sProp 𝕄) = bigSep Finset.univ fun p : Fin 2 × Fin 4 => sAt c p.1 p.2 f :=
  split_key (ℓ := (c : Thread nD τ).loc cc0_scratch3) Finset.univ (fun p : Fin 2 × Fin 4 => sSet p.1 p.2) (fun i => (i 0, i 1)) mem_s f
theorem split_c (f : Vec F S2x4x128x512 .f32) : (whole c cc0_scratch4 f : sProp 𝕄) = bigSep Finset.univ fun p : Fin 2 × Fin 4 => cAt c p.1 p.2 f :=
  split_key (ℓ := (c : Thread nD τ).loc cc0_scratch4) Finset.univ (fun p : Fin 2 × Fin 4 => cSet p.1 p.2) (fun i => (i 0, i 1)) mem_c f

theorem join_s (f₀ : Vec F S2x4x128x8 .f32) :
    (bigSep Finset.univ fun p : Fin 2 × Fin 4 => iprop(∃ f, sAt c p.1 p.2 f) : sProp 𝕄) ⊢ iprop(∃ f, whole c cc0_scratch3 f) :=
  join_key (ℓ := (c : Thread nD τ).loc cc0_scratch3) Finset.univ (fun p : Fin 2 × Fin 4 => sSet p.1 p.2) (fun i => (i 0, i 1)) mem_s f₀
theorem join_c (f₀ : Vec F S2x4x128x512 .f32) :
    (bigSep Finset.univ fun p : Fin 2 × Fin 4 => iprop(∃ f, cAt c p.1 p.2 f) : sProp 𝕄) ⊢ iprop(∃ f, whole c cc0_scratch4 f) :=
  join_key (ℓ := (c : Thread nD τ).loc cc0_scratch4) Finset.univ (fun p : Fin 2 × Fin 4 => cSet p.1 p.2) (fun i => (i 0, i 1)) mem_c f₀

end Cert.KernelIdeal.Att
end
-- ==== Proof.Protocol.lean ====
/- What the devices promise one another: one round on every semaphore of the kernel, each with the
   piece of a buffer its last unit hands over; what each device owes, and in which order it may wait. -/
module

public import proofs.«01_k».proof.Proof.Pieces

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (Rounds.URounds (GSem nD τ sig) Unit) (MT nD τ sig Unit (Elt F) ℕ UU ℕ) := embL
abbrev ER : Emb (Rounds.URounds (GSem nD τ sig) (Fin 7)) (MT nD τ sig Unit (Elt F) ℕ UU ℕ) := embR

abbrev 𝒱₀ : Variants := Variants.none

/-! ## The semaphores, by what they are for -/

/-- The families of seven: sent and received keys and values, partial rows (by batch), result rows. -/
inductive Fam where
  | kvs | kvr | rss (b : Fin 2) | rsr (b : Fin 2) | ags | agr
  deriving DecidableEq

def Fam.list : List Fam := [.kvs, .kvr, .rss 0, .rss 1, .rsr 0, .rsr 1, .ags, .agr]
instance : Fintype Fam := ⟨⟨Fam.list, by decide⟩, fun f => by
  match f with
  | .kvs => decide | .kvr => decide | .rss 0 => decide | .rss 1 => decide | .rsr 0 => decide | .rsr 1 => decide | .ags => decide | .agr => decide⟩

/-- A semaphore of the kernel's own: one of a family, or one of the three for the copies within the device. -/
abbrev Own : Type := (Fam × Fin 7) ⊕ Fin 3

abbrev famSem : Fam → Fin 7 → DmaSem sig
  | .kvs, o => cell7 cc0_scratch5 o
  | .kvr, o => cell7 cc0_scratch6 o
  | .rss b, o => cell27 cc0_scratch7 b o
  | .rsr b, o => cell27 cc0_scratch8 b o
  | .ags, o => cell7 cc0_scratch9 o
  | .agr, o => cell7 cc0_scratch10 o
abbrev ownSem : Own → DmaSem sig
  | .inl (f, o) => famSem f o
  | .inr k => cell3 cc0_scratch11 k
abbrev osem (k : Own) : SemLoc sig := .dma (ownSem k)
/-- The meeting's semaphore, or one of the kernel's own. -/
abbrev semOf : Option Own → SemLoc sig
  | none => .reg bar
  | some k => osem k

/-- What a semaphore is for, read off its number. -/
def famOf : Fin 8 → Fam := ![.kvs, .kvr, .rss 0, .rss 1, .rsr 0, .rsr 1, .ags, .agr]
def kind : SemLoc sig → Option (Option Own)
  | .reg _ => some none
  | .dma n =>
    if n.val < 5 then none
    else if n.val < 61 then some (some (.inl (famOf ⟨(n.val - 5) / 7 % 8, Nat.mod_lt _ (by decide)⟩, ⟨(n.val - 5) % 7, Nat.mod_lt _ (by decide)⟩)))
    else some (some (.inr ⟨(n.val - 61) % 3, Nat.mod_lt _ (by decide)⟩))

theorem kind_own : ∀ k : Own, kind (osem k) = some (some k) := by decide +kernel
theorem kind_semOf : ∀ k : Option Own, kind (semOf k) = some k
  | none => rfl
  | some k => kind_own k
theorem semOf_inj {k k' : Option Own} (h : semOf k = semOf k') : k = k' :=
  Option.some.inj ((kind_semOf k).symm.trans ((congrArg kind h).trans (kind_semOf k')))

/-- Device `c`'s cell. -/
abbrev gs (c : Dev nD) (k : Option Own) : GSem nD τ sig := ((c : Thread nD τ), semOf k)
theorem gs_inj {c c' : Dev nD} {k k' : Option Own} (h : gs c k = gs c' k') : c = c' ∧ k = k' := by
  rw [Prod.mk.injEq, Prod.mk.injEq] at h
  exact ⟨h.1.1, semOf_inj h.2⟩

/-! ## The schedule -/

/-- What a copy counts for: of keys and values, of partial rows, of result rows. -/
def nKv : ℕ := 65536
def nRs : ℕ := 3072
def nAg : ℕ := 12288
theorem nKv_pos : 0 < nKv := by decide
theorem nRs_pos : 0 < nRs := by decide
theorem nAg_pos : 0 < nAg := by decide

def amt : Own → ℕ
  | .inl (.kvs, _) => nKv | .inl (.kvr, _) => nKv
  | .inl (.rss _, _) => nRs | .inl (.rsr _, _) => nRs
  | .inl (.ags, _) => nAg | .inl (.agr, _) => nAg
  | .inr 0 => nKv | .inr 1 => nRs | .inr 2 => nRs
theorem amt_pos (k : Own) : 0 < amt k :=
  match k with
  | .inl (.kvs, _) => nKv_pos | .inl (.kvr, _) => nKv_pos
  | .inl (.rss _, _) => nRs_pos | .inl (.rsr _, _) => nRs_pos
  | .inl (.ags, _) => nAg_pos | .inl (.agr, _) => nAg_pos
  | .inr 0 => nKv_pos | .inr 1 => nRs_pos | .inr 2 => nRs_pos

variable (I : Ins F)

/-- The share of its own rows of the result a device lends to its `o`-th copy. -/
abbrev lent (o : Fin 7) : PosShare TreeShare := Transfers.shareTok fullShare 7 o

/-- Paid to device `c`'s meeting semaphore by the `j`-th next device `d`: the places in `d`'s buffers that
    `c`'s copies fill, and that `d`'s semaphores for them are ready. -/
def barPay (c : Dev nD) (j : Fin 7) : sProp 𝕄 :=
  iprop((∃ f, fullAt (nx c j) j.succ f) ∗ reached ER (gs (nx c j) (some (.inl (.kvr, j)))) 0
    ∗ (bigSep Finset.univ fun b : Fin 2 => iprop((∃ f, rsAt (nx c j) j.succ b f) ∗ reached ER (gs (nx c j) (some (.inl (.rsr b, j)))) 0))
    ∗ (∃ f, outAt (nx c j) c fullShare f) ∗ reached ER (gs (nx c j) (some (.inl (.agr, j)))) 0)

/-- What each of the kernel's own semaphores of device `c` hands over. -/
def pay (c : Dev nD) : Own → sProp 𝕄
  | .inl (.kvs, o) => kvAt c (nx c o) (I.kv c)
  | .inl (.kvr, o) => fullAt c o.succ (full I c)
  | .inl (.rss b, o) => partAt c b (nx c o) (part I c)
  | .inl (.rsr b, o) => rsAt c o.succ b (rs I c)
  | .inl (.ags, o) => outAt c c (lent o) (out I)
  | .inl (.agr, o) => outAt c (nx c o.rev) fullShare (out I)
  | .inr 0 => iprop(fullAt c 0 (full I c) ∗ kvAt c c (I.kv c))
  | .inr 1 => iprop(rsAt c 0 0 (rs I c) ∗ partAt c 0 c (part I c))
  | .inr 2 => iprop(rsAt c 0 1 (rs I c) ∗ partAt c 1 c (part I c))

def duts : Option (Option Own) → Finset (Fin 7)
  | none => ∅ | some none => Finset.univ | some (some _) => {0}
def amts : Option (Option Own) → ℕ
  | some (some k) => amt k | _ => 1
def pays (c : Dev nD) (j : Fin 7) : Option (Option Own) → sProp 𝕄
  | none => iprop(emp) | some none => barPay c j | some (some k) => pay I c k

def sched : Rounds.Schedule (GSem nD τ sig) (Fin 7) 𝕄 where
  duties g r := if r = 0 ∧ g.1.2 = .tc then duts (kind g.2) else ∅
  unitless _ := False
  amount g _ _ := amts (kind g.2)
  payload g _ j := pays I g.1.1 j (kind g.2)
  amount_pos g _ _ _ := by
    cases h : kind g.2 with
    | none => exact Nat.one_pos
    | some o => cases o with
      | none => exact Nat.one_pos
      | some k => exact amt_pos k

instance pay_storable (c : Dev nD) (k : Own) : BI.Storable (upEmb : UEmb _ 𝕄) (pay (F := F) I c k) :=
  match k with
  | .inl (.kvs, _) => by unfold pay; infer_instance
  | .inl (.kvr, _) => by unfold pay; infer_instance
  | .inl (.rss _, _) => by unfold pay; infer_instance
  | .inl (.rsr _, _) => by unfold pay; infer_instance
  | .inl (.ags, _) => by unfold pay; infer_instance
  | .inl (.agr, _) => by unfold pay; infer_instance
  | .inr 0 => by unfold pay; infer_instance
  | .inr 1 => by unfold pay; infer_instance
  | .inr 2 => by unfold pay; infer_instance
instance barPay_storable (c : Dev nD) (j : Fin 7) : BI.Storable (upEmb : UEmb _ 𝕄) (barPay (F := F) c j) := by
  unfold barPay; infer_instance
instance sched_storable (g : GSem nD τ sig) (r : ℕ) (j : Fin 7) : BI.Storable (upEmb : UEmb _ 𝕄) ((sched (F := F) I).payload g r j) := by
  show BI.Storable upEmb (pays I g.1.1 j (kind g.2))
  cases h : kind g.2 with
  | none => unfold pays; infer_instance
  | some o => cases o with
    | none => unfold pays; infer_instance
    | some k => unfold pays; infer_instance

section Table

variable (c : Dev nD)

theorem duties_bar : (sched I).duties (gs c none) 0 = Finset.univ := by dsimp only [sched]; exact if_pos ⟨rfl, rfl⟩
theorem duties_own (k : Own) : (sched I).duties (gs c (some k)) 0 = {0} := by
  dsimp only [sched]; exact (if_pos ⟨rfl, rfl⟩).trans (congrArg duts (kind_own k))
theorem duties_later (g : GSem nD τ sig) : ∀ r, 1 ≤ r → (sched I).duties g r = ∅ := fun r hr => if_neg fun h => by omega
theorem amount_bar (j : Fin 7) : (sched I).amount (gs c none) 0 j = 1 := rfl
theorem amount_own (k : Own) (j : Fin 7) : (sched I).amount (gs c (some k)) 0 j = amt k := congrArg amts (kind_own k)
theorem payload_bar (j : Fin 7) : (sched I).payload (gs c none) 0 j = barPay c j := rfl
theorem payload_own (k : Own) (j : Fin 7) : (sched I).payload (gs c (some k)) 0 j = pay I c k := congrArg (pays I c j) (kind_own k)
theorem expect_bar : (sched I).expect (gs c none) 0 = 7 := by
  unfold Schedule.expect Schedule.amountOf; rw [duties_bar]; rfl
theorem expect_own (k : Own) : (sched I).expect (gs c (some k)) 0 = amt k := by
  unfold Schedule.expect Schedule.amountOf; rw [duties_own, Finset.sum_singleton, amount_own]
theorem rest_bar : bigSep ((sched I).duties (gs c none) 0 \ ∅) (fun j => (sched I).payload (gs c none) 0 j)
    = bigSep Finset.univ fun j => barPay c j := by
  rw [Finset.sdiff_empty, duties_bar]; rfl
theorem rest_own (k : Own) : bigSep ((sched I).duties (gs c (some k)) 0 \ ∅) (fun j => (sched I).payload (gs c (some k)) 0 j) = pay I c k := by
  rw [Finset.sdiff_empty, duties_own, bigSep_singleton, payload_own]

end Table

/-! ## What each device owes, and the order of waiting -/

def L (g : GSem nD τ sig) : Finset Unit := if g.1.2 = .tc then {()} else ∅
theorem L_tc (c : Dev nD) (sm : SemLoc sig) : L ((c : Thread nD τ), sm) = {()} := if_pos rfl
theorem L_of_ne (g : GSem nD τ sig) (h : g.1.2 ≠ .tc) : L g = ∅ := if_neg h

def lev : Option (Option Own) → ℕ
  | some none => 1
  | some (some (.inl (.kvr, _))) => 2
  | some (some (.inl (.rsr _, _))) => 3
  | some (some (.inl (.agr, _))) => 4
  | _ => 0
def lv (g : GSem nD τ sig) (_ : Unit) : ℕ := lev (kind g.2)
theorem lv_gs (c : Dev nD) (k : Option Own) (u : Unit) : lv (gs c k) u = lev (some k) := congrArg lev (kind_semOf k)

/-- Everything owed lies above level `n`. -/
def Above (O : CellTallies nD τ sig Unit) (n : ℕ) : Prop := ∀ (g : GSem nD τ sig) (u : Unit), 0 < O g u → u ∈ L g ∧ n < lv g u

theorem above_zero (n : ℕ) : Above 0 n := fun _ _ h => absurd h (Nat.lt_irrefl 0)
theorem above_add {O O' : CellTallies nD τ sig Unit} {n : ℕ} (h : Above O n) (h' : Above O' n) : Above (O + O') n := fun g u hg => by
  rcases Nat.pos_of_add_pos hg with h0 | h0
  · exact h g u h0
  · exact h' g u h0
  where
    Nat.pos_of_add_pos {a b : ℕ} (h : 0 < a + b) : 0 < a ∨ 0 < b := by omega
theorem above_sum {T : Type} (S : Finset T) (O : T → CellTallies nD τ sig Unit) {n : ℕ} (h : ∀ t, Above (O t) n) :
    Above (∑ t ∈ S, O t) n := by
  classical
  induction S using Finset.induction_on with
  | empty => rw [Finset.sum_empty]; exact above_zero n
  | insert t S ht ih => rw [Finset.sum_insert ht]; exact above_add (h t) ih
theorem above_tally (c : Dev nD) (k : Option Own) (N n : ℕ) (h : n < lev (some k)) : Above (tallyAt (gs c k) () N) n := fun g u hg => by
  rw [tallyAt_apply] at hg
  by_cases e : g = gs c k ∧ u = ()
  · rw [e.1]; exact ⟨by rw [L_tc]; exact Finset.mem_singleton_self _, by rw [lv_gs]; exact h⟩
  · rw [if_neg e] at hg; exact absurd hg (Nat.lt_irrefl 0)

/-- A device may wait at a level below everything it owes. -/
theorem mayWait (c : Dev nD) (k : Option Own) {O : CellTallies nD τ sig Unit} (h : Above O (lev (some k))) :
    (levAts L lv : sProp 𝕄) ⊢ MayWait (c : Thread nD τ) (semOf k) () O :=
  MayOwe.of_cut (L := L) (lev := lv) (lev (some k))
    (fun p hp => by rw [Finset.mem_singleton.mp hp, L_tc]; exact Finset.mem_singleton_self _)
    (fun g u hg => (h g u hg).1)
    (fun p hp => by rw [Finset.mem_singleton.mp hp]; exact le_of_eq (lv_gs c k ()))
    (fun g u hg => (h g u hg).2)

/-- The last of seven amounts, from the `n`-th on. -/
def rem (t : Fin 7 → CellTallies nD τ sig Unit) (n : ℕ) : CellTallies nD τ sig Unit := ∑ o ∈ Finset.univ.filter (fun o : Fin 7 => n ≤ o.val), t o
theorem rem_step (t : Fin 7 → CellTallies nD τ sig Unit) (o : Fin 7) : rem t o.val = rem t (o.val + 1) + t o := by
  unfold rem
  rw [show Finset.univ.filter (fun o' : Fin 7 => o.val ≤ o'.val) = insert o (Finset.univ.filter (fun o' : Fin 7 => o.val + 1 ≤ o'.val)) from by
    revert o; decide +kernel, Finset.sum_insert (by simp), add_comm]
theorem rem_last (t : Fin 7 → CellTallies nD τ sig Unit) : rem t 7 = 0 := by
  unfold rem
  rw [show Finset.univ.filter (fun o' : Fin 7 => 7 ≤ o'.val) = ∅ from by decide +kernel, Finset.sum_empty]
theorem above_rem {t : Fin 7 → CellTallies nD τ sig Unit} {n : ℕ} (m : ℕ) (h : ∀ o, Above (t o) n) : Above (rem t m) n := above_sum _ _ h

variable (c : Dev nD)

def tB (o : Fin 7) : CellTallies nD τ sig Unit := tallyAt (gs (nx c o) none) () 1
def tF (f : Fam) (o : Fin 7) : CellTallies nD τ sig Unit := tallyAt (gs (nx c o) (some (.inl (f, o)))) () (amt (.inl (f, o)))

/-- What is owed from the sending of the result's rows on, of the partial rows on, of the keys on, at the start. -/
def owedA : CellTallies nD τ sig Unit := rem (tF c .agr) 0
def owedR1 : CellTallies nD τ sig Unit := owedA c + rem (tF c (.rsr 1)) 0
def owedR0 : CellTallies nD τ sig Unit := owedR1 c + rem (tF c (.rsr 0)) 0
def owedK : CellTallies nD τ sig Unit := owedR0 c + rem (tF c .kvr) 0
def O₀ : CellTallies nD τ sig Unit := owedK c + rem (tB c) 0

theorem above_A (n : ℕ) (h : n < 4) : Above (owedA c) n := above_rem _ fun o => above_tally _ _ _ _ h
theorem above_R1 (n : ℕ) (h : n < 3) : Above (owedR1 c) n := above_add (above_A c n (by omega)) (above_rem _ fun o => above_tally _ _ _ _ h)
theorem above_R0 (n : ℕ) (h : n < 3) : Above (owedR0 c) n := above_add (above_R1 c n (by omega)) (above_rem _ fun o => above_tally _ _ _ _ h)
theorem above_K (n : ℕ) (h : n < 2) : Above (owedK c) n := above_add (above_R0 c n (by omega)) (above_rem _ fun o => above_tally _ _ _ _ h)
theorem above_O (n : ℕ) (h : n < 1) : Above (O₀ c) n := above_add (above_K c n (by omega)) (above_rem _ fun o => above_tally _ _ _ _ h)

end Cert.KernelIdeal.Att
end
-- ==== Proof.Steps.lean ====
/- The kernel's communication, one rule per kind of operation: a signal, the meeting's wait, a copy to
   another device, a copy within the device, a wait for a copy; and the rules for its loops. -/
module

public import proofs.«01_k».proof.Proof.Protocol

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `c`, run to a postcondition. -/
abbrev WP {α : Type} (c : Dev nD) (p : P F α) (Q : α → sProp 𝕄) : sProp 𝕄 :=
  wp frame (wpE (defs₀ (F := F)) 𝒱₀ (c : Thread nD τ) none) Set.univ p Q

/-! ## Putting programs together -/

section Loops

variable {c : Dev nD}

theorem cut {α β : Type} {A : sProp 𝕄} {p : P F α} {B : α → sProp 𝕄} {k : α → P F β} {Q : β → sProp 𝕄} (h : A ⊢ WP c p B) :
    iprop(A ∗ (∀ a, B a -∗ WP c (k a) Q)) ⊢ WP c (p >>= k) Q := by
  unfold WP
  rw [wp_bind]
  exact (sep_mono_left h).trans (wp_wand_r _ _ _)

theorem framed {α : Type} {A R : sProp 𝕄} {p : P F α} {B : α → sProp 𝕄} (h : A ⊢ WP c p B) :
    iprop(A ∗ R) ⊢ WP c p fun a => iprop(B a ∗ R) := (sep_mono_left h).trans (wp_frame_r _ _ _)

theorem seq_wp {A B C : sProp 𝕄} {p q : P F PUnit} (h : A ⊢ WP c p fun _ => B) (h' : B ⊢ WP c q fun _ => C) :
    A ⊢ WP c (p >>= fun _ => q) fun _ => C := by
  unfold WP
  rw [wp_bind]
  exact h.trans (wp_mono _ _ _ fun _ => h')

theorem step_head {A pr R D B po : sProp 𝕄} {p q : P F PUnit} (h : iprop(A ∗ pr) ⊢ WP c p fun _ => iprop(B ∗ po))
    (h' : iprop(B ∗ R) ⊢ WP c q fun _ => D) : iprop(A ∗ (pr ∗ R)) ⊢ WP c (p >>= fun _ => q) fun _ => iprop(po ∗ D) := by
  refine seq_wp (B := iprop(po ∗ (B ∗ R))) ?_ ((sep_mono_right h').trans (wp_frame_l _ _ _))
  refine sep_assoc.2.trans ((framed h).trans (wp_mono _ _ _ fun _ => ?_))
  iintro ⟨⟨HB, Hp⟩, HR⟩
  isplitl [Hp]; · iexact Hp
  isplitl [HB] <;> iassumption

theorem seq2_wp (Own : ℕ → sProp 𝕄) (pre post : Fin 2 → sProp 𝕄) (f : Fin 2 → P F PUnit)
    (h : ∀ i : Fin 2, iprop(Own i.val ∗ pre i) ⊢ WP c (f i) fun _ => iprop(Own (i.val + 1) ∗ post i)) :
    iprop(Own 0 ∗ bigSep Finset.univ pre) ⊢ WP c (seq2 f) fun _ => iprop(Own 2 ∗ bigSep Finset.univ post) := by
  rw [bigSep_univ_eq_bigSepL [0, 1] (by decide) (by decide) pre, bigSep_univ_eq_bigSepL [0, 1] (by decide) (by decide) post]
  show iprop(Own 0 ∗ pre 0 ∗ pre 1) ⊢ WP c (seq2 f) fun _ => iprop(Own 2 ∗ post 0 ∗ post 1)
  refine (step_head (h 0) (h 1)).trans (wp_mono _ _ _ fun _ => ?_)
  iintro ⟨H0, HO, H1⟩
  isplitl [HO]; · iapply (Entails.of_eq (show Own ((1 : Fin 2).val + 1) = Own 2 from rfl)) $$ HO
  isplitl [H0] <;> iassumption

theorem seq4_wp (Own : ℕ → sProp 𝕄) (pre post : Fin 4 → sProp 𝕄) (f : Fin 4 → P F PUnit)
    (h : ∀ i : Fin 4, iprop(Own i.val ∗ pre i) ⊢ WP c (f i) fun _ => iprop(Own (i.val + 1) ∗ post i)) :
    iprop(Own 0 ∗ bigSep Finset.univ pre) ⊢ WP c (seq4 f) fun _ => iprop(Own 4 ∗ bigSep Finset.univ post) := by
  rw [bigSep_univ_eq_bigSepL [0, 1, 2, 3] (by decide) (by decide) pre, bigSep_univ_eq_bigSepL [0, 1, 2, 3] (by decide) (by decide) post]
  show iprop(Own 0 ∗ pre 0 ∗ pre 1 ∗ pre 2 ∗ pre 3) ⊢ WP c (seq4 f) fun _ => iprop(Own 4 ∗ post 0 ∗ post 1 ∗ post 2 ∗ post 3)
  refine (step_head (h 0) (step_head (h 1) (step_head (h 2) (h 3)))).trans (wp_mono _ _ _ fun _ => ?_)
  iintro ⟨H0, H1, H2, HO, H3⟩
  isplitl [HO]; · iapply (Entails.of_eq (show Own ((3 : Fin 4).val + 1) = Own 4 from rfl)) $$ HO
  isplitl [H0]; · iexact H0
  isplitl [H1]; · iexact H1
  isplitl [H2] <;> iassumption

theorem seq7_wp (Own : ℕ → sProp 𝕄) (pre post : Fin 7 → sProp 𝕄) (f : Fin 7 → P F PUnit)
    (h : ∀ i : Fin 7, iprop(Own i.val ∗ pre i) ⊢ WP c (f i) fun _ => iprop(Own (i.val + 1) ∗ post i)) :
    iprop(Own 0 ∗ bigSep Finset.univ pre) ⊢ WP c (seq7 f) fun _ => iprop(Own 7 ∗ bigSep Finset.univ post) := by
  rw [bigSep_univ_eq_bigSepL [0, 1, 2, 3, 4, 5, 6] (by decide) (by decide) pre,
    bigSep_univ_eq_bigSepL [0, 1, 2, 3, 4, 5, 6] (by decide) (by decide) post]
  show iprop(Own 0 ∗ pre 0 ∗ pre 1 ∗ pre 2 ∗ pre 3 ∗ pre 4 ∗ pre 5 ∗ pre 6) ⊢ WP c (seq7 f) fun _ =>
    iprop(Own 7 ∗ post 0 ∗ post 1 ∗ post 2 ∗ post 3 ∗ post 4 ∗ post 5 ∗ post 6)
  refine (step_head (h 0) (step_head (h 1) (step_head (h 2) (step_head (h 3) (step_head (h 4) (step_head (h 5) (h 6))))))).trans
    (wp_mono _ _ _ fun _ => ?_)
  iintro ⟨H0, H1, H2, H3, H4, H5, HO, H6⟩
  isplitl [HO]; · iapply (Entails.of_eq (show Own ((6 : Fin 7).val + 1) = Own 7 from rfl)) $$ HO
  isplitl [H0]; · iexact H0
  isplitl [H1]; · iexact H1
  isplitl [H2]; · iexact H2
  isplitl [H3]; · iexact H3
  isplitl [H4]; · iexact H4
  isplitl [H5] <;> iassumption

end Loops

/-! ## What every device knows -/

variable (I : Ins F) (κ : GSem nD τ sig → ℕ)

def records : sProp 𝕄 := bigSep Finset.univ fun p : Dev nD × Option Own => cellInv ER (sched I) (κ (gs p.1 p.2)) (gs p.1 p.2)
instance records_persistent : BI.Persistent (records I κ) := by unfold records; infer_instance
theorem record (c : Dev nD) (k : Option Own) : records I κ ⊢ cellInv ER (sched I) (κ (gs c k)) (gs c k) :=
  bigSep_elim (Φ := fun p : Dev nD × Option Own => (cellInv ER (sched I) (κ (gs p.1 p.2)) (gs p.1 p.2) : sProp 𝕄)) (Finset.mem_univ (c, k))

def barsReady : sProp 𝕄 := bigSep Finset.univ fun d : Dev nD => reached ER (gs d none) 0
instance barsReady_persistent : BI.Persistent (barsReady (F := F)) := by unfold barsReady; infer_instance
theorem barReady (d : Dev nD) : (barsReady : sProp 𝕄) ⊢ reached ER (gs d none) 0 :=
  bigSep_elim (Φ := fun d : Dev nD => (reached ER (gs d none) 0 : sProp 𝕄)) (Finset.mem_univ d)
def ownReady (c : Dev nD) : sProp 𝕄 := bigSep Finset.univ fun k : Own => reached ER (gs c (some k)) 0
instance ownReady_persistent (c : Dev nD) : BI.Persistent (ownReady (F := F) c) := by unfold ownReady; infer_instance
theorem isReady (c : Dev nD) (k : Own) : (ownReady c : sProp 𝕄) ⊢ reached ER (gs c (some k)) 0 :=
  bigSep_elim (Φ := fun k : Own => (reached ER (gs c (some k)) 0 : sProp 𝕄)) (Finset.mem_univ k)

/-- What device `c` knows throughout. -/
def Ctx (c : Dev nD) : sProp 𝕄 := iprop(records I κ ∗ barsReady ∗ ownReady c ∗ levAts L lv)
instance Ctx_persistent (c : Dev nD) : BI.Persistent (Ctx I κ c) := by unfold Ctx; infer_instance

abbrev tok (c : Dev nD) (k : Option Own) (j : Fin 7) : sProp 𝕄 := dutyTok ER (gs c k) 0 j
abbrev ow (c : Dev nD) (O : CellTallies nD τ sig Unit) : sProp 𝕄 := iprop(∃ W, owes (c : Thread nD τ) O W)
abbrev due (c : Dev nD) (k : Own) : sProp 𝕄 := cred (tallyAt (gs c (some k)) () (amt k))
abbrev at0 (c : Dev nD) (k : Option Own) : sProp 𝕄 := atPos ER (gs c k) 0 ∅ 0
abbrev at1 (c : Dev nD) (k : Option Own) : sProp 𝕄 := atPos ER (gs c k) (0 + 1) ∅ 0
abbrev isReached (c : Dev nD) (k : Option Own) : sProp 𝕄 := reached ER (gs c k) 0

/-! ## The operations -/

section Ops

variable (c n : Dev nD) {sp sp' : Space} {s : Shape} {e : EltTy}

theorem send_step {m : Dev nD} (hm : m = n) (k₁ k₂ : Own) {src : Memref sig .tc sp s e} {dst : Memref sig .tc sp' s e} {hsc : dst.view.ref.isScScratch = false}
    {hsrc : src.view.WordExact} {hdst : dst.view.WordExact}
    {hsem : DmaTarget.Typed sp (osem k₂) (.remote (m : Thread nD τ) dst (osem k₁) hsc)}
    (hN : dst.view.dmaCredit = amt k₂) (hk : amt k₁ = amt k₂)
    (fs : Buf (Elt F) (src.view.loc (c : Thread nD τ))) (fd : Buf (Elt F) (dst.view.loc (n : Thread nD τ))) (q : PosShare TreeShare) (O : CellTallies nD τ sig Unit)
    (hp₁ : (src.view.loc (c : Thread nD τ) ↦[src.view.set]{q} fs : sProp 𝕄) ⊢ pay I c k₁)
    (hp₂ : (dst.view.loc (n : Thread nD τ) ↦[dst.view.set]{fullShare} (dst.view.write (Elt F) fd (src.view.read (Elt F) fs) Finset.univ) : sProp 𝕄) ⊢ pay I n k₂) :
    iprop((Ctx I κ c ∗ ow c (O + tallyAt (gs n (some k₂)) () (amt k₂))) ∗ (src.view.loc (c : Thread nD τ) ↦[src.view.set]{q} fs)
        ∗ (dst.view.loc (n : Thread nD τ) ↦[dst.view.set]{fullShare} fd) ∗ isReached n (some k₂) ∗ tok c (some k₁) 0 ∗ tok n (some k₂) 0)
      ⊢ WP c (Prog.lift (.enqueueDma src (.remote (m : Thread nD τ) dst (osem k₁) hsc) (osem k₂) hsrc hdst hsem) : P F PUnit)
        fun _ => iprop((Ctx I κ c ∗ ow c O) ∗ due c k₁) := by
  cases hm.symm
  unfold Ctx
  iintro ⟨⟨⟨#Hrec, #Hbr, #Hor, #Hlev⟩, ⟨%W, HO⟩⟩, Hs, Hd, #Hr, Ht₁, Ht₂⟩
  iapply (Rounds.wp_send_pointsTo 𝒱₀ ER (sched I) (c : Thread nD τ) none (c' := (n : Thread nD τ)) (src := src) (dst := dst)
      (sS := osem k₁) (sem := osem k₂) (q := q) (fs := fs) (κ₁ := κ (gs c (some k₁))) (κ₂ := κ (gs n (some k₂)))
      (r₁ := 0) (r₂ := 0) (d₁ := 0) (d₂ := 0) (fd := fd)
      (by rw [duties_own]; exact Finset.mem_singleton_self _) (by rw [duties_own]; exact Finset.mem_singleton_self _)
      () () (amt k₂) hN ((amount_own I c k₁ 0).trans hk) (amount_own I n k₂ 0) O rfl (W := W)
      (by rw [payload_own]; exact hp₁) (by rw [payload_own]; exact hp₂)) $$ [Hs Hd HO Ht₁ Ht₂]
  · isplitr; · iapply (record I κ c (some k₁)); iexact Hrec
    isplitr; · iapply (record I κ n (some k₂)); iexact Hrec
    isplitl [Hs]; · iexact Hs
    isplitl [Hd]; · iexact Hd
    isplitl [HO]; · iexact HO
    isplitl [Ht₁]; · iexact Ht₁
    isplitr; · iapply (isReady c k₁); iexact Hor
    isplitl [Ht₂]; · iexact Ht₂
    iexact Hr
  iintro ⟨Hc, HO⟩
  rw [wp_ret]
  imodintro
  isplitr [Hc]
  · isplitr
    · isplitr; · iexact Hrec
      isplitr; · iexact Hbr
      isplitr; · iexact Hor
      iexact Hlev
    · iexists W; iexact HO
  · unfold due; rw [hk]; iexact Hc

theorem copy_step (k : Own) {src : Memref sig .tc sp s e} {dst : Memref sig .tc sp' s e}
    {hsrc : src.view.WordExact} {hdst : dst.view.WordExact} {hsem : DmaTarget.Typed sp (osem k) (.here dst : DmaTarget nD τ sig .tc sp' s e)}
    (hN : dst.view.dmaCredit = amt k)
    (fs : Buf (Elt F) (src.view.loc (c : Thread nD τ))) (fd : Buf (Elt F) (dst.view.loc (c : Thread nD τ)))
    (hp : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ pay I c k) :
    iprop(Ctx I κ c ∗ (src.view.loc (c : Thread nD τ) ↦[src.view.set]{fullShare} fs)
        ∗ (dst.view.loc (c : Thread nD τ) ↦[dst.view.set]{fullShare} fd) ∗ tok c (some k) 0)
      ⊢ WP c (Prog.lift (.enqueueDma src (.here dst) (osem k) hsrc hdst hsem) : P F PUnit) fun _ => iprop(Ctx I κ c ∗ due c k) := by
  unfold Ctx
  iintro ⟨⟨#Hrec, #Hbr, #Hor, #Hlev⟩, Hs, Hd, Ht⟩
  iapply (Rounds.wp_copy_pointsTo 𝒱₀ ER (sched I) (c : Thread nD τ) none (src := src) (dst := dst) (sem := osem k) (q := fullShare)
      (fs := fs) (fd := fd) (r := 0) (d := 0) (κ := κ (gs c (some k)))
      (by rw [duties_own]; exact Finset.mem_singleton_self _) () (amt k) hN (amount_own I c k 0)
      (by rw [payload_own]; exact hp)) $$ [Hs Hd Ht]
  · isplitr; · iapply (record I κ c (some k)); iexact Hrec
    isplitl [Hs]; · iexact Hs
    isplitl [Hd]; · iexact Hd
    isplitl [Ht]; · iexact Ht
    iapply (isReady c k); iexact Hor
  iintro Hc
  rw [wp_ret]
  imodintro
  isplitr [Hc]
  · isplitr; · iexact Hrec
    isplitr; · iexact Hbr
    isplitr; · iexact Hor
    iexact Hlev
  · iexact Hc

theorem wait_step {s' : Shape} {e' : EltTy} (k : Own) {src : Memref sig .tc sp s e} {dst : Memref sig .tc sp' s' e'}
    {hsrc : src.view.WordExact} {hdst : dst.view.WordExact} (hN : dst.view.dmaCredit = amt k)
    (O : CellTallies nD τ sig Unit) (hO : Above O (lev (some (some k)))) :
    iprop((Ctx I κ c ∗ ow c O) ∗ due c k ∗ at0 c (some k))
      ⊢ WP c (Prog.lift (.waitDma2 (ownSem k) src dst hsrc hdst) : P F PUnit)
        fun _ => iprop((Ctx I κ c ∗ ow c O) ∗ at1 c (some k) ∗ pay I c k) := by
  unfold Ctx
  iintro ⟨⟨⟨#Hrec, #Hbr, #Hor, #Hlev⟩, ⟨%W, HO⟩⟩, Hc, Ha⟩
  iapply (Rounds.wp_wait_rest_token 𝒱₀ ER (sched I) (c : Thread nD τ) none (κ := κ (gs c (some k))) (sm := osem k) (k' := amt k)
      (fun K => (wpE_waitDma2_eq (src := src) (dst := dst) 𝒱₀ (c : Thread nD τ) none Set.univ K).trans (by rw [hN])) (Set.mem_univ _) () (O := O) (W := W) (R := 0) (m := 0) (T := ∅)
      ((Nat.zero_add _).trans (expect_own I c k).symm)) $$ [Hc HO Ha]
  · isplitr; · iapply (record I κ c (some k)); iexact Hrec
    isplitl [Hc]; · iexact Hc
    isplitl [HO]; · iexact HO
    isplitr; · iapply (mayWait c (some k) hO); iexact Hlev
    iexact Ha
  iintro ⟨HO, Ha, -, Hp⟩
  rw [wp_ret]
  imodintro
  isplitr [Ha Hp]
  · isplitr
    · isplitr; · iexact Hrec
      isplitr; · iexact Hbr
      isplitr; · iexact Hor
      iexact Hlev
    · iexists _; iexact HO
  · isplitl [Ha]; · iexact Ha
    iapply (Entails.of_eq (rest_own I c k)) $$ Hp

theorem signal_step (j : Fin 7) (O : CellTallies nD τ sig Unit) :
    iprop((Ctx I κ c ∗ ow c (O + tallyAt (gs n none) () 1)) ∗ tok n none j ∗ barPay n j)
      ⊢ WP c (semSignalWord n bar 1#32 : P F PUnit) fun _ => iprop((Ctx I κ c ∗ ow c O) ∗ emp) := by
  unfold Ctx
  iintro ⟨⟨⟨#Hrec, #Hbr, #Hor, #Hlev⟩, ⟨%W, HO⟩⟩, Ht, Hp⟩
  iapply (Rounds.wp_signal 𝒱₀ ER (sched I) (c : Thread nD τ) none (dst := (n : Thread nD τ)) (sem := bar) (r := 0) (d := j) (κ := κ (gs n none))
      (by rw [duties_bar]; exact Finset.mem_univ _) (amount_bar I n j) () O rfl (W := W)) $$ [HO Ht Hp]
  · isplitr; · iapply (record I κ n none); iexact Hrec
    isplitl [HO]; · iexact HO
    isplitl [Ht]; · iexact Ht
    isplitl [Hp]; · rw [payload_bar]; iexact Hp
    iapply (barReady n); iexact Hbr
  iintro HO
  rw [wp_ret]
  imodintro
  isplitl [HO]
  · isplitr
    · isplitr; · iexact Hrec
      isplitr; · iexact Hbr
      isplitr; · iexact Hor
      iexact Hlev
    · iexists _; iexact HO
  · iempintro

theorem meet_step (O : CellTallies nD τ sig Unit) (hO : Above O 1) :
    iprop((Ctx I κ c ∗ ow c O) ∗ cred (tallyAt (gs c none) () 7) ∗ at0 c none)
      ⊢ WP c (semWaitWord bar 7#32 : P F PUnit)
        fun _ => iprop((Ctx I κ c ∗ ow c O) ∗ at1 c none ∗ bigSep Finset.univ fun j => barPay c j) := by
  unfold Ctx
  iintro ⟨⟨⟨#Hrec, #Hbr, #Hor, #Hlev⟩, ⟨%W, HO⟩⟩, Hc, Ha⟩
  iapply (Rounds.wp_wait_rest_token 𝒱₀ ER (sched I) (c : Thread nD τ) none (κ := κ (gs c none)) (sm := .reg bar) (k' := 7)
      (wpE_semWait_eq 𝒱₀ (c : Thread nD τ) none Set.univ) (Set.mem_univ _) () (O := O) (W := W) (R := 0) (m := 0) (T := ∅)
      ((Nat.zero_add _).trans (expect_bar I c).symm)) $$ [Hc HO Ha]
  · isplitr; · iapply (record I κ c none); iexact Hrec
    isplitl [Hc]; · iexact Hc
    isplitl [HO]; · iexact HO
    isplitr; · iapply (mayWait c none hO); iexact Hlev
    iexact Ha
  iintro ⟨HO, Ha, -, Hp⟩
  rw [wp_ret]
  imodintro
  isplitr [Ha Hp]
  · isplitr
    · isplitr; · iexact Hrec
      isplitr; · iexact Hbr
      isplitr; · iexact Hor
      iexact Hlev
    · iexists _; iexact HO
  · isplitl [Ha]; · iexact Ha
    iapply (Entails.of_eq (rest_bar I c)) $$ Hp

end Ops

end Cert.KernelIdeal.Att
end
-- ==== Proof.Moves.lean ====
/- The kernel's own copies and waits, one at a time: which piece of which buffer each gives and takes. -/
module

public import proofs.«01_k».proof.Proof.Steps

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

/-! ## The pieces, as the views name them -/

theorem at_vKv (o : Fin 7) (f : Vec F S2x2x512x4096 .bf16) :
    (kvAt c (nx c o) f : sProp 𝕄) = ((vKv c o).view.loc (c : Thread nD τ) ↦[(vKv c o).view.set]{fullShare} f) := by rw [set_vKv]
theorem at_vKvOwn (f : Vec F S2x2x512x4096 .bf16) :
    (kvAt c c f : sProp 𝕄) = ((vKvOwn c).view.loc (c : Thread nD τ) ↦[(vKvOwn c).view.set]{fullShare} f) := by rw [set_vKvOwn]
theorem at_vFull (n : Dev nD) (s : Fin 8) (f : Vec F S8x2x2x512x512 .bf16) :
    (fullAt n s f : sProp 𝕄) = ((vFull s).view.loc (n : Thread nD τ) ↦[(vFull s).view.set]{fullShare} f) := by rw [set_vFull]
theorem at_vRs (n : Dev nD) (s : Fin 8) (b : Fin 2) (f : Vec F S8x2x64x768 .bf16) :
    (rsAt n s b f : sProp 𝕄) = ((vRs s b).view.loc (n : Thread nD τ) ↦[(vRs s b).view.set]{fullShare} f) := by rw [set_vRs]
theorem at_vTo (o : Fin 7) (b : Fin 2) (f : Vec F S2x512x768 .bf16) :
    (partAt c b (nx c o) f : sProp 𝕄) = ((vTo c o b).view.loc (c : Thread nD τ) ↦[(vTo c o b).view.set]{fullShare} f) := by rw [set_vTo]
theorem at_vOwn (b : Fin 2) (f : Vec F S2x512x768 .bf16) :
    (partAt c b c f : sProp 𝕄) = ((vOwn c b).view.loc (c : Thread nD τ) ↦[(vOwn c b).view.set]{fullShare} f) := by rw [set_vOwn]
theorem at_vOut (n : Dev nD) (q : PosShare TreeShare) (f : Vec F S2x512x768 .f32) :
    (outAt n c q f : sProp 𝕄) = ((vOut c).view.loc (n : Thread nD τ) ↦[(vOut c).view.set]{q} f) := by rw [set_vOut]

/-! ## What they count for -/

theorem credFull : ∀ s : Fin 8, (vFull s).view.dmaCredit = nKv := by decide +kernel
theorem credKv : ∀ (c : Dev nD) (o : Fin 7), (vKv c o).view.dmaCredit = nKv := by decide +kernel
theorem credRs : ∀ (s : Fin 8) (b : Fin 2), (vRs s b).view.dmaCredit = nRs := by decide +kernel
theorem credTo : ∀ (c : Dev nD) (o : Fin 7) (b : Fin 2), (vTo c o b).view.dmaCredit = nRs := by decide +kernel
theorem credOut : ∀ c : Dev nD, (vOut c).view.dmaCredit = nAg := by decide +kernel
theorem credFrom : ∀ (c : Dev nD) (o : Fin 7), (vFrom c o).view.dmaCredit = nAg := by decide +kernel

/-! ## The copies -/

abbrev own (f : Fam) (o : Fin 7) : Own := .inl (f, o)

theorem sendKv_step (o : Fin 7) (O : CellTallies nD τ sig Unit) :
    iprop((Ctx I κ c ∗ ow c (O + rem (tF c .kvr) o.val)) ∗ kvAt c (nx c o) (I.kv c) ∗ (∃ f, fullAt (nx c o) o.succ f)
        ∗ isReached (nx c o) (some (own .kvr o)) ∗ tok c (some (own .kvs o)) 0 ∗ tok (nx c o) (some (own .kvr o)) 0)
      ⊢ WP c (sendKv c o) fun _ => iprop((Ctx I κ c ∗ ow c (O + rem (tF c .kvr) (o.val + 1))) ∗ due c (own .kvs o)) := by
  rw [rem_step, ← add_assoc, at_vKv]
  iintro ⟨Hc, Hs, ⟨%fd, Hd⟩, Hr, H1, H2⟩
  ihave Hd' := (Entails.of_eq (at_vFull (nx c o) o.succ fd)) $$ Hd
  iapply (send_step I κ c (nx c o) (devKv_eq c o) (own .kvs o) (own .kvr o) (src := vKv c o) (dst := vFull o.succ) (credFull _) rfl (I.kv c) fd fullShare
    (O + rem (tF c .kvr) (o.val + 1)) (Entails.of_eq (at_vKv c o (I.kv c)).symm)
    (Entails.of_eq ((wrote (nx c o) (vFull o.succ).view fd (full I (nx c o)) _ (full_sent I c o)).trans (at_vFull (nx c o) o.succ _).symm)))
  isplitl [Hc]; · iexact Hc
  isplitl [Hs]; · iexact Hs
  isplitl [Hd']; · iexact Hd'
  isplitl [Hr]; · iexact Hr
  isplitl [H1] <;> iassumption

theorem sendRs_step (b : Fin 2) (o : Fin 7) (O : CellTallies nD τ sig Unit) :
    iprop((Ctx I κ c ∗ ow c (O + rem (tF c (.rsr b)) o.val)) ∗ partAt c b (nx c o) (part I c) ∗ (∃ f, rsAt (nx c o) o.succ b f)
        ∗ isReached (nx c o) (some (own (.rsr b) o)) ∗ tok c (some (own (.rss b) o)) 0 ∗ tok (nx c o) (some (own (.rsr b) o)) 0)
      ⊢ WP c (sendRs c b o) fun _ => iprop((Ctx I κ c ∗ ow c (O + rem (tF c (.rsr b)) (o.val + 1))) ∗ due c (own (.rss b) o)) := by
  rw [rem_step, ← add_assoc, at_vTo]
  iintro ⟨Hc, Hs, ⟨%fd, Hd⟩, Hr, H1, H2⟩
  ihave Hd' := (Entails.of_eq (at_vRs (nx c o) o.succ b fd)) $$ Hd
  iapply (send_step I κ c (nx c o) (devRs_eq c b o) (own (.rss b) o) (own (.rsr b) o) (src := vTo c o b) (dst := vRs o.succ b) (credRs _ _) rfl (part I c) fd fullShare
    (O + rem (tF c (.rsr b)) (o.val + 1)) (Entails.of_eq (at_vTo c o b (part I c)).symm)
    (Entails.of_eq ((wrote (nx c o) (vRs o.succ b).view fd (rs I (nx c o)) _ (rs_sent I c b o)).trans (at_vRs (nx c o) o.succ b _).symm)))
  isplitl [Hc]; · iexact Hc
  isplitl [Hs]; · iexact Hs
  isplitl [Hd']; · iexact Hd'
  isplitl [Hr]; · iexact Hr
  isplitl [H1] <;> iassumption

theorem sendOut_step (o : Fin 7) (O : CellTallies nD τ sig Unit) :
    iprop((Ctx I κ c ∗ ow c (O + rem (tF c .agr) o.val)) ∗ outAt c c (lent o) (out I) ∗ (∃ f, outAt (nx c o) c fullShare f)
        ∗ isReached (nx c o) (some (own .agr o)) ∗ tok c (some (own .ags o)) 0 ∗ tok (nx c o) (some (own .agr o)) 0)
      ⊢ WP c (sendOut c o) fun _ => iprop((Ctx I κ c ∗ ow c (O + rem (tF c .agr) (o.val + 1))) ∗ due c (own .ags o)) := by
  rw [rem_step, ← add_assoc, at_vOut]
  iintro ⟨Hc, Hs, ⟨%fd, Hd⟩, Hr, H1, H2⟩
  ihave Hd' := (Entails.of_eq (at_vOut c (nx c o) fullShare fd)) $$ Hd
  iapply (send_step I κ c (nx c o) (devAg_eq c o) (own .ags o) (own .agr o) (src := vOut c) (dst := vOut c) (credOut c) rfl (out I) fd (lent o)
    (O + rem (tF c .agr) (o.val + 1)) (Entails.of_eq (at_vOut c c (lent o) (out I)).symm)
    (Entails.of_eq (((wrote (nx c o) (vOut c).view fd (out I) _ rfl).trans (at_vOut c (nx c o) fullShare _).symm).trans
      (show (outAt (nx c o) c fullShare (out I) : sProp 𝕄) = outAt (nx c o) (nx (nx c o) o.rev) fullShare (out I) by rw [nx_rev]))))
  isplitl [Hc]; · iexact Hc
  isplitl [Hs]; · iexact Hs
  isplitl [Hd']; · iexact Hd'
  isplitl [Hr]; · iexact Hr
  isplitl [H1] <;> iassumption

theorem sendOwn_step :
    iprop(Ctx I κ c ∗ kvAt c c (I.kv c) ∗ (∃ f, fullAt c 0 f) ∗ tok c (some (.inr 0)) 0)
      ⊢ WP c (sendOwn c) fun _ => iprop(Ctx I κ c ∗ due c (.inr 0)) := by
  rw [at_vKvOwn]
  iintro ⟨Hc, Hs, ⟨%fd, Hd⟩, Ht⟩
  ihave Hd' := (Entails.of_eq (at_vFull c 0 fd)) $$ Hd
  iapply (copy_step I κ c (.inr 0) (src := vKvOwn c) (dst := vFull 0) (credFull _) (I.kv c) fd
    (Entails.of_eq (by rw [wrote c (vFull 0).view fd (full I c) _ (full_own I c), ← at_vFull, ← at_vKvOwn]; rfl)))
  isplitl [Hc]; · iexact Hc
  isplitl [Hs]; · iexact Hs
  isplitl [Hd'] <;> iassumption

theorem pay_loc (b : Fin 2) : pay I c (.inr b.succ) = iprop(rsAt c 0 b (rs I c) ∗ partAt c b c (part I c)) := by
  match b with
  | 0 => rfl
  | 1 => rfl
theorem amt_loc (b : Fin 2) : amt (.inr b.succ) = nRs := by
  match b with
  | 0 => rfl
  | 1 => rfl
theorem lev_loc (k : Fin 3) : lev (some (some (.inr k))) = 0 := rfl

theorem keepRs_step (b : Fin 2) :
    iprop(Ctx I κ c ∗ partAt c b c (part I c) ∗ (∃ f, rsAt c 0 b f) ∗ tok c (some (.inr b.succ)) 0)
      ⊢ WP c (keepRs c b) fun _ => iprop(Ctx I κ c ∗ due c (.inr b.succ)) := by
  rw [at_vOwn]
  iintro ⟨Hc, Hs, ⟨%fd, Hd⟩, Ht⟩
  ihave Hd' := (Entails.of_eq (at_vRs c 0 b fd)) $$ Hd
  iapply (copy_step I κ c (.inr b.succ) (src := vOwn c b) (dst := vRs 0 b) ((credRs _ _).trans (amt_loc b).symm) (part I c) fd
    (Entails.of_eq (by rw [wrote c (vRs 0 b).view fd (rs I c) _ (rs_own I c b), ← at_vRs, ← at_vOwn, pay_loc])))
  isplitl [Hc]; · iexact Hc
  isplitl [Hs]; · iexact Hs
  isplitl [Hd'] <;> iassumption

/-! ## The waits -/

theorem waitKv_step (o : Fin 7) (O : CellTallies nD τ sig Unit) (hO : Above O 2) :
    iprop((Ctx I κ c ∗ ow c O) ∗ due c (own .kvr o) ∗ at0 c (some (own .kvr o)))
      ⊢ WP c (waitKv c o) fun _ => iprop((Ctx I κ c ∗ ow c O) ∗ at1 c (some (own .kvr o)) ∗ fullAt c o.succ (full I c)) :=
  wait_step I κ c (own .kvr o) (src := vKv c o) (dst := vFull o.succ) (credFull _) O hO
theorem sentKv_step (o : Fin 7) (O : CellTallies nD τ sig Unit) (hO : Above O 0) :
    iprop((Ctx I κ c ∗ ow c O) ∗ due c (own .kvs o) ∗ at0 c (some (own .kvs o)))
      ⊢ WP c (sentKv c o) fun _ => iprop((Ctx I κ c ∗ ow c O) ∗ at1 c (some (own .kvs o)) ∗ kvAt c (nx c o) (I.kv c)) :=
  wait_step I κ c (own .kvs o) (src := vFull o.succ) (dst := vKv c o) (credKv _ _) O hO
theorem waitOwn_step (O : CellTallies nD τ sig Unit) (hO : Above O 0) :
    iprop((Ctx I κ c ∗ ow c O) ∗ due c (.inr 0) ∗ at0 c (some (.inr 0)))
      ⊢ WP c (waitOwn c) fun _ => iprop((Ctx I κ c ∗ ow c O) ∗ at1 c (some (.inr 0)) ∗ fullAt c 0 (full I c) ∗ kvAt c c (I.kv c)) :=
  wait_step I κ c (.inr 0) (src := vKvOwn c) (dst := vFull 0) (credFull _) O hO
theorem waitRs_step (b : Fin 2) (o : Fin 7) (O : CellTallies nD τ sig Unit) (hO : Above O 3) :
    iprop((Ctx I κ c ∗ ow c O) ∗ due c (own (.rsr b) o) ∗ at0 c (some (own (.rsr b) o)))
      ⊢ WP c (waitRs c b o) fun _ => iprop((Ctx I κ c ∗ ow c O) ∗ at1 c (some (own (.rsr b) o)) ∗ rsAt c o.succ b (rs I c)) :=
  wait_step I κ c (own (.rsr b) o) (src := vTo c o b) (dst := vRs o.succ b) (credRs _ _) O hO
theorem sentRs_step (b : Fin 2) (o : Fin 7) (O : CellTallies nD τ sig Unit) (hO : Above O 0) :
    iprop((Ctx I κ c ∗ ow c O) ∗ due c (own (.rss b) o) ∗ at0 c (some (own (.rss b) o)))
      ⊢ WP c (sentRs c b o) fun _ => iprop((Ctx I κ c ∗ ow c O) ∗ at1 c (some (own (.rss b) o)) ∗ partAt c b (nx c o) (part I c)) :=
  wait_step I κ c (own (.rss b) o) (src := vRs o.succ b) (dst := vTo c o b) (credTo _ _ _) O hO
theorem keptRs_step (b : Fin 2) (O : CellTallies nD τ sig Unit) (hO : Above O 0) :
    iprop((Ctx I κ c ∗ ow c O) ∗ due c (.inr b.succ) ∗ at0 c (some (.inr b.succ)))
      ⊢ WP c (keptRs b) fun _ => iprop((Ctx I κ c ∗ ow c O) ∗ at1 c (some (.inr b.succ)) ∗ rsAt c 0 b (rs I c) ∗ partAt c b c (part I c)) := by
  rw [← pay_loc]
  exact wait_step I κ c (.inr b.succ) (src := vTop b) (dst := vRs 0 b) ((credRs _ _).trans (amt_loc b).symm) O hO
theorem waitOut_step (o : Fin 7) (O : CellTallies nD τ sig Unit) (hO : Above O 4) :
    iprop((Ctx I κ c ∗ ow c O) ∗ due c (own .agr o) ∗ at0 c (some (own .agr o)))
      ⊢ WP c (waitOut c o) fun _ => iprop((Ctx I κ c ∗ ow c O) ∗ at1 c (some (own .agr o)) ∗ outAt c (nx c o.rev) fullShare (out I)) :=
  wait_step I κ c (own .agr o) (src := vOut0) (dst := vFrom c o) (credFrom _ _) O hO
theorem sentOut_step (o : Fin 7) (O : CellTallies nD τ sig Unit) (hO : Above O 0) :
    iprop((Ctx I κ c ∗ ow c O) ∗ due c (own .ags o) ∗ at0 c (some (own .ags o)))
      ⊢ WP c (sentOut c o) fun _ => iprop((Ctx I κ c ∗ ow c O) ∗ at1 c (some (own .ags o)) ∗ outAt c c (lent o) (out I)) :=
  wait_step I κ c (own .ags o) (src := vOut c) (dst := vOut c) (credOut _) O hO

/-- The signal to the `o`-th next device: it gives away the places its copies will fill here. -/
theorem bar_step (o : Fin 7) (O : CellTallies nD τ sig Unit) :
    iprop((Ctx I κ c ∗ ow c (O + rem (tB c) o.val)) ∗ tok (nx c o) none o.rev
        ∗ (∃ f, fullAt c o.rev.succ f) ∗ (bigSep Finset.univ fun b : Fin 2 => iprop(∃ f, rsAt c o.rev.succ b f)) ∗ (∃ f, outAt c (nx c o) fullShare f))
      ⊢ WP c (semSignalWord (devBar c o) bar 1#32) fun _ => iprop((Ctx I κ c ∗ ow c (O + rem (tB c) (o.val + 1))) ∗ emp) := by
  rw [rem_step, ← add_assoc, devBar_eq]
  iintro ⟨⟨#Hc, HO⟩, Ht, Hf, Hrs, Hout⟩
  iapply (signal_step I κ c (nx c o) o.rev (O + rem (tB c) (o.val + 1)))
  isplitl [HO]
  · isplitr; · iexact Hc
    iexact HO
  isplitl [Ht]; · iexact Ht
  unfold barPay Ctx
  rw [nx_rev]
  icases Hc with ⟨-, -, #Hor, -⟩
  isplitl [Hf]; · iexact Hf
  isplitr; · iapply (isReady c (own .kvr o.rev)); iexact Hor
  isplitl [Hrs]
  · ihave H := (Entails.of_eq (bigSep_univ_two (fun b : Fin 2 => (iprop(∃ f, rsAt c o.rev.succ b f) : sProp 𝕄)))) $$ Hrs
    iapply (Entails.of_eq (bigSep_univ_two (fun b : Fin 2 => (iprop((∃ f, rsAt c o.rev.succ b f)
      ∗ reached ER (gs c (some (.inl (.rsr b, o.rev)))) 0) : sProp 𝕄))).symm)
    icases H with ⟨H0, H1⟩
    isplitl [H0]
    · isplitl [H0]; · iexact H0
      iapply (isReady c (own (.rsr 0) o.rev)); iexact Hor
    · isplitl [H1]; · iexact H1
      iapply (isReady c (own (.rsr 1) o.rev)); iexact Hor
  isplitl [Hout]; · iexact Hout
  iapply (isReady c (own .agr o.rev)); iexact Hor

end Cert.KernelIdeal.Att
end
-- ==== Proof.Local.lean ====
/- What the device computes between its copies: one class of query blocks against one slot, one batch's
   projection, the sum of the gathered partial rows. -/
module

public import proofs.«01_k».proof.Proof.Moves

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access

variable {c : Dev nD} {cs : CoreSpace} {s : Shape} {e : EltTy} {α : Type}

theorem load_cut {m : Memref sig .tc cs s e} {r : Rect s} {hl : m.view.LoadsAt r.toLoadRect} {k : (r.shape.Idx → Elt F e) → P F α}
    {Q : α → sProp 𝕄} {S : Finset (Idx ((m.access r).loc (c : Thread nD τ)))} {q : PosShare TreeShare}
    {f : Buf (Elt F) ((m.access r).loc (c : Thread nD τ))} (hS : (m.access r).set ⊆ S) :
    iprop(((m.access r).loc (c : Thread nD τ) ↦[S]{q} f)
      ∗ (((m.access r).loc (c : Thread nD τ) ↦[S]{q} f) -∗ WP c (k ((m.access r).read (Elt F) f)) Q))
      ⊢ WP c (Prog.lift (.load m r.toLoadRect hl) >>= k) Q := by
  iintro ⟨H, HK⟩
  iapply (wp_load_rect 𝒱₀ (c : Thread nD τ) none Set.univ (m := m) (r := r) (hl := hl) (k := k) hS) $$ H
  iexact HK

theorem store_cut {m : Memref sig .tc cs s e} {r : Rect s} {w : r.shape.Idx → Elt F e} {hx : (m.access r).Stores Finset.univ}
    {hm : (Finset.univ : Finset r.shape.Idx) = Finset.univ ∨ ∀ a, r.stride a = 1} {k : PUnit → P F α}
    {Q : α → sProp 𝕄} {S : Finset (Idx ((m.access r).loc (c : Thread nD τ)))}
    {f : Buf (Elt F) ((m.access r).loc (c : Thread nD τ))} (hS : (m.access r).set ⊆ S) :
    iprop(((m.access r).loc (c : Thread nD τ) ↦[S]{fullShare} f)
      ∗ (((m.access r).loc (c : Thread nD τ) ↦[S]{fullShare} ((m.access r).write (Elt F) f w Finset.univ)) -∗ WP c (k ⟨⟩) Q))
      ⊢ WP c (Prog.lift (.store m r w Finset.univ hx hm) >>= k) Q := by
  iintro ⟨H, HK⟩
  iapply (wp_store 𝒱₀ (c : Thread nD τ) none Set.univ (m := m) (r := r) (w := w) (hx := hx) (hm := hm) (k := k) hS) $$ H
  iexact HK

theorem done {a : α} (Q : α → sProp 𝕄) : Q a ⊢ WP c (Prog.ret a : P F α) Q := by
  unfold WP
  rw [wp_ret]
  iintro H
  imodintro
  iexact H

theorem bind_ret (p : P F PUnit) (Q : PUnit → sProp 𝕄) : WP c (p >>= fun _ => Prog.ret ⟨⟩) Q ⊢ WP c p Q := by
  unfold WP
  rw [wp_bind]
  refine (wp_mono (Q' := fun a => iprop(|={Set.univ}=> Q a)) _ _ _ fun a => ?_).trans (wp_fupd _ _ _ _ _)
  cases a
  exact (wp_ret _ _ _ _ _).le

end Access

variable (I : Ins F) (κ : GSem nD τ sig → ℕ) (c : Dev nD)

abbrev aS (b : Fin 2) (k : Fin 4) := mS.access (Rect.unit (s := S2x4x128x8) ![b.val, k.val, 0, 0] S1x1x128x8.size (inbS b k))
abbrev aC (b : Fin 2) (k : Fin 4) := mC.access (Rect.unit (s := S2x4x128x512) ![b.val, k.val, 0, 0] S1x1x128x512.size (inbC b k))
theorem set_aS (b : Fin 2) (k : Fin 4) : (aS b k).set = sSet b k :=
  (View.set_slice_whole _ _).trans (set_two (n₀ := 2) (n₁ := 4) (n₂ := 128) (n₃ := 8) b k (inbS b k))
theorem set_aC (b : Fin 2) (k : Fin 4) : (aC b k).set = cSet b k :=
  (View.set_slice_whole _ _).trans (set_two (n₀ := 2) (n₁ := 4) (n₂ := 128) (n₃ := 512) b k (inbC b k))
theorem sub_blk (s : Fin 8) (w b h : Fin 2) (k : Fin 4) :
    (mFull.access (Rect.unit (s := S8x2x2x512x512) ![s.val, w.val, b.val, 256 * h.val + 64 * k.val, 0] S1x1x1x64x512.size (inbBlk s w b h k))).set ⊆ slotSet s :=
  (View.set_slice_whole _ _).le.trans (set_blk s w b h k)

theorem ldBlk_cut {α : Type} (s : Fin 8) (w b h : Fin 2) (k : Fin 4) {p : Vec F S1x1x1x64x512 .bf16 → P F α} {Q : α → sProp 𝕄} :
    iprop(fullAt c s (full I c) ∗ (fullAt c s (full I c) -∗ WP c (p (blkv I c s w b h k)) Q)) ⊢ WP c (ldBlk s w b h k >>= p) Q :=
  load_cut (m := mFull) (r := Rect.unit (s := S8x2x2x512x512) ![s.val, w.val, b.val, 256 * h.val + 64 * k.val, 0] S1x1x1x64x512.size (inbBlk s w b h k))
    (S := slotSet s) (q := fullShare) (f := full I c) (sub_blk s w b h k)
theorem ldS_cut {α : Type} (b : Fin 2) (k : Fin 4) (f : Vec F S2x4x128x8 .f32) {p : Vec F S1x1x128x8 .f32 → P F α} {Q : α → sProp 𝕄} :
    iprop(sAt c b k f ∗ (sAt c b k f -∗ WP c (p ((aS b k).read (Elt F) f)) Q)) ⊢ WP c (ldS b k >>= p) Q :=
  load_cut (m := mS) (r := Rect.unit (s := S2x4x128x8) ![b.val, k.val, 0, 0] S1x1x128x8.size (inbS b k))
    (S := sSet b k) (q := fullShare) (f := f) (set_aS b k).le
theorem ldC_cut {α : Type} (b : Fin 2) (k : Fin 4) (f : Vec F S2x4x128x512 .f32) {p : Vec F S1x1x128x512 .f32 → P F α} {Q : α → sProp 𝕄} :
    iprop(cAt c b k f ∗ (cAt c b k f -∗ WP c (p ((aC b k).read (Elt F) f)) Q)) ⊢ WP c (ldC b k >>= p) Q :=
  load_cut (m := mC) (r := Rect.unit (s := S2x4x128x512) ![b.val, k.val, 0, 0] S1x1x128x512.size (inbC b k))
    (S := cSet b k) (q := fullShare) (f := f) (set_aC b k).le
theorem stS_cut {α : Type} (b : Fin 2) (k : Fin 4) (f : Vec F S2x4x128x8 .f32) (v : FVec F S1x1x128x8 .f32) {p : PUnit → P F α} {Q : α → sProp 𝕄} :
    iprop(sAt c b k f ∗ (sAt c b k ((aS b k).write (Elt F) f v Finset.univ) -∗ WP c (p ⟨⟩) Q)) ⊢ WP c (stS b k v >>= p) Q :=
  store_cut (m := mS) (r := Rect.unit (s := S2x4x128x8) ![b.val, k.val, 0, 0] S1x1x128x8.size (inbS b k))
    (S := sSet b k) (f := f) (set_aS b k).le
theorem stC_cut {α : Type} (b : Fin 2) (k : Fin 4) (f : Vec F S2x4x128x512 .f32) (v : FVec F S1x1x128x512 .f32) {p : PUnit → P F α} {Q : α → sProp 𝕄} :
    iprop(cAt c b k f ∗ (cAt c b k ((aC b k).write (Elt F) f v Finset.univ) -∗ WP c (p ⟨⟩) Q)) ⊢ WP c (stC b k v >>= p) Q :=
  store_cut (m := mC) (r := Rect.unit (s := S2x4x128x512) ![b.val, k.val, 0, 0] S1x1x128x512.size (inbC b k))
    (S := cSet b k) (f := f) (set_aC b k).le

/-- The accumulators of batch `b`, class `k` after slots `0, …, n`. -/
def acc (b : Fin 2) (k : Fin 4) (n : ℕ) : sProp 𝕄 :=
  iprop((∃ f, ⌜(aS b k).read (Elt F) f = sVal I c b k n⌝ ∗ sAt c b k f) ∗ (∃ f, ⌜(aC b k).read (Elt F) f = cVal I c b k n⌝ ∗ cAt c b k f))

theorem first_step (b : Fin 2) (k : Fin 4) :
    iprop(fullAt c 0 (full I c) ∗ (∃ f, sAt c b k f) ∗ (∃ f, cAt c b k f))
      ⊢ WP c (first (qRows (xv I c) (wv I c)) b k) fun _ => iprop(fullAt c 0 (full I c) ∗ acc I c b k 0) := by
  unfold first
  iintro ⟨Hf, ⟨%fs, Hs⟩, ⟨%fc, Hc⟩⟩
  iapply (ldBlk_cut I c 0 0 b 0 k); isplitl [Hf]; · iexact Hf
  iintro Hf
  iapply (ldBlk_cut I c 0 1 b 0 k); isplitl [Hf]; · iexact Hf
  iintro Hf
  iapply (ldBlk_cut I c 0 0 b 1 k); isplitl [Hf]; · iexact Hf
  iintro Hf
  iapply (ldBlk_cut I c 0 1 b 1 k); isplitl [Hf]; · iexact Hf
  iintro Hf
  iapply (ldS_cut c b k fs); isplitl [Hs]; · iexact Hs
  iintro Hs
  iapply (stS_cut c b k fs _); isplitl [Hs]; · iexact Hs
  iintro Hs
  iapply (ldC_cut c b k fc); isplitl [Hc]; · iexact Hc
  iintro Hc
  iapply bind_ret
  iapply (stC_cut c b k fc _); isplitl [Hc]; · iexact Hc
  iintro Hc
  iapply done
  isplitl [Hf]; · iexact Hf
  unfold acc
  isplitl [Hs]
  · iexists _; isplitr [Hs]; swap; · iexact Hs
    ipureintro; exact View.read_write_univ _ _
  · iexists _; isplitr [Hc]; swap; · iexact Hc
    ipureintro; exact View.read_write_univ _ _

theorem more_step (n : ℕ) (b : Fin 2) (k : Fin 4) :
    iprop(fullAt c (slotOf (n + 1)) (full I c) ∗ acc I c b k n)
      ⊢ WP c (more (qRows (xv I c) (wv I c)) (slotOf (n + 1)) b k) fun _ => iprop(fullAt c (slotOf (n + 1)) (full I c) ∗ acc I c b k (n + 1)) := by
  unfold more
  generalize hs : slotOf (n + 1) = s
  unfold acc
  iintro ⟨Hf, ⟨%fs, %es, Hs⟩, ⟨%fc, %ec, Hc⟩⟩
  iapply (ldBlk_cut I c s 0 b 0 k); isplitl [Hf]; · iexact Hf
  iintro Hf
  iapply (ldBlk_cut I c s 1 b 0 k); isplitl [Hf]; · iexact Hf
  iintro Hf
  iapply (ldBlk_cut I c s 0 b 1 k); isplitl [Hf]; · iexact Hf
  iintro Hf
  iapply (ldBlk_cut I c s 1 b 1 k); isplitl [Hf]; · iexact Hf
  iintro Hf
  iapply (ldS_cut c b k fs); isplitl [Hs]; · iexact Hs
  iintro Hs
  iapply (ldS_cut c b k fs); isplitl [Hs]; · iexact Hs
  iintro Hs
  iapply (stS_cut c b k fs _); isplitl [Hs]; · iexact Hs
  iintro Hs
  iapply (ldC_cut c b k fc); isplitl [Hc]; · iexact Hc
  iintro Hc
  iapply (ldC_cut c b k fc); isplitl [Hc]; · iexact Hc
  iintro Hc
  iapply bind_ret
  iapply (stC_cut c b k fc _); isplitl [Hc]; · iexact Hc
  iintro Hc
  iapply done
  isplitl [Hf]; · iexact Hf
  isplitl [Hs]
  · iexists _; isplitr [Hs]; swap; · iexact Hs
    ipureintro
    rw [View.read_write_univ, sVal, hs, ← es]
  · iexists _; isplitr [Hc]; swap; · iexact Hc
    ipureintro
    rw [View.read_write_univ, cVal, hs, ← ec]

/-! ## The sum of the gathered rows -/

theorem reduce_step :
    iprop(whole c cc0_scratch2 (rs I c) ∗ (∃ f, outAt c c fullShare f))
      ⊢ WP c (reduce c) fun _ => iprop(whole c cc0_scratch2 (rs I c) ∗ outAt c c fullShare (out I)) := by
  have hset : (mOut.access (Rect.unit (s := S2x512x768) (k0_off7 c) S2x64x768.size (k0_off7_inb c))).set = outSet c :=
    (View.set_slice_whole _ _).trans (set_out c _ _ (offRed c))
  unfold reduce
  iintro ⟨Hr, ⟨%f, Ho⟩⟩
  iapply (load_cut (m := mRs) (r := Rect.unit (s := S8x2x64x768) ![0, 0, 0, 0] S8x2x64x768.size inb_S8x2x64x768_S8x2x64x768_0_0_0_0) (S := Finset.univ) (q := fullShare) (f := rs I c) (Finset.subset_univ _)); isplitl [Hr]; · iexact Hr
  iintro Hr
  iapply (load_cut (m := mOut) (r := Rect.unit (s := S2x512x768) (k0_off7 c) S2x64x768.size (k0_off7_inb c)) (S := outSet c) (q := fullShare) (f := f) hset.le); isplitl [Ho]; · iexact Ho
  iintro Ho
  iapply bind_ret
  iapply (store_cut (m := mOut) (r := Rect.unit (s := S2x512x768) (k0_off7 c) S2x64x768.size (k0_off7_inb c)) (S := outSet c) (f := f) hset.le); isplitl [Ho]; · iexact Ho
  iintro Ho
  iapply done
  isplitl [Hr]; · iexact Hr
  have e := wrote c (mOut.access (Rect.unit (s := S2x512x768) (k0_off7 c) S2x64x768.size (k0_off7_inb c))) (q := fullShare) f (out I) _ (out_stored I c)
  rw [hset] at e
  unfold rsv at e
  iapply (Entails.of_eq e) $$ Ho

end Cert.KernelIdeal.Att
end
-- ==== Proof.Phases.lean ====
/- The loops of the kernel: every copy to the other devices, every wait, every class of query blocks. -/
module

public import proofs.«01_k».proof.Proof.Local

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One for each of seven, of two, of four, of every device. -/
abbrev all7 (Φ : Fin 7 → sProp 𝕄) : sProp 𝕄 := bigSep Finset.univ Φ
abbrev all2 (Φ : Fin 2 → sProp 𝕄) : sProp 𝕄 := bigSep Finset.univ Φ
abbrev all4 (Φ : Fin 4 → sProp 𝕄) : sProp 𝕄 := bigSep Finset.univ Φ
abbrev allD (Φ : Dev nD → sProp 𝕄) : sProp 𝕄 := bigSep Finset.univ Φ
abbrev all8 (Φ : Fin 8 → sProp 𝕄) : sProp 𝕄 := bigSep Finset.univ Φ

/-! ## Another order -/

theorem univ_nx : ∀ c : Dev nD, (Finset.univ : Finset (Dev nD)) = insert c (Finset.univ.image (nx c)) := by decide +kernel
theorem self_notMem : ∀ c : Dev nD, c ∉ Finset.univ.image (nx c) := by decide +kernel

theorem all_nx (c : Dev nD) (Φ : Dev nD → sProp 𝕄) : allD Φ = iprop(Φ c ∗ all7 fun o => Φ (nx c o)) := by
  show bigSep (Finset.univ : Finset (Dev nD)) Φ = _
  rw [univ_nx c, bigSep_insert (self_notMem c), bigSep_image_of_injOn]
  · rfl
  · exact fun a _ b _ h => nx_inj c a b h

theorem all_succ (Φ : Fin 8 → sProp 𝕄) : all8 Φ = iprop(Φ 0 ∗ all7 fun o => Φ o.succ) := by
  show bigSep (Finset.univ : Finset (Fin 8)) Φ = _
  rw [Fin.univ_succ, Finset.cons_eq_insert, bigSep_insert (by simp [Fin.succ_ne_zero]), bigSep_map]
  rfl

theorem all_rev (Φ : Fin 7 → sProp 𝕄) : all7 Φ = all7 fun o => Φ o.rev := bigSep_univ_equiv Fin.revPerm Φ

variable (I : Ins F) (κ : GSem nD τ sig → ℕ) (c : Dev nD)

abbrev Run (O : CellTallies nD τ sig Unit) : sProp 𝕄 := iprop(Ctx I κ c ∗ ow c O)

/-! ## The copies -/

theorem meet_all (O : CellTallies nD τ sig Unit) :
    iprop(Run I κ c (O + rem (tB c) 0) ∗ (all7 fun o => tok (nx c o) none o.rev) ∗ (all7 fun o => iprop(∃ f, fullAt c o.succ f))
        ∗ (all7 fun o => all2 fun b => iprop(∃ f, rsAt c o.succ b f)) ∗ (all7 fun o => iprop(∃ f, outAt c (nx c o) fullShare f)))
      ⊢ WP c (seq7 fun o => semSignalWord (devBar c o) bar 1#32) fun _ => Run I κ c O := by
  have h := seq7_wp (c := c) (fun n => Run I κ c (O + rem (tB c) n)) _ _ _ (fun o => bar_step I κ c o O)
  simp only [bigSep_sep', rem_last, add_zero] at h
  rw [all_rev (fun o => iprop(∃ f, fullAt c o.succ f)), all_rev (fun o => all2 fun b => iprop(∃ f, rsAt c o.succ b f))]
  refine h.trans (wp_mono _ _ _ fun _ => ?_)
  iintro ⟨H, -⟩
  iexact H

theorem sendKv_all (O : CellTallies nD τ sig Unit) :
    iprop(Run I κ c (O + rem (tF c .kvr) 0) ∗ (all7 fun o => kvAt c (nx c o) (I.kv c)) ∗ (all7 fun o => iprop(∃ f, fullAt (nx c o) o.succ f))
        ∗ (all7 fun o => isReached (nx c o) (some (own .kvr o))) ∗ (all7 fun o => tok c (some (own .kvs o)) 0)
        ∗ (all7 fun o => tok (nx c o) (some (own .kvr o)) 0))
      ⊢ WP c (seq7 (sendKv c)) fun _ => iprop(Run I κ c O ∗ all7 fun o => due c (own .kvs o)) := by
  have h := seq7_wp (c := c) (fun n => Run I κ c (O + rem (tF c .kvr) n)) _ _ (sendKv c) (fun o => sendKv_step I κ c o O)
  simp only [bigSep_sep', rem_last, add_zero] at h
  exact h

theorem sendRs_all (b : Fin 2) (O : CellTallies nD τ sig Unit) :
    iprop(Run I κ c (O + rem (tF c (.rsr b)) 0) ∗ (all7 fun o => partAt c b (nx c o) (part I c)) ∗ (all7 fun o => iprop(∃ f, rsAt (nx c o) o.succ b f))
        ∗ (all7 fun o => isReached (nx c o) (some (own (.rsr b) o))) ∗ (all7 fun o => tok c (some (own (.rss b) o)) 0)
        ∗ (all7 fun o => tok (nx c o) (some (own (.rsr b) o)) 0))
      ⊢ WP c (seq7 (sendRs c b)) fun _ => iprop(Run I κ c O ∗ all7 fun o => due c (own (.rss b) o)) := by
  have h := seq7_wp (c := c) (fun n => Run I κ c (O + rem (tF c (.rsr b)) n)) _ _ (sendRs c b) (fun o => sendRs_step I κ c b o O)
  simp only [bigSep_sep', rem_last, add_zero] at h
  exact h

theorem sendOut_all :
    iprop(Run I κ c (owedA c) ∗ (all7 fun o => outAt c c (lent o) (out I)) ∗ (all7 fun o => iprop(∃ f, outAt (nx c o) c fullShare f))
        ∗ (all7 fun o => isReached (nx c o) (some (own .agr o))) ∗ (all7 fun o => tok c (some (own .ags o)) 0)
        ∗ (all7 fun o => tok (nx c o) (some (own .agr o)) 0))
      ⊢ WP c (seq7 (sendOut c)) fun _ => iprop(Run I κ c 0 ∗ all7 fun o => due c (own .ags o)) := by
  have h := seq7_wp (c := c) (fun n => Run I κ c (0 + rem (tF c .agr) n)) _ _ (sendOut c) (fun o => sendOut_step I κ c o 0)
  simp only [bigSep_sep', rem_last, zero_add] at h
  exact h

/-! ## The waits -/

theorem waitRs_all (O : CellTallies nD τ sig Unit) (hO : Above O 3) :
    iprop(Run I κ c O ∗ (all2 fun b => all7 fun o => due c (own (.rsr b) o)) ∗ (all2 fun b => all7 fun o => at0 c (some (own (.rsr b) o))))
      ⊢ WP c (seq2 fun b => seq7 (waitRs c b)) fun _ => iprop(Run I κ c O ∗ (all2 fun b => all7 fun o => at1 c (some (own (.rsr b) o)))
        ∗ all2 fun b => all7 fun o => rsAt c o.succ b (rs I c)) := by
  have h := seq2_wp (c := c) (fun _ => Run I κ c O) _ _ (fun b => seq7 (waitRs c b))
    (fun b => seq7_wp (c := c) (fun _ => Run I κ c O) _ _ (waitRs c b) fun o => waitRs_step I κ c b o O hO)
  simp only [bigSep_sep'] at h
  exact h
theorem sentRs_all (O : CellTallies nD τ sig Unit) (hO : Above O 0) :
    iprop(Run I κ c O ∗ (all2 fun b => all7 fun o => due c (own (.rss b) o)) ∗ (all2 fun b => all7 fun o => at0 c (some (own (.rss b) o))))
      ⊢ WP c (seq2 fun b => seq7 (sentRs c b)) fun _ => iprop(Run I κ c O ∗ (all2 fun b => all7 fun o => at1 c (some (own (.rss b) o)))
        ∗ all2 fun b => all7 fun o => partAt c b (nx c o) (part I c)) := by
  have h := seq2_wp (c := c) (fun _ => Run I κ c O) _ _ (fun b => seq7 (sentRs c b))
    (fun b => seq7_wp (c := c) (fun _ => Run I κ c O) _ _ (sentRs c b) fun o => sentRs_step I κ c b o O hO)
  simp only [bigSep_sep'] at h
  exact h
theorem keptRs_all (O : CellTallies nD τ sig Unit) (hO : Above O 0) :
    iprop(Run I κ c O ∗ (all2 fun b => due c (.inr b.succ)) ∗ (all2 fun b => at0 c (some (.inr b.succ))))
      ⊢ WP c (seq2 keptRs) fun _ => iprop(Run I κ c O ∗ (all2 fun b => at1 c (some (.inr b.succ)))
        ∗ (all2 fun b => rsAt c 0 b (rs I c)) ∗ all2 fun b => partAt c b c (part I c)) := by
  have h := seq2_wp (c := c) (fun _ => Run I κ c O) _ _ keptRs (fun b => keptRs_step I κ c b O hO)
  simp only [bigSep_sep'] at h
  exact h
theorem waitOut_all (O : CellTallies nD τ sig Unit) (hO : Above O 4) :
    iprop(Run I κ c O ∗ (all7 fun o => due c (own .agr o)) ∗ (all7 fun o => at0 c (some (own .agr o))))
      ⊢ WP c (seq7 (waitOut c)) fun _ => iprop(Run I κ c O ∗ (all7 fun o => at1 c (some (own .agr o)))
        ∗ all7 fun o => outAt c (nx c o) fullShare (out I)) := by
  have h := seq7_wp (c := c) (fun _ => Run I κ c O) _ _ (waitOut c) (fun o => waitOut_step I κ c o O hO)
  simp only [bigSep_sep'] at h
  rw [all_rev (fun o => outAt c (nx c o) fullShare (out I))]
  exact h
theorem sentOut_all (O : CellTallies nD τ sig Unit) (hO : Above O 0) :
    iprop(Run I κ c O ∗ (all7 fun o => due c (own .ags o)) ∗ (all7 fun o => at0 c (some (own .ags o))))
      ⊢ WP c (seq7 (sentOut c)) fun _ => iprop(Run I κ c O ∗ (all7 fun o => at1 c (some (own .ags o)))
        ∗ all7 fun o => outAt c c (lent o) (out I)) := by
  have h := seq7_wp (c := c) (fun _ => Run I κ c O) _ _ (sentOut c) (fun o => sentOut_step I κ c o O hO)
  simp only [bigSep_sep'] at h
  exact h
theorem sentKv_all (O : CellTallies nD τ sig Unit) (hO : Above O 0) :
    iprop(Run I κ c O ∗ (all7 fun o => due c (own .kvs o)) ∗ (all7 fun o => at0 c (some (own .kvs o))))
      ⊢ WP c (seq7 (sentKv c)) fun _ => iprop(Run I κ c O ∗ (all7 fun o => at1 c (some (own .kvs o)))
        ∗ all7 fun o => kvAt c (nx c o) (I.kv c)) := by
  have h := seq7_wp (c := c) (fun _ => Run I κ c O) _ _ (sentKv c) (fun o => sentKv_step I κ c o O hO)
  simp only [bigSep_sep'] at h
  exact h

/-! ## The attention -/

/-- All accumulators after slots `0, …, n`. -/
def accs (n : ℕ) : sProp 𝕄 := all2 fun b => all4 fun k => acc I c b k n

theorem first_all :
    iprop(fullAt c 0 (full I c) ∗ (all2 fun b => all4 fun k => iprop(∃ f, sAt c b k f)) ∗ (all2 fun b => all4 fun k => iprop(∃ f, cAt c b k f)))
      ⊢ WP c (seq2 fun b => seq4 fun k => first (qRows (xv I c) (wv I c)) b k) fun _ => iprop(fullAt c 0 (full I c) ∗ accs I c 0) := by
  have h := seq2_wp (c := c) (fun _ => fullAt c 0 (full I c)) _ _ (fun b => seq4 fun k => first (qRows (xv I c) (wv I c)) b k)
    (fun b => seq4_wp (c := c) (fun _ => fullAt c 0 (full I c)) _ _ (fun k => first (qRows (xv I c) (wv I c)) b k) fun k => first_step I c b k)
  simp only [bigSep_sep'] at h
  exact h

theorem more_all (n : ℕ) :
    iprop(fullAt c (slotOf (n + 1)) (full I c) ∗ accs I c n)
      ⊢ WP c (seq2 fun b => seq4 fun k => more (qRows (xv I c) (wv I c)) (slotOf (n + 1)) b k) fun _ =>
        iprop(fullAt c (slotOf (n + 1)) (full I c) ∗ accs I c (n + 1)) :=
  seq2_wp (c := c) (fun _ => fullAt c (slotOf (n + 1)) (full I c)) _ _ _
    (fun b => seq4_wp (c := c) (fun _ => fullAt c (slotOf (n + 1)) (full I c)) _ _ _ fun k => more_step I c n b k)

theorem slotOf_succ (o : Fin 7) : slotOf (o.val + 1) = o.succ := Fin.ext (Nat.mod_eq_of_lt (by have := o.isLt; omega))

theorem seq7_two (R : ℕ → sProp 𝕄) (p1 p2 q1 q2 : Fin 7 → sProp 𝕄) (f : Fin 7 → P F PUnit)
    (h : ∀ i : Fin 7, iprop(R i.val ∗ p1 i ∗ p2 i) ⊢ WP c (f i) fun _ => iprop(R (i.val + 1) ∗ q1 i ∗ q2 i)) :
    iprop(R 0 ∗ all7 p1 ∗ all7 p2) ⊢ WP c (seq7 f) fun _ => iprop(R 7 ∗ all7 q1 ∗ all7 q2) := by
  have h := seq7_wp (c := c) R _ _ f h
  simp only [bigSep_sep'] at h
  exact h

/-- The `o`-th later slot: its wait, and all classes against it. -/
def slot (o : Fin 7) : P F PUnit := do
  waitKv c o
  seq2 fun b => seq4 fun k => more (qRows (xv I c) (wv I c)) o.succ b k

theorem slots_all (O : CellTallies nD τ sig Unit) (hO : Above O 2) :
    iprop((Run I κ c O ∗ accs I c 0) ∗ (all7 fun o => due c (own .kvr o)) ∗ (all7 fun o => at0 c (some (own .kvr o))))
      ⊢ WP c (seq7 (slot I c)) fun _ =>
        iprop((Run I κ c O ∗ accs I c 7) ∗ (all7 fun o => at1 c (some (own .kvr o))) ∗ (all7 fun o => fullAt c o.succ (full I c))) := by
  suffices hs : ∀ o : Fin 7, iprop((Run I κ c O ∗ accs I c o.val) ∗ due c (own .kvr o) ∗ at0 c (some (own .kvr o)))
      ⊢ WP c (slot I c o) fun _ =>
        iprop((Run I κ c O ∗ accs I c (o.val + 1)) ∗ at1 c (some (own .kvr o)) ∗ fullAt c o.succ (full I c)) by
    exact seq7_two c (fun n => iprop(Run I κ c O ∗ accs I c n)) _ _ _ _ (slot I c) hs
  intro o
  have hm := more_all I c o.val
  rw [slotOf_succ] at hm
  have h2 : iprop((Run I κ c O ∗ at1 c (some (own .kvr o)) ∗ fullAt c o.succ (full I c)) ∗ accs I c o.val)
      ⊢ WP c (seq2 fun b => seq4 fun k => more (qRows (xv I c) (wv I c)) o.succ b k) fun _ =>
        iprop((Run I κ c O ∗ accs I c (o.val + 1)) ∗ at1 c (some (own .kvr o)) ∗ fullAt c o.succ (full I c)) := by
    iintro ⟨⟨HR, H1, Hf⟩, HA⟩
    iapply ((framed (R := iprop(Run I κ c O ∗ at1 c (some (own .kvr o)))) hm).trans (wp_mono (Q' := fun _ =>
      iprop((Run I κ c O ∗ accs I c (o.val + 1)) ∗ at1 c (some (own .kvr o)) ∗ fullAt c o.succ (full I c))) _ _ _ (fun _ => ?_)))
    · iintro ⟨⟨Hf, HA⟩, HR, H1⟩
      isplitl [HR HA]
      · isplitl [HR] <;> iassumption
      isplitl [H1] <;> iassumption
    isplitl [Hf HA]
    · isplitl [Hf] <;> iassumption
    isplitl [HR] <;> iassumption
  iintro ⟨⟨HR, HA⟩, Hd⟩
  unfold slot
  iapply (cut (waitKv_step I κ c o O hO)); isplitl [HR Hd]
  · isplitl [HR] <;> iassumption
  iintro %a H
  iapply h2
  isplitl [H] <;> iassumption

end Cert.KernelIdeal.Att
end
-- ==== Proof.Finish.lean ====
/- One batch's projection: the stored rows go to their devices. -/
module

public import proofs.«01_k».proof.Proof.Phases

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

theorem all4_eq (Φ : Fin 4 → sProp 𝕄) : all4 Φ = iprop(Φ 0 ∗ Φ 1 ∗ Φ 2 ∗ Φ 3) := by
  show bigSep Finset.univ Φ = _
  rw [bigSep_univ_eq_bigSepL [0, 1, 2, 3] (by decide) (by decide) Φ]
  rfl

abbrev rPart (b : Fin 2) : Rect S2x512x768 := Rect.unit (s := S2x512x768) ![b.val, 0, 0] S1x512x768.size (inbPart b)
theorem set_aPart (b : Fin 2) : (mPart.access (rPart b)).set = batchSet b := (View.set_slice_whole _ _).trans (set_batch b)

/-- What batch `b` needs besides the debts: its accumulators, its rows, the places they go to. -/
def finPre (b : Fin 2) : sProp 𝕄 :=
  iprop((all4 fun k => acc I c b k 7) ∗ (∃ f, batchAt c b f) ∗ (∃ f, rsAt c 0 b f) ∗ tok c (some (.inr b.succ)) 0
    ∗ (all7 fun o => iprop(∃ f, rsAt (nx c o) o.succ b f)) ∗ (all7 fun o => isReached (nx c o) (some (own (.rsr b) o)))
    ∗ (all7 fun o => tok c (some (own (.rss b) o)) 0) ∗ (all7 fun o => tok (nx c o) (some (own (.rsr b) o)) 0))
def finPost (b : Fin 2) : sProp 𝕄 :=
  iprop((all4 fun k => acc I c b k 7) ∗ due c (.inr b.succ) ∗ all7 fun o => due c (own (.rss b) o))

theorem finish_step (b : Fin 2) (O : CellTallies nD τ sig Unit) :
    iprop((Run I κ c (O + rem (tF c (.rsr b)) 0) ∗ whole c cc0_stg3_0 (I.wo c)) ∗ finPre I c b)
      ⊢ WP c (finish c b) fun _ => iprop((Run I κ c O ∗ whole c cc0_stg3_0 (I.wo c)) ∗ finPost I c b) := by
  unfold finish finPre finPost
  rw [all4_eq]
  unfold acc
  iintro ⟨⟨⟨#HC, HO⟩, Hwo⟩, ⟨⟨⟨%f0, %e0, H0⟩, ⟨%g0, %d0, K0⟩⟩, ⟨⟨%f1, %e1, H1⟩, ⟨%g1, %d1, K1⟩⟩, ⟨⟨%f2, %e2, H2⟩, ⟨%g2, %d2, K2⟩⟩,
    ⟨⟨%f3, %e3, H3⟩, ⟨%g3, %d3, K3⟩⟩⟩, ⟨%fp, Hp⟩, Hr0, Ht, Hr, Hre, Hts, Htr⟩
  iapply (ldS_cut c b 0 f0); isplitl [H0]; · iexact H0
  iintro H0
  iapply (ldC_cut c b 0 g0); isplitl [K0]; · iexact K0
  iintro K0
  iapply (ldS_cut c b 1 f1); isplitl [H1]; · iexact H1
  iintro H1
  iapply (ldC_cut c b 1 g1); isplitl [K1]; · iexact K1
  iintro K1
  iapply (ldS_cut c b 2 f2); isplitl [H2]; · iexact H2
  iintro H2
  iapply (ldC_cut c b 2 g2); isplitl [K2]; · iexact K2
  iintro K2
  iapply (ldS_cut c b 3 f3); isplitl [H3]; · iexact H3
  iintro H3
  iapply (ldC_cut c b 3 g3); isplitl [K3]; · iexact K3
  iintro K3
  iapply (load_cut (m := mWo) (r := Rect.unit (s := S512x768) ![0, 0] S512x768.size inb_S512x768_S512x768_0_0) (S := Finset.univ) (q := fullShare) (f := I.wo c) (Finset.subset_univ _)); isplitl [Hwo]; · iexact Hwo
  iintro Hwo
  iapply (load_cut (m := mPart) (r := rPart b) (S := batchSet b) (q := fullShare) (f := fp) (set_aPart b).le); isplitl [Hp]; · iexact Hp
  iintro Hp
  rw [e0, e1, e2, e3, d0, d1, d2, d3]
  iapply (store_cut (m := mPart) (r := rPart b) (S := batchSet b) (f := fp) (set_aPart b).le); isplitl [Hp]; · iexact Hp
  iintro Hp
  have e := wrote c (mPart.access (rPart b)) (q := fullShare) fp (part I c) _ (part_stored I c b)
  rw [set_aPart] at e
  unfold partB wov at e
  ihave Hp := (Entails.of_eq (e.trans ((split_rows c b (part I c)).trans (all_nx c fun d => partAt c b d (part I c))))) $$ Hp
  icases Hp with ⟨Hp, Hps⟩
  iapply (cut (keepRs_step I κ c b)); isplitl [Hp Hr0 Ht]
  · isplitr; · iexact HC
    isplitl [Hp]; · iexact Hp
    isplitl [Hr0] <;> iassumption
  iintro %a ⟨-, Hd⟩
  iapply bind_ret
  iapply (cut (sendRs_all I κ c b O)); isplitl [HO Hps Hr Hre Hts Htr]
  · isplitl [HO]
    · isplitr; · iexact HC
      iexact HO
    isplitl [Hps]; · iexact Hps
    isplitl [Hr]; · iexact Hr
    isplitl [Hre]; · iexact Hre
    isplitl [Hts] <;> iassumption
  iintro %a ⟨HR, Hds⟩
  iapply done
  isplitl [HR Hwo]
  · isplitl [HR] <;> iassumption
  isplitr [Hd Hds]
  · isplitl [H0 K0]
    · isplitl [H0]
      · iexists f0; isplitr; · ipureintro; exact e0
        iexact H0
      · iexists g0; isplitr; · ipureintro; exact d0
        iexact K0
    isplitl [H1 K1]
    · isplitl [H1]
      · iexists f1; isplitr; · ipureintro; exact e1
        iexact H1
      · iexists g1; isplitr; · ipureintro; exact d1
        iexact K1
    isplitl [H2 K2]
    · isplitl [H2]
      · iexists f2; isplitr; · ipureintro; exact e2
        iexact H2
      · iexists g2; isplitr; · ipureintro; exact d2
        iexact K2
    isplitl [H3]
    · iexists f3; isplitr; · ipureintro; exact e3
      iexact H3
    · iexists g3; isplitr; · ipureintro; exact d3
      iexact K3
  isplitl [Hd] <;> iassumption

theorem finish_all :
    iprop((Run I κ c (owedR0 c) ∗ whole c cc0_stg3_0 (I.wo c)) ∗ all2 (finPre I c))
      ⊢ WP c (seq2 (finish c)) fun _ => iprop((Run I κ c (owedA c) ∗ whole c cc0_stg3_0 (I.wo c)) ∗ all2 (finPost I c)) :=
  seq2_wp (c := c) (fun n => iprop(Run I κ c (match n with | 0 => owedR0 c | 1 => owedR1 c | _ => owedA c) ∗ whole c cc0_stg3_0 (I.wo c)))
    (finPre I c) (finPost I c) (finish c) fun b => match b with
      | 0 => finish_step I κ c 0 (owedR1 c)
      | 1 => finish_step I κ c 1 (owedA c)

end Cert.KernelIdeal.Att
end
-- ==== Proof.Run.lean ====
/- A device's whole run: from its buffers and its part of the promises to the result. -/
module

public import proofs.«01_k».proof.Proof.Finish

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

/-! ## Buffers in pieces -/

theorem given {A : Type} (Φ : A → sProp 𝕄) (a : A) : Φ a ⊢ iprop(∃ a, Φ a) := by
  iintro H
  iexists a
  iexact H

theorem cut_kv (f : Vec F S2x2x512x4096 .bf16) : (whole c cc0_stg2_0 f : sProp 𝕄) = iprop(kvAt c c f ∗ all7 fun o => kvAt c (nx c o) f) :=
  (split_kv c f).trans (all_nx c fun d => kvAt c d f)
theorem cut_full (f : Vec F S8x2x2x512x512 .bf16) : (whole c cc0_scratch0 f : sProp 𝕄) = iprop(fullAt c 0 f ∗ all7 fun o => fullAt c o.succ f) :=
  (split_full c f).trans (all_succ fun s => fullAt c s f)
theorem cut_out (f : Vec F S2x512x768 .f32) :
    (whole c cc0_stg4_0 f : sProp 𝕄) = iprop(outAt c c fullShare f ∗ all7 fun o => outAt c (nx c o) fullShare f) :=
  (split_out c f).trans (all_nx c fun d => outAt c d fullShare f)
theorem cut_rs (f : Vec F S8x2x64x768 .bf16) :
    (whole c cc0_scratch2 f : sProp 𝕄) = iprop((all2 fun b => rsAt c 0 b f) ∗ all7 fun o => all2 fun b => rsAt c o.succ b f) :=
  ((split_rs c f).trans (bigSep_univ_prod fun p : Fin 8 × Fin 2 => rsAt c p.1 p.2 f)).trans (all_succ fun s => all2 fun b => rsAt c s b f)
theorem cut_rs' (f : Vec F S8x2x64x768 .bf16) :
    (whole c cc0_scratch2 f : sProp 𝕄) = iprop((all2 fun b => rsAt c 0 b f) ∗ all2 fun b => all7 fun o => rsAt c o.succ b f) :=
  (cut_rs c f).trans (congrArg (fun X => iprop((all2 fun b => rsAt c 0 b f) ∗ X)) (bigSep_univ_comm fun (o : Fin 7) (b : Fin 2) => (rsAt c o.succ b f : sProp 𝕄)))
theorem cut_part (f : Vec F S2x512x768 .bf16) :
    (whole c cc0_scratch1 f : sProp 𝕄) = iprop((all2 fun b => partAt c b c f) ∗ all2 fun b => all7 fun o => partAt c b (nx c o) f) := by
  rw [split_batch, ← bigSep_sep']
  congr 1
  funext b
  exact (split_rows c b f).trans (all_nx c fun d => partAt c b d f)
theorem cut_s (f : Vec F S2x4x128x8 .f32) : (whole c cc0_scratch3 f : sProp 𝕄) ⊢ all2 fun b => all4 fun k => iprop(∃ f, sAt c b k f) :=
  (Entails.of_eq ((split_s c f).trans (bigSep_univ_prod fun p : Fin 2 × Fin 4 => sAt c p.1 p.2 f))).trans
    (bigSep_mono fun b _ => bigSep_mono fun k _ => given (fun f => sAt c b k f) f)
theorem cut_c (f : Vec F S2x4x128x512 .f32) : (whole c cc0_scratch4 f : sProp 𝕄) ⊢ all2 fun b => all4 fun k => iprop(∃ f, cAt c b k f) :=
  (Entails.of_eq ((split_c c f).trans (bigSep_univ_prod fun p : Fin 2 × Fin 4 => cAt c p.1 p.2 f))).trans
    (bigSep_mono fun b _ => bigSep_mono fun k _ => given (fun f => cAt c b k f) f)

theorem uncut_accs (f : Vec F S2x4x128x8 .f32) (g : Vec F S2x4x128x512 .f32) :
    accs I c 7 ⊢ iprop((∃ f, whole c cc0_scratch3 f) ∗ ∃ f, whole c cc0_scratch4 f) := by
  have h : ∀ (b : Fin 2) (k : Fin 4), acc I c b k 7 ⊢ iprop((∃ f, sAt c b k f) ∗ ∃ f, cAt c b k f) := fun b k => by
    unfold acc
    iintro ⟨⟨%f, -, H⟩, ⟨%g, -, K⟩⟩
    isplitl [H]
    · iexists f; iexact H
    · iexists g; iexact K
  have h0 : accs I c 7 ⊢ iprop((all2 fun b => all4 fun k => iprop(∃ f, sAt c b k f)) ∗ all2 fun b => all4 fun k => iprop(∃ f, cAt c b k f)) :=
    (bigSep_mono fun b _ => bigSep_mono fun k _ => h b k).trans (Entails.of_eq ((bigSep_congr fun b _ => bigSep_sep' _ _ _).trans (bigSep_sep' _ _ _)))
  have h1 := join_s (F := F) c f
  have h2 := join_c (F := F) c g
  rw [bigSep_univ_prod] at h1 h2
  iintro H
  ihave H := h0 $$ H
  icases H with ⟨H, K⟩
  isplitl [H]
  · iapply h1; iexact H
  · iapply h2; iexact K

/-! ## What a device is given -/

/-- One for each of the kernel's own semaphores. -/
def owns (Φ : Own → sProp 𝕄) : sProp 𝕄 :=
  iprop((all7 fun o => Φ (own .kvs o)) ∗ (all7 fun o => Φ (own .kvr o)) ∗ (all2 fun b => all7 fun o => Φ (own (.rss b) o))
    ∗ (all2 fun b => all7 fun o => Φ (own (.rsr b) o)) ∗ (all7 fun o => Φ (own .ags o)) ∗ (all7 fun o => Φ (own .agr o))
    ∗ Φ (.inr 0) ∗ all2 fun b => Φ (.inr b.succ))

/-- The right to pay each copy's and each signal's dues. -/
def toks : sProp 𝕄 :=
  iprop((all7 fun o => tok (nx c o) none o.rev) ∗ (all7 fun o => tok c (some (own .kvs o)) 0) ∗ (all7 fun o => tok (nx c o) (some (own .kvr o)) 0)
    ∗ (all2 fun b => all7 fun o => tok c (some (own (.rss b) o)) 0) ∗ (all2 fun b => all7 fun o => tok (nx c o) (some (own (.rsr b) o)) 0)
    ∗ (all7 fun o => tok c (some (own .ags o)) 0) ∗ (all7 fun o => tok (nx c o) (some (own .agr o)) 0)
    ∗ tok c (some (.inr 0)) 0 ∗ all2 fun b => tok c (some (.inr b.succ)) 0)

/-- What the other devices owe this one. -/
def dues : sProp 𝕄 :=
  iprop(cred (tallyAt (gs c none) () 7) ∗ (all7 fun o => due c (own .kvr o)) ∗ (all2 fun b => all7 fun o => due c (own (.rsr b) o))
    ∗ all7 fun o => due c (own .agr o))

/-- What the other devices' signals bring. -/
theorem pays_split : (all7 fun j => barPay (F := F) c j) = iprop((all7 fun o => iprop(∃ f, fullAt (nx c o) o.succ f))
    ∗ (all7 fun o => isReached (nx c o) (some (own .kvr o))) ∗ ((all2 fun b => all7 fun o => iprop(∃ f, rsAt (nx c o) o.succ b f))
    ∗ all2 fun b => all7 fun o => isReached (nx c o) (some (own (.rsr b) o)))
    ∗ (all7 fun o => iprop(∃ f, outAt (nx c o) c fullShare f)) ∗ all7 fun o => isReached (nx c o) (some (own .agr o))) := by
  unfold barPay
  simp only [bigSep_sep']
  rw [bigSep_univ_comm (fun (o : Fin 7) (b : Fin 2) => (iprop(∃ f, rsAt (nx c o) o.succ b f) : sProp 𝕄)),
    bigSep_univ_comm (fun (o : Fin 7) (b : Fin 2) => (isReached (nx c o) (some (own (.rsr b) o)) : sProp 𝕄))]

theorem finPre_all : all2 (finPre I c) = iprop(accs I c 7 ∗ (all2 fun b => iprop(∃ f, batchAt c b f)) ∗ (all2 fun b => iprop(∃ f, rsAt c 0 b f))
    ∗ (all2 fun b => tok c (some (.inr b.succ)) 0) ∗ (all2 fun b => all7 fun o => iprop(∃ f, rsAt (nx c o) o.succ b f))
    ∗ (all2 fun b => all7 fun o => isReached (nx c o) (some (own (.rsr b) o)))
    ∗ (all2 fun b => all7 fun o => tok c (some (own (.rss b) o)) 0) ∗ (all2 fun b => all7 fun o => tok (nx c o) (some (own (.rsr b) o)) 0)) := by
  unfold finPre accs
  simp only [bigSep_sep']
theorem finPost_all : all2 (finPost I c) = iprop(accs I c 7 ∗ (all2 fun b => due c (.inr b.succ)) ∗ all2 fun b => all7 fun o => due c (own (.rss b) o)) := by
  unfold finPost accs
  simp only [bigSep_sep']

/-! ## After the copies in -/

/-- The second half: what is left of the run once the local keys and values are on their way. -/
theorem rest_run (f1 : Vec F S2x512x768 .bf16) :
    iprop((Run I κ c (owedR0 c) ∗ whole c cc0_stg3_0 (I.wo c)) ∗ accs I c 7 ∗ whole c cc0_scratch1 f1 ∗ (all2 fun b => iprop(∃ f, rsAt c 0 b f))
        ∗ (all2 fun b => tok c (some (.inr b.succ)) 0) ∗ (all2 fun b => all7 fun o => iprop(∃ f, rsAt (nx c o) o.succ b f))
        ∗ (all2 fun b => all7 fun o => isReached (nx c o) (some (own (.rsr b) o)))
        ∗ (all2 fun b => all7 fun o => tok c (some (own (.rss b) o)) 0) ∗ (all2 fun b => all7 fun o => tok (nx c o) (some (own (.rsr b) o)) 0)
        ∗ (all2 fun b => at0 c (some (.inr b.succ))) ∗ (all2 fun b => all7 fun o => due c (own (.rsr b) o))
        ∗ (all2 fun b => all7 fun o => at0 c (some (own (.rsr b) o))) ∗ (∃ f, outAt c c fullShare f))
      ⊢ WP c (do
          seq2 (finish c)
          seq2 keptRs
          seq2 fun b => seq7 (waitRs c b)
          reduce c) fun _ =>
        iprop(Run I κ c (owedA c) ∗ whole c cc0_stg3_0 (I.wo c) ∗ accs I c 7 ∗ (all2 fun b => all7 fun o => due c (own (.rss b) o))
          ∗ (all2 fun b => at1 c (some (.inr b.succ))) ∗ (all2 fun b => partAt c b c (part I c))
          ∗ (all2 fun b => all7 fun o => at1 c (some (own (.rsr b) o))) ∗ whole c cc0_scratch2 (rs I c) ∗ outAt c c fullShare (out I)) := by
  iintro ⟨HR, Ha, Hp, Hr0, Ht, Hr, Hre, Hts, Htr, Hak, Hdr, Har, Ho⟩
  iapply (cut (finish_all I κ c)); isplitl [HR Ha Hp Hr0 Ht Hr Hre Hts Htr]
  · isplitl [HR]; · iexact HR
    iapply (Entails.of_eq (finPre_all I c).symm)
    isplitl [Ha]; · iexact Ha
    isplitl [Hp]
    · iapply ((Entails.of_eq (split_batch c f1)).trans (bigSep_mono fun b _ => given (fun f => batchAt c b f) f1)) $$ Hp
    isplitl [Hr0]; · iexact Hr0
    isplitl [Ht]; · iexact Ht
    isplitl [Hr]; · iexact Hr
    isplitl [Hre]; · iexact Hre
    isplitl [Hts] <;> iassumption
  iintro %a ⟨⟨HR, Hwo⟩, H⟩
  ihave H' := (Entails.of_eq (finPost_all I c)) $$ H
  icases H' with ⟨Ha, Hd, Hds⟩
  iapply (cut (keptRs_all I κ c (owedA c) (above_A c 0 (by decide)))); isplitl [HR Hd Hak]
  · isplitl [HR]; · iexact HR
    isplitl [Hd] <;> iassumption
  iintro %a ⟨HR, H1, Hr0, Hp0⟩
  iapply (cut (waitRs_all I κ c (owedA c) (above_A c 3 (by decide)))); isplitl [HR Hdr Har]
  · isplitl [HR]; · iexact HR
    isplitl [Hdr] <;> iassumption
  iintro %a ⟨HR, H2, Hrs⟩
  iapply bind_ret
  iapply (cut (reduce_step I c)); isplitl [Hr0 Hrs Ho]
  · isplitl [Hr0 Hrs]
    · iapply (Entails.of_eq (cut_rs' c (rs I c)).symm)
      isplitl [Hr0] <;> iassumption
    iexact Ho
  iintro %a ⟨Hrs, Ho⟩
  iapply done
  isplitl [HR]; · iexact HR
  isplitl [Hwo]; · iexact Hwo
  isplitl [Ha]; · iexact Ha
  isplitl [Hds]; · iexact Hds
  isplitl [H1]; · iexact H1
  isplitl [Hp0]; · iexact Hp0
  isplitl [H2]; · iexact H2
  isplitl [Hrs] <;> iassumption

/-- The last part: the result's rows to every device, and the waits for all that was sent. -/
theorem last_run :
    iprop(Run I κ c (owedA c) ∗ outAt c c fullShare (out I) ∗ (all7 fun o => iprop(∃ f, outAt (nx c o) c fullShare f))
        ∗ (all7 fun o => isReached (nx c o) (some (own .agr o))) ∗ (all7 fun o => tok c (some (own .ags o)) 0)
        ∗ (all7 fun o => tok (nx c o) (some (own .agr o)) 0) ∗ (all7 fun o => due c (own .agr o)) ∗ (all7 fun o => at0 c (some (own .agr o)))
        ∗ (all7 fun o => due c (own .kvs o)) ∗ (all7 fun o => at0 c (some (own .kvs o)))
        ∗ (all2 fun b => all7 fun o => due c (own (.rss b) o)) ∗ (all2 fun b => all7 fun o => at0 c (some (own (.rss b) o)))
        ∗ (all7 fun o => at0 c (some (own .ags o))))
      ⊢ WP c (do
          seq7 (sendOut c)
          seq7 (waitOut c)
          seq7 (sentKv c)
          seq2 fun b => seq7 (sentRs c b)
          seq7 (sentOut c)) fun _ =>
        iprop(Run I κ c 0 ∗ whole c cc0_stg4_0 (out I) ∗ (all7 fun o => kvAt c (nx c o) (I.kv c)) ∗ (all2 fun b => all7 fun o => partAt c b (nx c o) (part I c))
          ∗ (all7 fun o => at1 c (some (own .agr o))) ∗ (all7 fun o => at1 c (some (own .kvs o)))
          ∗ (all2 fun b => all7 fun o => at1 c (some (own (.rss b) o))) ∗ (all7 fun o => at1 c (some (own .ags o)))) := by
  iintro ⟨HR, Ho, Hod, Hre, Hts, Htr, Hdr, Har, Hdk, Hak, Hds, Has, Haa⟩
  ihave Ho := (Transfers.pointsTo_toks_split fullShare 7) $$ Ho
  icases Ho with ⟨Ho, Hl⟩
  iapply (cut (sendOut_all I κ c)); isplitl [HR Hl Hod Hre Hts Htr]
  · isplitl [HR]; · iexact HR
    isplitl [Hl]; · iexact Hl
    isplitl [Hod]; · iexact Hod
    isplitl [Hre]; · iexact Hre
    isplitl [Hts] <;> iassumption
  iintro %a ⟨HR, Hda⟩
  iapply (cut (waitOut_all I κ c 0 (above_zero 4))); isplitl [HR Hdr Har]
  · isplitl [HR]; · iexact HR
    isplitl [Hdr] <;> iassumption
  iintro %a ⟨HR, H1, Hos⟩
  iapply (cut (sentKv_all I κ c 0 (above_zero 0))); isplitl [HR Hdk Hak]
  · isplitl [HR]; · iexact HR
    isplitl [Hdk] <;> iassumption
  iintro %a ⟨HR, H2, Hks⟩
  iapply (cut (sentRs_all I κ c 0 (above_zero 0))); isplitl [HR Hds Has]
  · isplitl [HR]; · iexact HR
    isplitl [Hds] <;> iassumption
  iintro %a ⟨HR, H3, Hps⟩
  iapply bind_ret
  iapply (cut (sentOut_all I κ c 0 (above_zero 0))); isplitl [HR Hda Haa]
  · isplitl [HR]; · iexact HR
    isplitl [Hda] <;> iassumption
  iintro %a ⟨HR, H4, Hl⟩
  iapply done
  isplitl [HR]; · iexact HR
  isplitl [Ho Hl Hos]
  · iapply (Entails.of_eq (cut_out c (out I)).symm)
    isplitl [Ho Hl]
    · iapply (Transfers.pointsTo_toks_join fullShare 7)
      isplitl [Ho] <;> iassumption
    iexact Hos
  isplitl [Hks]; · iexact Hks
  isplitl [Hps]; · iexact Hps
  isplitl [H1]; · iexact H1
  isplitl [H2]; · iexact H2
  isplitl [H3] <;> iassumption

end Cert.KernelIdeal.Att
end
-- ==== Proof.BodyRun.lean ====
/- A device's whole run, put together. -/
module

public import proofs.«01_k».proof.Proof.Run

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (κ : GSem nD τ sig → ℕ) (c : Dev nD)

/-- The program after the copies in, in three parts. -/
theorem work_parts (x : Vec F S2x512x768 .f32) (w : Vec F S768x512 .f32) : work (F := F) c x w = (do
    waitOwn c
    seq2 fun b => seq4 fun k => first (qRows x w) b k
    seq7 fun o => do
      waitKv c o
      seq2 fun b => seq4 fun k => more (qRows x w) o.succ b k
    (do
      seq2 (finish c)
      seq2 keptRs
      seq2 fun b => seq7 (waitRs c b)
      reduce c : P F PUnit)
    (do
      seq7 (sendOut c)
      seq7 (waitOut c)
      seq7 (sentKv c)
      seq2 fun b => seq7 (sentRs c b)
      seq7 (sentOut c) : P F PUnit)) := by
  unfold work
  simp only [bind_assoc]

theorem device_cut {α : Type} (k : Dev nD → P F α) (Q : α → sProp 𝕄) : WP c (k c) Q ⊢ WP c (Prog.lift .deviceId >>= k) Q :=
  by
  show _ ⊢ WP c (.op .deviceId fun d => Prog.ret d >>= k) Q
  unfold WP
  rw [wp_deviceId]
  iintro H
  iexact H

theorem givenAll {J A : Type} [Fintype J] (Φ : J → A → sProp 𝕄) (a : A) :
    (bigSep Finset.univ fun j => Φ j a) ⊢ (bigSep Finset.univ fun j => iprop(∃ a, Φ j a)) := bigSep_mono fun j _ => given (Φ j) a
theorem givenAll2 {J K A : Type} [Fintype J] [Fintype K] (Φ : J → K → A → sProp 𝕄) (a : A) :
    (bigSep Finset.univ fun j => bigSep Finset.univ fun k => Φ j k a) ⊢ (bigSep Finset.univ fun j => bigSep Finset.univ fun k => iprop(∃ a, Φ j k a)) :=
  bigSep_mono fun j _ => givenAll (Φ j) a

/-- The buffers at the start: the inputs, and whatever the others hold. -/
def bufs0 : sProp 𝕄 :=
  iprop(whole c cc0_stg0_0 (I.x c) ∗ whole c cc0_stg1_0 (I.wq c) ∗ whole c cc0_stg2_0 (I.kv c) ∗ whole c cc0_stg3_0 (I.wo c)
    ∗ (∃ f, whole c cc0_stg4_0 f) ∗ (∃ f, whole c cc0_scratch0 f) ∗ (∃ f, whole c cc0_scratch1 f) ∗ (∃ f, whole c cc0_scratch2 f)
    ∗ (∃ f, whole c cc0_scratch3 f) ∗ (∃ f, whole c cc0_scratch4 f))
/-- The buffers at the end: the result besides. -/
def bufs1 : sProp 𝕄 :=
  iprop(whole c cc0_stg0_0 (I.x c) ∗ whole c cc0_stg1_0 (I.wq c) ∗ whole c cc0_stg2_0 (I.kv c) ∗ whole c cc0_stg3_0 (I.wo c)
    ∗ whole c cc0_stg4_0 (out I) ∗ (∃ f, whole c cc0_scratch0 f) ∗ (∃ f, whole c cc0_scratch1 f) ∗ (∃ f, whole c cc0_scratch2 f)
    ∗ (∃ f, whole c cc0_scratch3 f) ∗ (∃ f, whole c cc0_scratch4 f))

theorem body_run :
    iprop(Run I κ c (O₀ c) ∗ toks c ∗ (at0 c none ∗ owns fun k => at0 c (some k)) ∗ dues c ∗ bufs0 I c)
      ⊢ WP c body fun _ => iprop(Run I κ c 0 ∗ (at1 c none ∗ owns fun k => at1 c (some k)) ∗ bufs1 I c) := by
  unfold toks owns dues bufs0 bufs1 body
  iintro ⟨HR, ⟨Tb, Tks, Tkr, Trs, Trr, Tas, Tar, To, Tl⟩, ⟨Ab, Aks, Akr, Ars, Arr, Aas, Aar, Ao, Al⟩, ⟨Db, Dkr, Drr, Dar⟩,
    Bx, Bw, Bk, Bo, ⟨%f4, Bout⟩, ⟨%g0, S0⟩, ⟨%g1, S1⟩, ⟨%g2, S2⟩, ⟨%g3, S3⟩, ⟨%g4, S4⟩⟩
  ihave S0 := (Entails.of_eq (cut_full c g0)) $$ S0
  icases S0 with ⟨F0, Fs⟩
  ihave S2 := (Entails.of_eq (cut_rs c g2)) $$ S2
  icases S2 with ⟨R0, Rs⟩
  ihave Bout := (Entails.of_eq (cut_out c f4)) $$ Bout
  icases Bout with ⟨O0, Os⟩
  ihave Bk := (Entails.of_eq (cut_kv c (I.kv c))) $$ Bk
  icases Bk with ⟨K0, Ks⟩
  iapply (device_cut c)
  iapply (cut (meet_all I κ c (owedK c))); isplitl [HR Tb Fs Rs Os]
  · isplitl [HR]; · iexact HR
    isplitl [Tb]; · iexact Tb
    isplitl [Fs]; · iapply (givenAll (fun (o : Fin 7) f => fullAt c o.succ f) g0) $$ Fs
    isplitl [Rs]; · iapply (givenAll2 (fun (o : Fin 7) (b : Fin 2) f => rsAt c o.succ b f) g2) $$ Rs
    iapply (givenAll (fun (o : Fin 7) f => outAt c (nx c o) fullShare f) f4) $$ Os
  iintro %a HR
  iapply (cut (meet_step I κ c (owedK c) (above_K c 1 (by decide)))); isplitl [HR Db Ab]
  · isplitl [HR]; · iexact HR
    isplitl [Db] <;> iassumption
  iintro %a ⟨HR, Ab, P⟩
  ihave P := (Entails.of_eq (pays_split c)) $$ P
  icases P with ⟨Pf, Pk, ⟨Pr, Prr⟩, Po, Pa⟩
  iapply (cut (sendKv_all I κ c (owedR0 c))); isplitl [HR Ks Pf Pk Tks Tkr]
  · isplitl [HR]; · iexact HR
    isplitl [Ks]; · iexact Ks
    isplitl [Pf]; · iexact Pf
    isplitl [Pk]; · iexact Pk
    isplitl [Tks] <;> iassumption
  iintro %a ⟨⟨#HC, HO⟩, Dks⟩
  iapply (cut (sendOwn_step I κ c)); isplitl [K0 F0 To]
  · isplitr; · iexact HC
    isplitl [K0]; · iexact K0
    isplitl [F0]; · iexists g0; iexact F0
    iexact To
  iintro %a ⟨-, Do⟩
  iapply (load_cut (m := mX) (r := Rect.unit (s := S2x512x768) ![0, 0, 0] S2x512x768.size inb_S2x512x768_S2x512x768_0_0_0) (S := Finset.univ) (q := fullShare) (f := I.x c) (Finset.subset_univ _)); isplitl [Bx]; · iexact Bx
  iintro Bx
  iapply (load_cut (m := mWq) (r := Rect.unit (s := S768x512) ![0, 0] S768x512.size inb_S768x512_S768x512_0_0) (S := Finset.univ) (q := fullShare) (f := I.wq c) (Finset.subset_univ _)); isplitl [Bw]; · iexact Bw
  iintro Bw
  iapply (Entails.of_eq (congrArg (fun p => WP c p _) (work_parts c (xv I c) (wv I c)).symm))
  iapply (cut (waitOwn_step I κ c (owedR0 c) (above_R0 c 0 (by decide)))); isplitl [HO Do Ao]
  · isplitl [HO]
    · isplitr; · iexact HC
      iexact HO
    isplitl [Do] <;> iassumption
  iintro %a ⟨HR, Ao, F0, K0⟩
  iapply (cut (first_all I c)); isplitl [F0 S3 S4]
  · isplitl [F0]; · iexact F0
    isplitl [S3]; · iapply (cut_s c g3); iexact S3
    iapply (cut_c c g4); iexact S4
  iintro %a ⟨F0, HA⟩
  iapply (cut (slots_all I κ c (owedR0 c) (above_R0 c 2 (by decide)))); isplitl [HR HA Dkr Akr]
  · isplitl [HR HA]
    · isplitl [HR] <;> iassumption
    isplitl [Dkr] <;> iassumption
  iintro %a ⟨⟨HR, HA⟩, Akr, Fs⟩
  iapply (cut (rest_run I κ c g1)); isplitl [HR Bo HA S1 R0 Tl Pr Prr Trs Trr Al Drr Arr O0]
  · isplitl [HR Bo]
    · isplitl [HR] <;> iassumption
    isplitl [HA]; · iexact HA
    isplitl [S1]; · iexact S1
    isplitl [R0]; · iapply (givenAll (fun (b : Fin 2) f => rsAt c 0 b f) g2) $$ R0
    isplitl [Tl]; · iexact Tl
    isplitl [Pr]; · iexact Pr
    isplitl [Prr]; · iexact Prr
    isplitl [Trs]; · iexact Trs
    isplitl [Trr]; · iexact Trr
    isplitl [Al]; · iexact Al
    isplitl [Drr]; · iexact Drr
    isplitl [Arr]; · iexact Arr
    iexists f4; iexact O0
  iintro %a ⟨HR, Bo, HA, Drs, Al, P0, Arr, Rs, O0⟩
  iapply bind_ret
  iapply (cut (last_run I κ c)); isplitl [HR O0 Po Pa Tas Tar Dar Aar Dks Aks Drs Ars Aas]
  · isplitl [HR]; · iexact HR
    isplitl [O0]; · iexact O0
    isplitl [Po]; · iexact Po
    isplitl [Pa]; · iexact Pa
    isplitl [Tas]; · iexact Tas
    isplitl [Tar]; · iexact Tar
    isplitl [Dar]; · iexact Dar
    isplitl [Aar]; · iexact Aar
    isplitl [Dks]; · iexact Dks
    isplitl [Aks]; · iexact Aks
    isplitl [Drs]; · iexact Drs
    isplitl [Ars] <;> iassumption
  iintro %a ⟨HR, Bout, Ks, Ps, Aar, Aks, Ars, Aas⟩
  iapply done
  ihave HA := (uncut_accs I c g3 g4) $$ HA
  icases HA with ⟨S3, S4⟩
  isplitl [HR]; · iexact HR
  isplitl [Ab Aks Akr Ars Arr Aas Aar Ao Al]
  · isplitl [Ab]; · iexact Ab
    isplitl [Aks]; · iexact Aks
    isplitl [Akr]; · iexact Akr
    isplitl [Ars]; · iexact Ars
    isplitl [Arr]; · iexact Arr
    isplitl [Aas]; · iexact Aas
    isplitl [Aar]; · iexact Aar
    isplitl [Ao] <;> iassumption
  isplitl [Bx]; · iexact Bx
  isplitl [Bw]; · iexact Bw
  isplitl [K0 Ks]
  · iapply (Entails.of_eq (cut_kv c (I.kv c)).symm)
    isplitl [K0] <;> iassumption
  isplitl [Bo]; · iexact Bo
  isplitl [Bout]; · iexact Bout
  isplitl [F0 Fs]
  · iexists (full I c)
    iapply (Entails.of_eq (cut_full c (full I c)).symm)
    isplitl [F0] <;> iassumption
  isplitl [P0 Ps]
  · iexists (part I c)
    iapply (Entails.of_eq (cut_part c (part I c)).symm)
    isplitl [P0] <;> iassumption
  isplitl [Rs]; · iexists (rs I c); iexact Rs
  isplitl [S3] <;> iassumption

end Cert.KernelIdeal.Att
end
-- ==== Proof.BodyEq.lean ====
module

public import proofs.«01_k».proof.Proof.Body
public import proofs.«01_k».proof.Proof.Gen.KernelIdeal.Points
public import proofs.«01_k».proof.Proof.Gen.KernelIdeal.Launch

@[expose] public section

noncomputable section

namespace Cert.KernelIdeal.Att

open Idealize.ShloMosaic Idealize.ShloMosaic.TcCoe Idealize.SL.Sem Facts₀ Facts

variable {F : FTy → Type} [FloatOps F]

set_option maxRecDepth 65536 in
theorem body_eq : Gen.bodyAt0 (F := F) Gen.t0_0 = body := by
  chain_rfl

end Cert.KernelIdeal.Att
end
-- ==== Proof.Ghost.lean ====
/- What each device is given when the kernel starts, put together from what the launch makes: the
   semaphores' records, the rights to pay, and what the other devices owe. -/
module

public import proofs.«01_k».proof.Proof.BodyRun
public import proofs.«01_k».proof.Proof.BodyEq

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One for each semaphore -/

theorem fams (Φ : Fam → sProp 𝕄) : bigSep Finset.univ Φ
    = iprop(Φ .kvs ∗ Φ .kvr ∗ Φ (.rss 0) ∗ Φ (.rss 1) ∗ Φ (.rsr 0) ∗ Φ (.rsr 1) ∗ Φ .ags ∗ Φ .agr) :=
  bigSep_univ_eq_bigSepL Fam.list (by decide) (by decide) Φ

theorem threes (Φ : Fin 3 → sProp 𝕄) : bigSep Finset.univ Φ = iprop(Φ 0 ∗ Φ 1 ∗ Φ 2) :=
  bigSep_univ_eq_bigSepL [0, 1, 2] (by decide) (by decide) Φ

theorem twos (Φ : Fin 2 → sProp 𝕄) : all2 Φ = iprop(Φ 0 ∗ Φ 1) := BI.bigSep_fin_two Φ

theorem owns_list (Φ : Own → sProp 𝕄) : bigSep Finset.univ Φ
    = iprop(((all7 fun o => Φ (own .kvs o)) ∗ (all7 fun o => Φ (own .kvr o)) ∗ (all7 fun o => Φ (own (.rss 0) o)) ∗ (all7 fun o => Φ (own (.rss 1) o))
      ∗ (all7 fun o => Φ (own (.rsr 0) o)) ∗ (all7 fun o => Φ (own (.rsr 1) o)) ∗ (all7 fun o => Φ (own .ags o)) ∗ (all7 fun o => Φ (own .agr o)))
      ∗ (Φ (.inr 0) ∗ Φ (.inr 1) ∗ Φ (.inr 2))) := by
  rw [bigSep_univ_sum, bigSep_univ_prod, fams, threes]
  rfl

theorem owns_twos (Φ : Own → sProp 𝕄) : owns Φ
    = iprop((all7 fun o => Φ (own .kvs o)) ∗ (all7 fun o => Φ (own .kvr o)) ∗ ((all7 fun o => Φ (own (.rss 0) o)) ∗ (all7 fun o => Φ (own (.rss 1) o)))
      ∗ ((all7 fun o => Φ (own (.rsr 0) o)) ∗ (all7 fun o => Φ (own (.rsr 1) o))) ∗ (all7 fun o => Φ (own .ags o)) ∗ (all7 fun o => Φ (own .agr o))
      ∗ Φ (.inr 0) ∗ (Φ (.inr 1) ∗ Φ (.inr 2))) := by
  unfold owns
  rw [twos fun b => all7 fun o => Φ (own (.rss b) o), twos fun b => all7 fun o => Φ (own (.rsr b) o), twos fun b => Φ (.inr b.succ)]
  rfl

theorem to_owns (Φ : Own → sProp 𝕄) : bigSep Finset.univ Φ ⊢ owns Φ := by
  rw [owns_list, owns_twos]
  iintro ⟨⟨H1, H2, H3, H4, H5, H6, H7, H8⟩, K1, K2, K3⟩
  isplitl [H1]; · iexact H1
  isplitl [H2]; · iexact H2
  isplitl [H3 H4]; · isplitl [H3] <;> iassumption
  isplitl [H5 H6]; · isplitl [H5] <;> iassumption
  isplitl [H7]; · iexact H7
  isplitl [H8]; · iexact H8
  isplitl [K1]; · iexact K1
  isplitl [K2] <;> iassumption

theorem of_owns (Φ : Own → sProp 𝕄) : owns Φ ⊢ bigSep Finset.univ Φ := by
  rw [owns_list, owns_twos]
  iintro ⟨H1, H2, ⟨H3, H4⟩, ⟨H5, H6⟩, H7, H8, K1, K2, K3⟩
  isplitr [K1 K2 K3]
  · isplitl [H1]; · iexact H1
    isplitl [H2]; · iexact H2
    isplitl [H3]; · iexact H3
    isplitl [H4]; · iexact H4
    isplitl [H5]; · iexact H5
    isplitl [H6]; · iexact H6
    isplitl [H7] <;> iassumption
  isplitl [K1]; · iexact K1
  isplitl [K2] <;> iassumption

/-! ## The semaphores, opened and closed -/

variable (I : Ins F) (κ : GSem nD τ sig → ℕ) (c : Dev nD)

theorem open_all : iprop(records I κ ∗ ((bigSep Finset.univ fun k : Own => openTok ER (gs c (some k))) ∗ Pipeline.ownSems0 osem c))
    ⊢ |={Set.univ}=> iprop((bigSep Finset.univ fun k : Own => at0 (F := F) c (some k)) ∗ ownReady c) := by
  unfold Pipeline.ownSems0 ownReady
  rw [← bigSep_sep', ← bigSep_sep']
  refine (bigSep_with_persistent (R := records I κ) (Ψ := fun k : Own => iprop(|={Set.univ}=> (at0 c (some k) ∗ reached ER (gs c (some k)) 0))) fun k _ => ?_).trans (bigSep_fupd _ _)
  exact (sep_mono_left (record I κ c (some k))).trans (Rounds.cell_open ER (sched I) (g := gs c (some k)) (Set.mem_univ _))

theorem close_one (k : Option Own) : iprop(records I κ ∗ at1 c k) ⊢ |={Set.univ}=> (semVal (gs c k) 0 : sProp 𝕄) :=
  (sep_mono_left (record I κ c k)).trans (Rounds.cell_close ER (sched I) (Set.mem_univ _) id (duties_later I (gs c k)))

theorem close_all : iprop(records I κ ∗ (at1 c none ∗ owns fun k => at1 c (some k)))
    ⊢ |={Set.univ}=> (iprop(semVal (gs c none) 0 ∗ Pipeline.ownSems0 osem c) : sProp 𝕄) := by
  iintro ⟨#HR, H, Ho⟩
  ihave Ho := (of_owns (F := F) fun k => at1 c (some k)) $$ Ho
  imod (close_one I κ c none) $$ [H] with H
  · isplitr; · iexact HR
    iexact H
  imod (show iprop(records I κ ∗ bigSep Finset.univ fun k : Own => at1 (F := F) c (some k))
      ⊢ |={Set.univ}=> (bigSep Finset.univ fun k : Own => (semVal (gs c (some k)) 0 : sProp 𝕄)) from
    (bigSep_with_persistent (R := records I κ) fun k _ => close_one I κ c (some k)).trans (bigSep_fupd _ _)) $$ [Ho] with Ho
  · isplitr; · iexact HR
    iexact Ho
  imodintro
  isplitl [H]; · iexact H
  unfold Pipeline.ownSems0
  iexact Ho

/-! ## The rights to pay, each to the device that pays -/

/-- A step around the ring, and back. -/
def around (o : Fin 7) : Dev nD ≃ Dev nD := ⟨fun c => nx c o, fun c => nx c o.rev, fun c => nx_rev c o, fun c => nx_rev' c o⟩

theorem deal (Ψ : Dev nD → Fin 7 → sProp 𝕄) : (bigSep Finset.univ fun c : Dev nD => all7 fun o => Ψ c o) = bigSep Finset.univ fun c : Dev nD => all7 fun o => Ψ (nx c o) o := by
  refine (bigSep_univ_comm fun c o => Ψ c o).trans (Eq.trans ?_ (bigSep_univ_comm fun o c => Ψ (nx c o) o))
  exact bigSep_congr fun o _ => bigSep_univ_equiv (around o) fun c => Ψ c o

theorem deal2 (Ψ : Dev nD → Fin 2 → Fin 7 → sProp 𝕄) :
    (bigSep Finset.univ fun c : Dev nD => all2 fun b => all7 fun o => Ψ c b o) = bigSep Finset.univ fun c : Dev nD => all2 fun b => all7 fun o => Ψ (nx c o) b o := by
  refine (bigSep_univ_comm fun c b => all7 fun o => Ψ c b o).trans (Eq.trans ?_ (bigSep_univ_comm fun b c => all7 fun o => Ψ (nx c o) b o))
  exact bigSep_congr fun b _ => deal fun c o => Ψ c b o

theorem deal_toks : (allD fun c => iprop((all7 fun j => tok (F := F) c none j) ∗ owns fun k => tok c (some k) 0)) ⊢ allD fun c => toks (F := F) c := by
  have e (c : Dev nD) : (all7 fun j => tok (F := F) c none j) = all7 fun o => tok c none o.rev := all_rev fun j => tok c none j
  unfold owns toks
  simp only [e, bigSep_sep']
  rw [deal fun c o => tok c none o.rev, deal fun c o => tok c (some (own .kvr o)) 0, deal2 fun c b o => tok c (some (own (.rsr b) o)) 0,
    deal fun c o => tok c (some (own .agr o)) 0]

/-! ## What is owed to a device by all the others -/

theorem owed_sum (key : Fin 7 → Option Own) (n : Fin 7 → ℕ) (k : Option Own) :
    (∑ d : Dev nD, rem (fun o => tallyAt (gs (nx d o) (key o)) () (n o)) 0 (gs c k) ()) = ∑ o : Fin 7, if key o = k then n o else 0 := by
  have e (d : Dev nD) : rem (fun o => (tallyAt (gs (nx d o) (key o)) () (n o) : CellTallies nD τ sig Unit)) 0 (gs c k) ()
      = ∑ o : Fin 7, if gs c k = gs (nx d o) (key o) ∧ () = () then n o else 0 := by
    unfold rem
    rw [Finset.filter_true_of_mem fun o _ => Nat.zero_le _, Finset.sum_apply, Finsupp.finset_sum_apply]
    exact Finset.sum_congr rfl fun o _ => tallyAt_apply _ _ _ _ _
  rw [Finset.sum_congr rfl fun d _ => e d, Finset.sum_comm]
  refine Finset.sum_congr rfl fun o _ => ?_
  rw [Finset.sum_eq_single (nx c o.rev)]
  · by_cases h : key o = k
    · rw [if_pos h, if_pos ⟨by rw [nx_rev', h], rfl⟩]
    · rw [if_neg h, if_neg fun h' => h (gs_inj h'.1).2.symm]
  · intro d _ hd
    refine if_neg fun h => hd ?_
    rw [(gs_inj h.1).1, nx_rev]
  · exact fun h => absurd (Finset.mem_univ _) h

theorem owed_all (k : Option Own) : (∑ d : Dev nD, O₀ d (gs c k) ())
    = (∑ o : Fin 7, if some (own .agr o) = k then amt (own .agr o) else 0) + (∑ o : Fin 7, if some (own (.rsr 1) o) = k then amt (own (.rsr 1) o) else 0)
      + (∑ o : Fin 7, if some (own (.rsr 0) o) = k then amt (own (.rsr 0) o) else 0) + (∑ o : Fin 7, if some (own .kvr o) = k then amt (own .kvr o) else 0)
      + ∑ _o : Fin 7, if none = k then 1 else 0 := by
  rw [← owed_sum c (fun o => some (own .agr o)) (fun o => amt (own .agr o)) k, ← owed_sum c (fun o => some (own (.rsr 1) o)) (fun o => amt (own (.rsr 1) o)) k,
    ← owed_sum c (fun o => some (own (.rsr 0) o)) (fun o => amt (own (.rsr 0) o)) k, ← owed_sum c (fun o => some (own .kvr o)) (fun o => amt (own .kvr o)) k,
    ← owed_sum c (fun _ => none) (fun _ => 1) k, ← Finset.sum_add_distrib, ← Finset.sum_add_distrib, ← Finset.sum_add_distrib, ← Finset.sum_add_distrib]
  exact Finset.sum_congr rfl fun d _ => rfl

theorem sum_key (f f' : Fam) (o : Fin 7) (n : Fin 7 → ℕ) : (∑ o' : Fin 7, if some (own f' o') = some (own f o) then n o' else 0) = if f' = f then n o else 0 := by
  by_cases h : f' = f
  · subst h
    rw [if_pos rfl, Finset.sum_eq_single o, if_pos rfl]
    · exact fun o' _ h' => if_neg fun e => h' (congrArg Prod.snd (Sum.inl.inj (Option.some.inj e)))
    · exact fun h => absurd (Finset.mem_univ _) h
  · rw [if_neg h]
    exact Finset.sum_eq_zero fun o' _ => if_neg fun e => h (congrArg Prod.fst (Sum.inl.inj (Option.some.inj e)))

theorem owed_bar : (∑ d : Dev nD, O₀ d (gs c none) ()) = 7 := by
  rw [owed_all]
  rfl
theorem owed_fam (f : Fam) (hf : f = .kvr ∨ f = .rsr 0 ∨ f = .rsr 1 ∨ f = .agr) (o : Fin 7) : (∑ d : Dev nD, O₀ d (gs c (some (own f o))) ()) = amt (own f o) := by
  rw [owed_all, sum_key, sum_key, sum_key, sum_key]
  simp only [reduceCtorEq, if_false, Finset.sum_const_zero, add_zero]
  rcases hf with rfl | rfl | rfl | rfl <;> simp

theorem credit (k : Option Own) (n : ℕ) (h : (∑ d : Dev nD, O₀ d (gs c k) ()) = n) :
    tallyOn (gs c k) (launchCredit (Pipeline.owing O₀) 0 (gs c k)) = (tallyAt (gs c k) () n : CellTallies nD τ sig Unit) := by
  unfold tallyAt; refine congrArg _ (Finsupp.ext fun u => ?_); cases u
  rw [Pipeline.launchCredit_owing, Finsupp.single_eq_same, h]

/-- A semaphore, or the meeting's, as a name for one of the device's semaphores. -/
def semEmb : Option Own ↪ SemLoc sig := ⟨semOf, fun _ _ h => semOf_inj h⟩
def someEmb : Own ↪ SemLoc sig := ⟨osem, fun _ _ h => Option.some.inj (semOf_inj (k := some _) (k' := some _) h)⟩

theorem credits_cell (k : Option Own) (n : ℕ) (h : (∑ d : Dev nD, O₀ d (gs c k) ()) = n) :
    (cred (tallyOn (gs c k) (launchCredit (Pipeline.owing O₀) 0 (gs c k))) : sProp 𝕄) ⊢ cred (tallyAt (gs c k) () n) :=
  Entails.of_eq (by rw [credit c k n h])

theorem credits : (Pipeline.launchCred O₀ c : sProp 𝕄) ⊢ dues c := by
  unfold Pipeline.launchCred
  rw [bigSep_univ_at _ (SemLoc.reg bar)]
  have rest : bigSep (Finset.univ.erase (SemLoc.reg bar)) (fun sm : SemLoc sig =>
        (cred (tallyOn ((c : Thread nD τ), sm) (launchCredit (Pipeline.owing O₀) 0 ((c : Thread nD τ), sm))) : sProp 𝕄))
      ⊢ owns fun k => cred (tallyOn (gs c (some k)) (launchCredit (Pipeline.owing O₀) 0 (gs c (some k)))) := by
    refine (bigSep_subset (t := Finset.univ.map someEmb) fun sm h => ?_).trans ((Entails.of_eq (bigSep_map someEmb)).trans (to_owns _))
    obtain ⟨k, -, rfl⟩ := Finset.mem_map.mp h
    exact Finset.mem_erase.mpr ⟨fun h => (by cases h), Finset.mem_univ _⟩
  refine (BIBase.Entails.trans (Q := iprop(cred (tallyAt (gs c none) () 7) ∗ owns fun k => cred (tallyOn (gs c (some k)) (launchCredit (Pipeline.owing O₀) 0 (gs c (some k))))))
    (by
      iintro ⟨H, K⟩
      isplitl [H]; · iapply (credits_cell c none 7 (owed_bar c)); iexact H
      iapply rest; iexact K)) ?_
  · have cell (f : Fam) (hf : f = .kvr ∨ f = .rsr 0 ∨ f = .rsr 1 ∨ f = .agr) :
        (all7 fun o => cred (tallyOn ((c : Thread nD τ), osem (own f o)) (launchCredit (Pipeline.owing O₀) 0 ((c : Thread nD τ), osem (own f o)))) : sProp 𝕄)
          ⊢ all7 fun o => due c (own f o) := bigSep_mono fun o _ => credits_cell c (some (own f o)) _ (owed_fam c f hf o)
    have cell2 : (all2 fun b => all7 fun o => cred (tallyOn ((c : Thread nD τ), osem (own (.rsr b) o)) (launchCredit (Pipeline.owing O₀) 0 ((c : Thread nD τ), osem (own (.rsr b) o)))) : sProp 𝕄)
          ⊢ all2 fun b => all7 fun o => due c (own (.rsr b) o) := bigSep_mono fun b _ => cell _ (by
            revert b; decide)
    unfold owns dues
    iintro ⟨Hb, -, Hk, -, Hr, -, Ha, -, -⟩
    isplitl [Hb]; · iexact Hb
    isplitl [Hk]; · iapply (cell .kvr (by decide)); iexact Hk
    isplitl [Hr]; · iapply cell2; iexact Hr
    iapply (cell .agr (by decide)); iexact Ha

end Cert.KernelIdeal.Att
end
-- ==== Proof.Region.lean ====
/- The kernel's call as a region of the program: its buffers before and after, what it is entered
   with and leaves, and its body's run as the region's one point. -/
module

public import proofs.«01_k».proof.Proof.Ghost
public import proofs.«01_k».proof.Proof.Gen.KernelIdeal.Frame
public import Idealize.ShloMosaic.Lib.Pipeline.RegionTalk

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## What the buffers hold -/

/-- At the launch, when the kernel is entered, when it is left. -/
abbrev V₀ (c : Dev nD) : Valuation τ sig (Elt F) := fun b => m (c, b)
abbrev V₁ (c : Dev nD) : Valuation τ sig (Elt F) := StableHlo.after Gen.hostOps0 (V₀ m c)

/-- The kernel's inputs. -/
def ins : Ins F where
  x c := V₁ m c main_arg0
  wq c := V₁ m c main_arg1
  kv c := V₁ m c main_v6
  wo c := V₁ m c main_arg4

abbrev V₂ (c : Dev nD) : Valuation τ sig (Elt F) := Function.update (V₁ m c) (Proc.devRef .tc main_v7) (out (ins m))
theorem V₂_out (c : Dev nD) : V₂ m c main_v7 = out (ins m) := Function.update_self ..
theorem V₂_ne (c : Dev nD) (b : Ref sig .tc) (h : b ≠ main_v7) : V₂ m c b = V₁ m c b := Function.update_of_ne (StableHlo.devRef_ne_of_ne h) ..

/-! ## The region's data -/

/-- The buffers of the kernel's own. -/
def scratch (c : Dev nD) : sProp 𝕄 :=
  iprop((∃ f, whole c cc0_scratch0 f) ∗ (∃ f, whole c cc0_scratch1 f) ∗ (∃ f, whole c cc0_scratch2 f) ∗ (∃ f, whole c cc0_scratch3 f) ∗ ∃ f, whole c cc0_scratch4 f)

theorem scratch_eq (c : Dev nD) :
    (Pipeline.scopedRest (Ix := Unit) (Name := ℕ) (U := UU) (Lvl := ℕ) (Val := Elt F) spec0 c : sProp 𝕄) = scratch c := Gen.scopedRest0_eq c

/-- What the launch keeps for the kernel. -/
def kept (c : Dev nD) : sProp 𝕄 :=
  iprop((∃ κ, records (ins m) κ) ∗ barsReady ∗ at0 c none ∗ (bigSep Finset.univ fun k : Own => openTok ER (gs c (some k))) ∗ toks c ∗ dues c)
/-- The same once the kernel's own semaphores are open. -/
def entered (c : Dev nD) : sProp 𝕄 :=
  iprop((∃ κ, Ctx (ins m) κ c) ∗ toks c ∗ (at0 c none ∗ owns fun k => at0 c (some k)) ∗ dues c)

def dat (c : Dev nD) : Dat τ (Elt F) Unit ℕ UU ℕ cfg0 c where
  A w := V₁ m c (Pipeline.arrRef spec0 w)
  after w _ := match w with
    | ⟨0, _⟩ => (ins m).x c
    | ⟨1, _⟩ => (ins m).wq c
    | ⟨2, _⟩ => (ins m).kv c
    | ⟨3, _⟩ => (ins m).wo c
    | ⟨4, _⟩ => out (ins m)
  Φ t := if t.val = 0 then iprop(entered m c ∗ scratch c ∗ ∃ r, prngReg c r)
    else iprop((semVal (gs c none) 0 ∗ Pipeline.ownSems0 osem c) ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem share_eq (c : Dev nD) (w : Fin cfg0.W) : (dat m c).share w = fullShare := by unfold Dat.share; split <;> rfl

theorem owed_first (c : Dev nD) (t : Fin (cfg0.N + 1)) (h : t.val = 0) : (dat m c).owed t = O₀ c := if_pos h
theorem owed_last (c : Dev nD) (t : Fin (cfg0.N + 1)) (h : t.val ≠ 0) : (dat m c).owed t = 0 := if_neg h
theorem phi_first (c : Dev nD) (t : Fin (cfg0.N + 1)) (h : t.val = 0) : (dat m c).Φ t = iprop(entered m c ∗ scratch c ∗ ∃ r, prngReg c r) := if_pos h
theorem phi_last (c : Dev nD) (t : Fin (cfg0.N + 1)) (h : t.val ≠ 0) :
    (dat m c).Φ t = iprop((semVal (gs c none) 0 ∗ Pipeline.ownSems0 osem c) ∗ scratch c ∗ ∃ r, prngReg c r) := if_neg h

theorem owesAt_first (c : Dev nD) (t : Fin (cfg0.N + 1)) (h : t.val = 0) : ((dat m c).owesAt () t : sProp 𝕄) ⊢ ow c (O₀ c) := by
  unfold Dat.owesAt Pipeline.owesWithin
  rw [owed_first m c t h]
  iintro ⟨%W, -, HO⟩; iexists W; iexact HO
theorem owesAt_last (c : Dev nD) (t : Fin (cfg0.N + 1)) (h : t.val ≠ 0) : ow c 0 ⊢ ((dat m c).owesAt () t : sProp 𝕄) := by
  unfold Dat.owesAt Pipeline.owesWithin Dat.bound
  rw [owed_last m c t h]
  iintro ⟨%W, HO⟩; iexists W
  isplitr; · ipureintro; exact fun _ _ => Or.inl trivial
  iexact HO

/-! ## The blocks are the arrays -/

theorem zeros (s : Shape) (n : Fin s.rank → ℕ) (h : ∀ a, n a = 0) : (fun a => n a * s.size a) = fun _ => 0 := funext fun a => by rw [h a, Nat.zero_mul]

theorem blk_0 (c : Dev nD) : (win0_0.blk Gen.t0_0).view.read (Elt F) (V₁ m c main_arg0) = (ins m).x c :=
  Memref.read_access_unit_zero (Elt F) main_arg0 (zeros _ (win0_0.index Gen.t0_0) (by decide +kernel)) _ _
theorem blk_1 (c : Dev nD) : (win0_1.blk Gen.t0_0).view.read (Elt F) (V₁ m c main_arg1) = (ins m).wq c :=
  Memref.read_access_unit_zero (Elt F) main_arg1 (zeros _ (win0_1.index Gen.t0_0) (by decide +kernel)) _ _
theorem blk_2 (c : Dev nD) : (win0_2.blk Gen.t0_0).view.read (Elt F) (V₁ m c main_v6) = (ins m).kv c :=
  Memref.read_access_unit_zero (Elt F) main_v6 (zeros _ (win0_2.index Gen.t0_0) (by decide +kernel)) _ _
theorem blk_3 (c : Dev nD) : (win0_3.blk Gen.t0_0).view.read (Elt F) (V₁ m c main_arg4) = (ins m).wo c :=
  Memref.read_access_unit_zero (Elt F) main_arg4 (zeros _ (win0_3.index Gen.t0_0) (by decide +kernel)) _ _
theorem blk_4 (f : (main_v7 : Ref sig .tc).ty.Contents (Elt F)) : (win0_4.blk Gen.t0_0).view.read (Elt F) f = f :=
  Memref.read_access_unit_zero (Elt F) main_v7 (zeros _ (win0_4.index Gen.t0_0) (by decide +kernel)) _ _

theorem before_0 (c : Dev nD) (d) : (dat m c).before (0 : Fin 5) Gen.t0_0 d = (ins m).x c := by
  unfold Dat.before; rw [if_pos (Gen.fetch0_0 _)]; exact blk_0 m c
theorem before_1 (c : Dev nD) (d) : (dat m c).before (1 : Fin 5) Gen.t0_0 d = (ins m).wq c := by
  unfold Dat.before; rw [if_pos (Gen.fetch0_1 _)]; exact blk_1 m c
theorem before_2 (c : Dev nD) (d) : (dat m c).before (2 : Fin 5) Gen.t0_0 d = (ins m).kv c := by
  unfold Dat.before; rw [if_pos (Gen.fetch0_2 _)]; exact blk_2 m c
theorem before_3 (c : Dev nD) (d) : (dat m c).before (3 : Fin 5) Gen.t0_0 d = (ins m).wo c := by
  unfold Dat.before; rw [if_pos (Gen.fetch0_3 _)]; exact blk_3 m c

theorem arr_out (c : Dev nD) : (dat m c).arrAt (4 : Fin 5) cfg0.N = out (ins m) := by
  rw [← blk_4 ((dat m c).arrAt (4 : Fin 5) cfg0.N), show cfg0.N = (Gen.t0_0 : Fin cfg0.N).val + 1 from Gen.N_0, (dat m c).arrAt_succ (4 : Fin 5) Gen.t0_0,
    if_pos (Gen.flush0_4 _)]
  exact View.read_write_univ _ _

/-! ## The region's one point -/

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_of (c : Dev nD) (b : Ref sig .tc) (X : b.ty.Contents (Elt F)) : whole c b X ⊢ stg c b X := by
  iintro H
  iexists X
  isplitr; · ipureintro; rfl
  iexact H

theorem point_run (c : Dev nD) : iprop((dat m c).Φ Gen.t0_0.castSucc ∗ (dat m c).owesAt () Gen.t0_0.castSucc
      ∗ ((∃ d, stg c cc0_stg0_0 ((dat m c).before (0 : Fin 5) Gen.t0_0 d)) ∗ (∃ d, stg c cc0_stg1_0 ((dat m c).before (1 : Fin 5) Gen.t0_0 d))
        ∗ (∃ d, stg c cc0_stg2_0 ((dat m c).before (2 : Fin 5) Gen.t0_0 d)) ∗ (∃ d, stg c cc0_stg3_0 ((dat m c).before (3 : Fin 5) Gen.t0_0 d))
        ∗ ∃ d, stg c cc0_stg4_0 ((dat m c).before (4 : Fin 5) Gen.t0_0 d)))
    ⊢ WP c body fun _ => iprop((dat m c).Φ Gen.t0_0.succ ∗ (dat m c).owesAt () Gen.t0_0.succ
      ∗ (stg c cc0_stg0_0 ((ins m).x c) ∗ stg c cc0_stg1_0 ((ins m).wq c) ∗ stg c cc0_stg2_0 ((ins m).kv c) ∗ stg c cc0_stg3_0 ((ins m).wo c)
        ∗ stg c cc0_stg4_0 (out (ins m)))) := by
  rw [phi_first m c _ rfl, phi_last m c _ (by decide)]
  refine BIBase.Entails.trans ?_ (wp_fupd _ _ _ _ _)
  unfold entered scratch
  iintro ⟨⟨⟨⟨%κ, #HC⟩, Ht, Ha, Hd⟩, Hs, Hp⟩, HO, ⟨%d0, %g0, %h0, H0⟩, ⟨%d1, %g1, %h1, H1⟩, ⟨%d2, %g2, %h2, H2⟩, ⟨%d3, %g3, %h3, H3⟩, ⟨%d4, %g4, %h4, H4⟩⟩
  obtain rfl := h0.trans (before_0 m c d0)
  obtain rfl := h1.trans (before_1 m c d1)
  obtain rfl := h2.trans (before_2 m c d2)
  obtain rfl := h3.trans (before_3 m c d3)
  ihave HO := (owesAt_first m c _ rfl) $$ HO
  iapply (wp_wand_r _ _ _)
  isplitr [Hp]
  · iapply (body_run (ins m) κ c)
    isplitl [HO]
    · unfold Run
      isplitr; · iexact HC
      iexact HO
    isplitl [Ht]; · iexact Ht
    isplitl [Ha]; · iexact Ha
    isplitl [Hd]; · iexact Hd
    unfold bufs0
    isplitl [H0]; · iexact H0
    isplitl [H1]; · iexact H1
    isplitl [H2]; · iexact H2
    isplitl [H3]; · iexact H3
    isplitl [H4]; · iexists g4; iexact H4
    iexact Hs
  unfold Run bufs1 Ctx
  iintro %a ⟨⟨⟨#HR, -⟩, HO⟩, Ha, H0, H1, H2, H3, H4, Hs⟩
  imod (close_all (ins m) κ c) $$ [Ha] with Hz
  · isplitr; · iexact HR
    iexact Ha
  imodintro
  isplitl [Hz Hs Hp]
  · isplitl [Hz]; · iexact Hz
    isplitl [Hs] <;> iassumption
  isplitl [HO]; · iapply (owesAt_last m c _ (by decide)); iexact HO
  isplitl [H0]; · iapply stg_of; iexact H0
  isplitl [H1]; · iapply stg_of; iexact H1
  isplitl [H2]; · iapply stg_of; iexact H2
  isplitl [H3]; · iapply stg_of; iexact H3
  iapply stg_of; iexact H4

set_option maxRecDepth 65536 in
theorem body_obligation (c : Dev nD) : Pipeline.BodyObligation (dat m c) defs₀ 𝒱₀ () Set.univ := fun t => by
  obtain rfl := Gen.fin_N0 t
  rw [Gen.bigSep_W0, Gen.bigSep_W0]
  simp only [owns_whole_eq]
  refine (point_run m c).trans ?_
  rw [← body_eq]
  exact .rfl

end Cert.KernelIdeal.Att
end
-- ==== Proof.Main.lean ====
/- The whole program: the host's operations, then the kernel; the launch that gives every device its
   part; and what every run ends with. -/
module

public import proofs.«01_k».proof.Proof.Region

@[expose] public section

noncomputable section

namespace Cert.KernelIdeal.Att

open Idealize.ShloMosaic Idealize.ShloMosaic.TcCoe Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

/-- The program's own buffers, and those of them the kernel has no window on. -/
abbrev bufs : Finset (DevRef τ sig) := Pipeline.ucRefs τ sig
abbrev others : Finset (DevRef τ sig) := bufs \ Pipeline.arrRefs (τ := τ) spec0

abbrev left (c : Dev nD) : sProp 𝕄 := semVal (gs c none) 0

theorem hopen (c : Dev nD) : iprop(kept m c ∗ Pipeline.ownSems0 osem c ∗ levAts L lv) ⊢ (|={Set.univ}=> entered m c : sProp 𝕄) := by
  unfold kept entered Ctx
  iintro ⟨⟨⟨%κ, #HR⟩, #HB, Hat, Hopen, Ht, Hd⟩, Hs, #HL⟩
  imod (open_all (ins m) κ c) $$ [Hopen Hs] with ⟨Hats, #Ho⟩
  · isplitr; · iexact HR
    isplitl [Hopen] <;> iassumption
  imodintro
  isplitr
  · iexists κ
    isplitr; · iexact HR
    isplitr; · iexact HB
    isplitr; · iexact Ho
    iexact HL
  isplitl [Ht]; · iexact Ht
  isplitl [Hat Hats]
  · isplitl [Hat]; · iexact Hat
    iapply (to_owns (F := F) fun k => at0 c (some k)) $$ Hats
  iexact Hd

theorem held_none (c : Dev nD) (W : Valuation τ sig (Elt F)) : (StableHlo.held (c : Thread nD τ) ∅ W : sProp 𝕄) = iprop(emp) := by
  unfold StableHlo.held
  exact BI.bigSep_empty

theorem hin (c : Dev nD) : iprop(Pipeline.scopedRest (Pipeline.pin (pcfgs (F := F)) adm 0).spec c ∗ (∃ r, prngReg c r)
    ∗ StableHlo.held (c.tc : Thread nD τ) ∅ (V₁ m c) ∗ entered m c) ⊢ (pdats m 0 c).Φ 0 := by
  rw [show (pdats m 0 c).Φ 0 = iprop(entered m c ∗ scratch c ∗ ∃ r, prngReg c r) from phi_first m c _ rfl]
  iintro ⟨Hs, Hp, -, HX⟩
  isplitl [HX]; · iexact HX
  isplitl [Hs]; · iapply (Entails.of_eq (scratch_eq (F := F) c)); iexact Hs
  iexact Hp

theorem last_ne : (Fin.last cfg0.N).val ≠ 0 := by
  show grid0.N ≠ 0
  rw [Gen.N_0]; decide

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ left c) := by
  rw [show (pdats m 0 c).Φ (Fin.last (Pipeline.pin (pcfgs (F := F)) adm 0).N)
    = iprop((semVal (gs c none) 0 ∗ Pipeline.ownSems0 osem c) ∗ scratch c ∗ ∃ r, prngReg c r) from phi_last m c _ last_ne, held_none]
  iintro ⟨⟨Hb, Ho⟩, Hs, Hp⟩
  isplitl [Hs]; · iapply (Entails.of_eq (scratch_eq (F := F) c).symm); iexact Hs
  isplitl [Hp]; · iexact Hp
  isplitr; · iempintro
  isplitl [Ho] <;> iassumption

theorem others_eq (c : Dev nD) (b : DevRef τ sig) (h : b ∈ others \ ∅) : V₂ m c b = V₁ m c b := by
  refine Function.update_of_ne (fun e => ?_) _ _
  subst e
  exact absurd h (by decide)

theorem stage_level : ∀ (w : Fin cfg0.W) (s : Fin (cfg0.win w).nbuf), lev (kind (.dma ((cfg0.win w).sem s))) ≤ 0 := by decide

theorem ownFacts : Pipeline.OwnSemFacts spec0 osem := by decide +kernel

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_O c 0 (by decide) g i h
  · exact absurd h (Nat.lt_irrefl 0)

theorem arr_before (c : Dev nD) (w : Fin 5) : (dat m c).arrAt w 0 = V₁ m c (Proc.devRef .tc (Pipeline.arrRef spec0 w)) := rfl

theorem arr_after (c : Dev nD) : ∀ w : Fin 5, (dat m c).arrAt w cfg0.N = V₂ m c (Proc.devRef .tc (Pipeline.arrRef spec0 w))
  | ⟨0, _⟩ => ((dat m c).arrAt_in 0 rfl _).trans (V₂_ne m c main_arg0 (by decide)).symm
  | ⟨1, _⟩ => ((dat m c).arrAt_in 1 rfl _).trans (V₂_ne m c main_arg1 (by decide)).symm
  | ⟨2, _⟩ => ((dat m c).arrAt_in 2 rfl _).trans (V₂_ne m c main_v6 (by decide)).symm
  | ⟨3, _⟩ => ((dat m c).arrAt_in 3 rfl _).trans (V₂_ne m c main_arg4 (by decide)).symm
  | ⟨4, _⟩ => (arr_out m c).trans (V₂_out m c).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ others (Finset.empty_subset _) Gen.launch0.toP rfl (fun c => (body_obligation m c).loose)
    (fun _ => 0) O₀ (fun c => (owed_first m c _ rfl).trans (zero_add _).symm) (fun c => owed_last m c _ last_ne) (fun _ => rfl) (share_eq m)
    (V₁ m) (V₂ m) (others_eq m)
    (kept m) left (entered m) left (hopen m) (hin m) (hout m)
    (fun c => by iintro H; imodintro; iexact H)
    (fun _ => 0)
    ⟨fun c w s => by rw [L_tc]; exact Finset.mem_singleton_self _, fun _ w s => stage_level w s, fun c t g i h => cutD m c t g i h⟩
    (fun _ => iprop(emp))
    (arr_before m) (arr_after m)

/-! ## The program as its segments -/

/-- What goes with the buffers from the launch to the kernel. -/
def along (c : Dev nD) : sProp 𝕄 := iprop((kept m c ∗ ∃ r, prngReg c r) ∗ ow c (O₀ c))

theorem ops_sub : ∀ op ∈ (Gen.hostOps0 : List (HloOp τ sig (Elt F))), op.bufs ⊆ bufs := fun op h => by
  exact Pipeline.sub_ucRefs op (List.forall_iff_forall_mem.mp Gen.hostOps0_sub op h)
theorem ops_fresh : ∀ op ∈ (Gen.hostOps0 : List (HloOp τ sig (Elt F))), op.fresh = ∅ := fun op h => by
  exact List.forall_iff_forall_mem.mp Gen.hostOps0_fresh op h

def seg : Pipeline.HostSeg (Name := ℕ) (U := UU) (pcfgs (F := F)) defs₀ 𝒱₀ L lv :=
  Pipeline.HostSeg.ofOps _ _ _ _ _ bufs Gen.hostOps0 ops_sub ops_fresh (V₀ m) (along m)

def segs : List (Pipeline.Seg (pcfgs (F := F)) adm (pdats m) () defs₀ 𝒱₀ L lv) := [.host (seg m), .region (reg m)]

theorem main_eq (c : Dev nD) : main (F := F) c = Pipeline.Seg.run (segs m) :=
  Gen.main_segs (adm (F := F)) (pdats m) () 𝒱₀ L lv (seg m) (reg m) rfl c

theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) :=
  StableHlo.held_sub_split _ (by decide) W

theorem reg_pre (c : Dev nD) : iprop(StableHlo.held (c : Thread nD τ) bufs (V₁ m c) ∗ along m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ kept m c ∗ ow c (0 + O₀ c))
  rw [held_split, zero_add]
  unfold along
  iintro ⟨⟨Ha, Ho⟩, ⟨Hk, Hp⟩, HO⟩
  isplitl [Ha]; · iexact Ha
  isplitl [Hp]; · iexact Hp
  isplitl [Ho]
  · isplitl [Ho]; · iexact Ho
    iempintro
  isplitl [Hk] <;> iassumption

theorem reg_post (c : Dev nD) : (reg m).post c ⊢ iprop((StableHlo.held (c : Thread nD τ) bufs (V₂ m c) ∗ left c) ∗ ow c 0) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ left c ∗ ow c 0) ⊢ _
  rw [held_split]
  iintro ⟨Ha, -, ⟨Ho, -⟩, Hl, HO⟩
  isplitr [HO]
  · isplitr [Hl]
    · isplitl [Ha] <;> iassumption
    · iexact Hl
  iexact HO

/-! ## The launch -/

def barEmb : Dev nD ↪ GSem nD τ sig := ⟨fun c => gs c none, fun _ _ h => (gs_inj h).1⟩
def scEmb : Dev nD × Own ↪ GSem nD τ sig := ⟨fun p => gs p.1 (some p.2), fun _ _ h => Prod.ext (gs_inj h).1 (Option.some.inj (gs_inj h).2)⟩
abbrev barCells : Finset (GSem nD τ sig) := Finset.univ.map barEmb
abbrev scCells : Finset (GSem nD τ sig) := Finset.univ.map scEmb

/-- One right to pay for each unit of the meeting's semaphore, and one for each other semaphore. -/
abbrev tokOf (p : Dev nD × (Fin 7 ⊕ Own)) : GSem nD τ sig × ℕ × Fin 7 :=
  match p.2 with
  | .inl j => (gs p.1 none, 0, j)
  | .inr k => (gs p.1 (some k), 0, 0)
theorem tokOf_inj : Function.Injective tokOf := fun ⟨c, s⟩ ⟨c', s'⟩ h => by
  have hg := gs_inj (c := c) (c' := c') (k := s.elim (fun _ => none) some) (k' := s'.elim (fun _ => none) some)
    (by
      have := congrArg Prod.fst h
      rcases s with j | k <;> rcases s' with j' | k' <;> exact this)
  have hj := congrArg (fun t : GSem nD τ sig × ℕ × Fin 7 => t.2.2) h
  obtain ⟨rfl, hk⟩ := hg
  rcases s with j | k <;> rcases s' with j' | k'
  · exact congrArg (fun x => (c, Sum.inl x)) hj
  · exact absurd hk (by simp)
  · exact absurd hk (by simp)
  · exact congrArg (fun x => (c, Sum.inr x)) (Option.some.inj hk)
def talkToks : Finset (GSem nD τ sig × ℕ × Fin 7) := Finset.univ.map ⟨tokOf, tokOf_inj⟩

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact absurd (gs_inj h).2 (by simp)

theorem cell_mem (p : Dev nD × Option Own) : gs p.1 p.2 ∈ (barCells ∪ scCells : Finset (GSem nD τ sig)) := by
  obtain ⟨c, _ | k⟩ := p
  · exact Finset.mem_union_left _ (Finset.mem_map_of_mem barEmb (Finset.mem_univ c))
  · exact Finset.mem_union_right _ (Finset.mem_map_of_mem scEmb (Finset.mem_univ (c, k)))

def u₀ : UU :=
  (initOf (Pipeline.cells (Pipeline.pin (pcfgs (F := F)) adm) (Gen.launch0.toP.cellOf_inj _)) (Pipeline.launchToks (Pipeline.pin (pcfgs (F := F)) adm) (Gen.launch0.toP.cellOf_inj _)),
    launchOf barCells scCells talkToks)

/-- A resource dealt whole to the first device. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells scCells talkToks)))

theorem records_of (κ : GSem nD τ sig → ℕ) : (bigSep (barCells ∪ scCells) fun g => (cellInv ER (sched (ins m)) (κ g) g : sProp 𝕄)) ⊢ records (ins m) κ := by
  unfold records
  have h (p : Dev nD × Option Own) : (bigSep (barCells ∪ scCells) fun g => (cellInv ER (sched (ins m)) (κ g) g : sProp 𝕄))
      ⊢ cellInv ER (sched (ins m)) (κ (gs p.1 p.2)) (gs p.1 p.2) := bigSep_elim (cell_mem p)
  iintro #H
  iapply (bigSep_with_persistent (R := bigSep (barCells ∪ scCells) fun g => (cellInv ER (sched (ins m)) (κ g) g : sProp 𝕄)) (Φ := fun _ : Dev nD × Option Own => iprop(emp))
    fun p _ => by
      iintro ⟨H, -⟩
      iapply (h p); iexact H)
  isplitr; · iexact H
  iapply (Entails.of_eq (BI.bigSep_emp_const (M := 𝕄) (s := (Finset.univ : Finset (Dev nD × Option Own)))).symm)
  iempintro

/-- What each device gets of its own. -/
def mine (c : Dev nD) : sProp 𝕄 :=
  iprop(at0 c none ∗ (bigSep Finset.univ fun k : Own => openTok ER (gs c (some k))) ∗ toks c)
def bundle (c : Dev nD) : sProp 𝕄 :=
  iprop(StableHlo.held (c : Thread nD τ) bufs (V₀ m c) ∗ dues c ∗ owes (c : Thread nD τ) (O₀ c) ∅ ∗ ∃ r, prngReg c r)

theorem start_of (κ : GSem nD τ sig → ℕ) (c : Dev nD) :
    iprop(iprop(records (ins m) κ ∗ barsReady) ∗ (mine c ∗ bundle m c)) ⊢ iprop(StableHlo.held (c : Thread nD τ) bufs (V₀ m c) ∗ along m c) := by
  unfold bundle mine along kept
  iintro ⟨⟨#HR, #HB⟩, ⟨Hat, Ho, Ht⟩, Hh, Hd, HO, Hp⟩
  isplitl [Hh]; · iexact Hh
  isplitr [HO]
  · isplitr [Hp]
    · isplitr; · iexists κ; iexact HR
      isplitr; · iexact HB
      isplitl [Hat]; · iexact Hat
      isplitl [Ho]; · iexact Ho
      isplitl [Ht] <;> iassumption
    · iexact Hp
  · iexists ∅; iexact HO

theorem unscopedSems0_eq (c : Dev nD) : (unscopedSems0 c : sProp 𝕄) = semVal (gs c none) 0 := by
  unfold unscopedSems0
  rw [show (Finset.univ.filter fun sm : SemLoc sig => ¬ sm.isScoped .tc) = {SemLoc.reg bar} from by decide +kernel, BI.bigSep_singleton]

theorem toks_all : bigSep talkToks (fun x => (dutyTok ER x.1 x.2.1 x.2.2 : sProp 𝕄)) ⊢ bigSep Finset.univ fun c : Dev nD => toks (F := F) c := by
  unfold talkToks
  rw [bigSep_map, bigSep_univ_prod]
  refine BIBase.Entails.trans (bigSep_mono fun c _ => ?_) (deal_toks (F := F))
  rw [bigSep_univ_sum]
  exact sep_mono_right (to_owns fun k => tok (F := F) c (some k) 0)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) bufs (V₀ m c) ∗ along m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (gs c none) 0 ∗ G c)) : sProp 𝕄) := by
    rw [show unscopedBufs c (fun b => m ((c : Thread nD τ).loc b)) = StableHlo.held (c : Thread nD τ) bufs (V₀ m c) from Pipeline.unscopedBufs_held c (V₀ m c),
      unscopedSems0_eq]
    unfold bundle
    iintro ⟨Hh, Hus, HO, Hcr, Hp, HG⟩
    isplitr [Hus HG]
    · isplitl [Hh]; · iexact Hh
      isplitl [Hcr]; · iapply (credits (F := F) c) $$ Hcr
      isplitl [HO]; · iexact HO
      iexists (ρ c); iexact Hp
    isplitl [Hus] <;> iassumption
  have hv : bigSep Finset.univ (fun c : Dev nD => (semVal (gs c none) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => at0 (F := F) c none) :=
    Entails.of_eq (bigSep_map (s := Finset.univ) barEmb (Φ := fun g : GSem nD τ sig => (atPos ER g 0 ∅ 0 : sProp 𝕄)))
  have hr : bigSep barCells (fun g => (reached ER g 0 : sProp 𝕄)) ⊢ barsReady :=
    Entails.of_eq (bigSep_map (s := Finset.univ) barEmb (Φ := fun g : GSem nD τ sig => (reached ER g 0 : sProp 𝕄)))
  have hop : bigSep scCells (fun g => (openTok ER g : sProp 𝕄))
      ⊢ bigSep Finset.univ (fun c : Dev nD => bigSep Finset.univ fun k : Own => openTok ER (gs c (some k))) :=
    Entails.of_eq (by
      rw [bigSep_map, bigSep_univ_prod]
      rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (gs c none) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells talkToks)) from
    Entails.of_eq (onFirst_all (F := F) (BI.own (ER (launchOf barCells scCells talkToks))))) $$ HG
  imod (Rounds.fund_launch ER (sched (ins m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := iprop(records (ins m) κ ∗ barsReady)) (Φ := fun c => iprop(mine c ∗ bundle m c)) fun c _ => start_of m κ c)
  isplitr
  · isplitr; · iapply (records_of m κ); iexact Hinv
    iapply hr; iexact Hr
  iapply (Entails.of_eq (bigSep_sep' _ _ _).symm)
  isplitr [HB]
  · unfold mine
    iapply (Entails.of_eq (bigSep_sep' _ _ _).symm); isplitl [Hat]; · iapply hat $$ Hat
    iapply (Entails.of_eq (bigSep_sep' _ _ _).symm); isplitl [Hopen]; · iapply hop $$ Hopen
    iapply (toks_all (F := F)) $$ Htok
  · iexact HB

/-! ## The run -/

theorem bufs_list (c : Dev nD) (W : Valuation τ sig (Elt F)) : (StableHlo.held (c : Thread nD τ) bufs W : sProp 𝕄)
    ⊢ iprop(whole c main_arg0 (W main_arg0) ∗ whole c main_arg1 (W main_arg1) ∗ whole c main_arg2 (W main_arg2) ∗ whole c main_arg3 (W main_arg3)
      ∗ whole c main_arg4 (W main_arg4) ∗ whole c main_v7 (W main_v7) ∗ StableHlo.held (c : Thread nD τ) (bufs \ {Proc.devRef .tc main_arg0, Proc.devRef .tc main_arg1,
        Proc.devRef .tc main_arg2, Proc.devRef .tc main_arg3, Proc.devRef .tc main_arg4, Proc.devRef .tc main_v7}) W) := by
  rw [StableHlo.held_sub_split (c : Thread nD τ) (T := {Proc.devRef .tc main_arg0, Proc.devRef .tc main_arg1,
    Proc.devRef .tc main_arg2, Proc.devRef .tc main_arg3, Proc.devRef .tc main_arg4, Proc.devRef .tc main_v7}) (by decide) W]
  have e : (StableHlo.held (c : Thread nD τ) {Proc.devRef .tc main_arg0, Proc.devRef .tc main_arg1,
        Proc.devRef .tc main_arg2, Proc.devRef .tc main_arg3, Proc.devRef .tc main_arg4, Proc.devRef .tc main_v7} W : sProp 𝕄)
      = iprop(whole c main_arg0 (W main_arg0) ∗ whole c main_arg1 (W main_arg1) ∗ whole c main_arg2 (W main_arg2) ∗ whole c main_arg3 (W main_arg3)
      ∗ whole c main_arg4 (W main_arg4) ∗ whole c main_v7 (W main_v7)) := by
    unfold StableHlo.held
    exact bigSep_eq_bigSepL_of_eq [Proc.devRef .tc main_arg0, Proc.devRef .tc main_arg1, Proc.devRef .tc main_arg2, Proc.devRef .tc main_arg3,
      Proc.devRef .tc main_arg4, Proc.devRef .tc main_v7] (by decide) (by decide) _
  rw [e]
  iintro ⟨⟨H0, H1, H2, H3, H4, H7⟩, H⟩
  isplitl [H0]; · iexact H0
  isplitl [H1]; · iexact H1
  isplitl [H2]; · iexact H2
  isplitl [H3]; · iexact H3
  isplitl [H4]; · iexact H4
  isplitl [H7] <;> iassumption

/-- The end of a run: what every device's buffers and its meeting's semaphore read. -/
def ends (c : Dev nD) (s : MemSt nD τ sig (Elt F)) : Prop :=
  (s.mem ((c : Thread nD τ).loc main_arg0) = V₂ m c main_arg0 ∧ s.mem ((c : Thread nD τ).loc main_arg1) = V₂ m c main_arg1
    ∧ s.mem ((c : Thread nD τ).loc main_arg2) = V₂ m c main_arg2 ∧ s.mem ((c : Thread nD τ).loc main_arg3) = V₂ m c main_arg3
    ∧ s.mem ((c : Thread nD τ).loc main_arg4) = V₂ m c main_arg4 ∧ s.mem ((c : Thread nD τ).loc main_v7) = V₂ m c main_v7) ∧ s.sem (gs c none) = 0

theorem unscoped_sem : ∀ sm : SemLoc sig, sm.isScoped .tc = false → sm = .reg bar := by decide +kernel

set_option backward.isDefEq.respectTransparency.types false in
/-- Every run ends, with every device holding the whole result, the inputs unchanged and every semaphore at zero. -/
theorem run_main : θ_run defs (onTc (τ := τ) (main (F := F))) ⟨m, fun _ => 0, ρ⟩
    (fun r => (∀ c : Dev nD, r.2.mem ((c : Thread nD τ).loc main_v7) = out (ins m)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () (Gen.launch0.toP.cellOf_inj _) EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onFirst_all]; iexact HX)
    (T₀ := fun c => iprop(StableHlo.held (c : Thread nD τ) bufs (V₀ m c) ∗ along m c))
    (Tₙ := fun c => iprop(StableHlo.held (c : Thread nD τ) bufs (V₂ m c) ∗ left c))
    (hch := ⟨fun c => .rfl, fun c => reg_pre m c, fun c => reg_post m c⟩)
    (hinit := init m ρ)
    (QY := ends m)
    (hfin := fun c s' => by
      iintro ⟨⟨H, Hb⟩, HSI⟩
      ihave H := (bufs_list c (V₂ m c)) $$ H
      icases H with ⟨H0, H1, H2, H3, H4, H7, -⟩
      icombine HSI H0 gives %h0
      icombine HSI H1 gives %h1
      icombine HSI H2 gives %h2
      icombine HSI H3 gives %h3
      icombine HSI H4 gives %h4
      icombine HSI H7 gives %h7
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h7⟩, by simpa using hb⟩
      iexact HSI)
    (hQ := fun s h hs => ⟨fun c => by
        obtain ⟨⟨h0, h1, h2, h3, h4, h7⟩, -⟩ := h c
        exact ⟨h7.trans (V₂_out m c), h0.trans ((V₂_ne m c main_arg0 (by decide)).trans (Gen.V_main_arg0 m c)),
          h1.trans ((V₂_ne m c main_arg1 (by decide)).trans (Gen.V_main_arg1 m c)), h2.trans ((V₂_ne m c main_arg2 (by decide)).trans (Gen.V_main_arg2 m c)),
          h3.trans ((V₂_ne m c main_arg3 (by decide)).trans (Gen.V_main_arg3 m c)), h4.trans ((V₂_ne m c main_arg4 (by decide)).trans (Gen.V_main_arg4 m c))⟩,
      sem_eq_zero hs fun c sm hsm => by
        obtain rfl := unscoped_sem sm hsm
        exact (h c).2⟩)

end Cert.KernelIdeal.Att
end
-- ==== Proof.Bits.BodyEq.lean ====
module

public import proofs.«01_k».proof.Proof.Bits.Body
public import proofs.«01_k».proof.Proof.Gen.Kernel.Points
public import proofs.«01_k».proof.Proof.Gen.Kernel.Launch

@[expose] public section

noncomputable section

namespace Cert.Kernel.Att

open Idealize.ShloMosaic Idealize.ShloMosaic.TcCoe Idealize.SL.Sem Facts₀ Facts

variable {F : FTy → Type} [FloatOps F]

set_option maxRecDepth 65536 in
theorem body_eq : Gen.bodyAt0 (F := F) Gen.t0_0 = body := by
  chain_rfl

end Cert.Kernel.Att
end
-- ==== Proof.Read.lean ====
/- The kernel's values over the reals, read at an index. -/
module

public import proofs.«01_k».proof.Proof.Contents
public import Idealize.ShloMosaic.Lib.Pointwise

@[expose] public section

noncomputable section

namespace Cert.KernelIdeal.Att

open Idealize.ShloMosaic Idealize.ShloMosaic.TcCoe Facts₀ Facts

/-- Row `r` of the 128 rows of class `k`, among the 512 rows of a batch. -/
def rowOf (k : Fin 4) (r : Fin 128) : Fin 512 := ⟨256 * (r.val / 64) + 64 * k.val + r.val % 64, by omega⟩
/-- Column `d` of head `h` among a device's eight heads. -/
def col (h : Fin 8) (d : Fin 64) : Fin 512 := ⟨64 * h.val + d.val, by omega⟩
/-- Device `c`'s column `n` among all. -/
def gcol (c : Dev nD) (n : Fin 512) : Fin 4096 := ⟨512 * c.val + n.val, by have := c.isLt; have : nD = 8 := rfl; omega⟩

/-- Eight pieces of 64 columns side by side, read at column `d` of piece `h`. -/
theorem pick8 {α : Type} (f : Fin 8 → Fin 64 → α) (h : Fin 8) (d : Fin 64) (n : ℕ) (e : n = 64 * h.val + d.val) :
    (if h0 : n < 64 then f 0 ⟨n, h0⟩ else
     if h1 : n - 64 < 64 then f 1 ⟨n - 64, h1⟩ else
     if h2 : n - 64 - 64 < 64 then f 2 ⟨n - 64 - 64, h2⟩ else
     if h3 : n - 64 - 64 - 64 < 64 then f 3 ⟨n - 64 - 64 - 64, h3⟩ else
     if h4 : n - 64 - 64 - 64 - 64 < 64 then f 4 ⟨n - 64 - 64 - 64 - 64, h4⟩ else
     if h5 : n - 64 - 64 - 64 - 64 - 64 < 64 then f 5 ⟨n - 64 - 64 - 64 - 64 - 64, h5⟩ else
     if h6 : n - 64 - 64 - 64 - 64 - 64 - 64 < 64 then f 6 ⟨n - 64 - 64 - 64 - 64 - 64 - 64, h6⟩
     else f 7 ⟨n - 64 - 64 - 64 - 64 - 64 - 64 - 64, by omega⟩) = f h d := by
  have key : ∀ (g : Fin 8) (m : Fin 64), n = 64 * g.val + m.val → f g m = f h d := by
    intro g m e'
    have h1 : g = h := Fin.ext (by omega)
    subst h1
    exact congrArg (f g) (Fin.ext (by omega))
  split_ifs <;> exact key _ _ (by simp only [Fin.val_zero, Fin.val_one, Fin.val_ofNat, Fin.isValue]; omega)

theorem wts_ix (q k : FVec Ideal S128x512 .bf16) (h : Fin 8) (a j : Fin 128) :
    wts q k h (ix2 a j) = Ideal.exp ((∑ d : Fin 64, q (ix2 a (col h d)) * k (ix2 j (col h d))) * Ideal.ofBits .f32 0x3E000000#32) := by
  pointwise [wts]
  rfl

theorem wsum_ix (q k : FVec Ideal S128x512 .bf16) (h : Fin 8) (a : Fin 128) (u : Fin 1) :
    wsum q k h (ix2 a u) = ∑ j : Fin 128, wts q k h (ix2 a j) := by
  pointwise [wsum]

theorem wctx_ix (q k v : FVec Ideal S128x512 .bf16) (h : Fin 8) (a : Fin 128) (d : Fin 64) :
    wctx q k v h (ix2 a d) = ∑ j : Fin 128, wts q k h (ix2 a j) * v (ix2 j (col h d)) := by
  pointwise [wctx]
  rfl

theorem spread_ix (s : FVec Ideal S128x8 .f32) (h : Fin 8) (a : Fin 128) (d : Fin 64) :
    spread s h (ix2 a d) = s (ix2 a h) := by
  pointwise [spread]

theorem sAll_ix (q k : FVec Ideal S128x512 .bf16) (a : Fin 128) (h : Fin 8) :
    sAll q k (ix2 a h) = ∑ j : Fin 128, wts q k h (ix2 a j) := by
  pointwise [sAll]
  simp only [wsum_ix]
  fin_cases h <;> rfl

theorem cAll_ix (q k v : FVec Ideal S128x512 .bf16) (a : Fin 128) (h : Fin 8) (d : Fin 64) :
    cAll q k v (ix2 a (col h d)) = ∑ j : Fin 128, wts q k h (ix2 a j) * v (ix2 j (col h d)) := by
  pointwise [cAll]
  simp only [wctx_ix]
  exact pick8 (fun h d => ∑ j : Fin 128, wts q k h (ix2 a j) * v (ix2 j (col h d))) h d _ rfl

theorem two_ix (u v : Vec Ideal S1x1x1x64x512 .bf16) (a : Fin 128) (n : Fin 512) :
    two u v (ix2 a n) = if h : a.val < 64 then u (ix5 0 0 0 ⟨a.val, h⟩ n) else v (ix5 0 0 0 ⟨a.val - 64, by omega⟩ n) := by
  pointwise [two]

theorem qAll_ix (x : Vec Ideal S2x512x768 .f32) (w : Vec Ideal S768x512 .f32) (i : Fin 1024) (n : Fin 512) :
    qAll x w (ix2 i n) = ∑ f : Fin 768, x (ix3 ⟨i.val / 512, by omega⟩ ⟨i.val % 512, by omega⟩ f) * w (ix2 f n) := by
  pointwise [qAll]

theorem qRows_ix (x : Vec Ideal S2x512x768 .f32) (w : Vec Ideal S768x512 .f32) (b : Fin 2) (k : Fin 4) (a : Fin 128) (n : Fin 512) :
    qRows x w b k (ix2 a n) = ∑ f : Fin 768, x (ix3 b (rowOf k a) f) * w (ix2 f n) := by
  pointwise [qRows]
  simp only [qAll_ix]
  have key : ∀ (b' : Fin 2) (i' : Fin 512), b'.val = b.val → i'.val = (rowOf k a).val →
      ∑ f : Fin 768, x (ix3 b' i' f) * w (ix2 f n) = ∑ f : Fin 768, x (ix3 b (rowOf k a) f) * w (ix2 f n) := by
    intro b' i' h1 h2
    rw [Fin.ext h1, Fin.ext h2]
  split_ifs <;> exact key _ _ (by simp only; omega) (by simp only [rowOf]; omega)

theorem sNew_ix (q k : FVec Ideal S128x512 .bf16) (a : Fin 128) (h : Fin 8) : sNew q k (ix4 0 0 a h) = sAll q k (ix2 a h) := by
  pointwise [sNew]
theorem sAdd_ix (o : Vec Ideal S1x1x128x8 .f32) (q k : FVec Ideal S128x512 .bf16) (a : Fin 128) (h : Fin 8) :
    sAdd o q k (ix4 0 0 a h) = o (ix4 0 0 a h) + sAll q k (ix2 a h) := by
  pointwise [sAdd]
theorem cNew_ix (q k v : FVec Ideal S128x512 .bf16) (a : Fin 128) (n : Fin 512) : cNew q k v (ix4 0 0 a n) = cAll q k v (ix2 a n) := by
  pointwise [cNew]
theorem cAdd_ix (o : Vec Ideal S1x1x128x512 .f32) (q k v : FVec Ideal S128x512 .bf16) (a : Fin 128) (n : Fin 512) :
    cAdd o q k v (ix4 0 0 a n) = o (ix4 0 0 a n) + cAll q k v (ix2 a n) := by
  pointwise [cAdd]

theorem quot_ix (s : Vec Ideal S1x1x128x8 .f32) (v : Vec Ideal S1x1x128x512 .f32) (a : Fin 128) (h : Fin 8) (d : Fin 64) :
    quot s v (ix2 a (col h d)) = Ideal.div (v (ix4 0 0 a (col h d))) (s (ix4 0 0 a h)) := by
  pointwise [quot]
  simp only [spread_ix]
  refine (congrArg (Ideal.div _) (pick8 (fun h _ => shapeCast S128x8 s shapeCasts_S1x1x128x8_S128x8 (ix2 a h)) h d _ rfl)).trans ?_
  pointwise

theorem proj_ix (D : Fin 4 → FVec Ideal S128x512 .f32) (wo : Vec Ideal S512x768 .f32) (k : Fin 4) (a : Fin 128) (j : Fin 768) :
    proj (D 0) (D 1) (D 2) (D 3) wo (ix3 0 (rowOf k a) j) = ∑ n : Fin 512, D k (ix2 a n) * wo (ix2 n j) := by
  pointwise [proj]
  refine Finset.sum_congr rfl fun x _ => ?_
  congr 1
  have key : ∀ (k' : Fin 4) (a' : Fin 128), k'.val = k.val → a'.val = a.val → D k' (ix2 a' x) = D k (ix2 a x) := by
    intro k' a' h1 h2
    rw [Fin.ext h1, Fin.ext h2]
  have e : (rowOf k a).val = 256 * (a.val / 64) + 64 * k.val + a.val % 64 := rfl
  split_ifs <;> refine key _ _ ?_ ?_ <;> (try simp only [Fin.val_zero, Fin.val_one, Fin.val_ofNat, Fin.isValue]) <;> omega

theorem rsum_ix (p : Vec Ideal S8x2x64x768 .bf16) (b : Fin 2) (r : Fin 64) (j : Fin 768) :
    rsum p (ix3 b r j) = ∑ s : Fin 8, p (ix4 s b r j) := by
  pointwise [rsum]

end Cert.KernelIdeal.Att
end
-- ==== Proof.Kval.lean ====
/- The kernel's result over the reals: entry (b, i, j) is the sum, over the devices and the device's heads and
   columns, of the attention's quotient times the output projection. -/
module

public import proofs.«01_k».proof.Proof.Read

@[expose] public section

noncomputable section

namespace Cert.KernelIdeal.Att

open Idealize.ShloMosaic Idealize.ShloMosaic.TcCoe Facts₀ Facts

variable (I : Ins Ideal)

/-- The factor of the scores, 1/8, as the programs write it. -/
abbrev c8 : EReal := Ideal.ofBits .f32 0x3E000000#32

/-- Column `n` of device `c`'s queries, row `i` of batch `b`. -/
def qry (c : Dev nD) (b : Fin 2) (i n : Fin 512) : EReal := ∑ f : Fin 768, I.x c (ix3 b i f) * I.wq c (ix2 f n)

/-- The weight of device `e`'s key row `j` for query row `i`, head `h` of device `c`. -/
def wgt (c : Dev nD) (b : Fin 2) (h : Fin 8) (i : Fin 512) (e : Dev nD) (j : Fin 512) : EReal :=
  Ideal.exp ((∑ d : Fin 64, qry I c b i (col h d) * I.kv e (ix4 0 b j (gcol c (col h d)))) * c8)

/-- The class of a row, and its place among the class's rows. -/
def kOf (i : Fin 512) : Fin 4 := ⟨i.val / 64 % 4, by omega⟩
def aOf (i : Fin 512) : Fin 128 := ⟨64 * (i.val / 256) + i.val % 64, by omega⟩
theorem row_kOf (i : Fin 512) : rowOf (kOf i) (aOf i) = i := Fin.ext (by simp only [rowOf, kOf, aOf]; omega)

/-- The sum of the weights, and of the weighted values, over the class's rows of every device. -/
def den (c : Dev nD) (b : Fin 2) (h : Fin 8) (k : Fin 4) (i : Fin 512) : EReal :=
  ∑ e : Dev nD, ∑ r : Fin 128, wgt I c b h i e (rowOf k r)
def num (c : Dev nD) (b : Fin 2) (h : Fin 8) (d : Fin 64) (k : Fin 4) (i : Fin 512) : EReal :=
  ∑ e : Dev nD, ∑ r : Fin 128, wgt I c b h i e (rowOf k r) * I.kv e (ix4 1 b (rowOf k r) (gcol c (col h d)))

theorem xv_eq (c : Dev nD) : xv I c = I.x c := by
  funext j
  show I.x c ((Rect.unit (s := S2x512x768) ![0, 0, 0] S2x512x768.size inb_S2x512x768_S2x512x768_0_0_0).emb j) = _
  exact congrArg _ (unit_emb (s := S2x512x768) _ _ _ j j fun a => by fin_cases a <;> exact (Nat.zero_add _).symm)
theorem wv_eq (c : Dev nD) : wv I c = I.wq c := by
  funext j
  show I.wq c ((Rect.unit (s := S768x512) ![0, 0] S768x512.size inb_S768x512_S768x512_0_0).emb j) = _
  exact congrArg _ (unit_emb (s := S768x512) _ _ _ j j fun a => by fin_cases a <;> exact (Nat.zero_add _).symm)
theorem wov_eq (c : Dev nD) : wov I c = I.wo c := by
  funext j
  show I.wo c ((Rect.unit (s := S512x768) ![0, 0] S512x768.size inb_S512x768_S512x768_0_0).emb j) = _
  exact congrArg _ (unit_emb (s := S512x768) _ _ _ j j fun a => by fin_cases a <;> exact (Nat.zero_add _).symm)
theorem rsv_eq (c : Dev nD) : rsv I c = rs I c := by
  funext j
  show rs I c ((Rect.unit (s := S8x2x64x768) ![0, 0, 0, 0] S8x2x64x768.size inb_S8x2x64x768_S8x2x64x768_0_0_0_0).emb j) = _
  exact congrArg _ (unit_emb (s := S8x2x64x768) _ _ _ j j fun a => by fin_cases a <;> exact (Nat.zero_add _).symm)

theorem blkv_ix (c : Dev nD) (s : Fin 8) (w b h : Fin 2) (k : Fin 4) (r : Fin 64) (n : Fin 512) :
    blkv I c s w b h k (ix5 0 0 0 r n) = I.kv (src c s) (ix4 w b ⟨256 * h.val + 64 * k.val + r.val, by omega⟩ (gcol c n)) := by
  show full I c ((Rect.unit (s := S8x2x2x512x512) ![s.val, w.val, b.val, 256 * h.val + 64 * k.val, 0] S1x1x1x64x512.size
    (inbBlk s w b h k)).emb (ix5 0 0 0 r n)) = _
  have e : (Rect.unit (s := S8x2x2x512x512) ![s.val, w.val, b.val, 256 * h.val + 64 * k.val, 0] S1x1x1x64x512.size
      (inbBlk s w b h k)).emb (ix5 0 0 0 r n) = ix5 s w b ⟨256 * h.val + 64 * k.val + r.val, by omega⟩ n :=
    unit_emb (s := S8x2x2x512x512) _ _ _ _ _ fun a => by fin_cases a <;> first | rfl | exact (Nat.zero_add _).symm
  rw [e]
  rfl

theorem two_blkv (c : Dev nD) (s : Fin 8) (w b : Fin 2) (k : Fin 4) (r : Fin 128) (n : Fin 512) :
    two (blkv I c s w b 0 k) (blkv I c s w b 1 k) (ix2 r n) = I.kv (src c s) (ix4 w b (rowOf k r) (gcol c n)) := by
  rw [two_ix]
  simp only [blkv_ix]
  have key : ∀ j : Fin 512, j.val = (rowOf k r).val →
      I.kv (src c s) (ix4 w b j (gcol c n)) = I.kv (src c s) (ix4 w b (rowOf k r) (gcol c n)) := fun j h => by rw [Fin.ext h]
  have e : (rowOf k r).val = 256 * (r.val / 64) + 64 * k.val + r.val % 64 := rfl
  split_ifs <;> refine key _ ?_ <;> (try simp only [Fin.val_zero, Fin.val_one, Fin.isValue]) <;> omega

theorem qv_ix (c : Dev nD) (b : Fin 2) (k : Fin 4) (a : Fin 128) (n : Fin 512) :
    qv I c b k (ix2 a n) = qry I c b (rowOf k a) n := by
  rw [qv, qRows_ix, xv_eq, wv_eq]
  rfl

theorem wts_wgt (c : Dev nD) (s : Fin 8) (b : Fin 2) (k : Fin 4) (h : Fin 8) (a j : Fin 128) :
    wts (qv I c b k) (keys I c s b k) h (ix2 a j) = wgt I c b h (rowOf k a) (src c s) (rowOf k j) := by
  rw [wts_ix]
  simp only [qv_ix, keys, two_blkv]
  rfl

theorem src_bij (c : Dev nD) : Function.Bijective (src c) := by
  revert c
  decide +kernel

/-- A sum over the slots is a sum over the devices. -/
theorem sum_src (c : Dev nD) (f : Dev nD → EReal) : ∑ s : Fin 8, f (src c s) = ∑ e : Dev nD, f e :=
  (src_bij c).sum_comp f

theorem sVal_ix (c : Dev nD) (b : Fin 2) (k : Fin 4) (a : Fin 128) (h : Fin 8) :
    sVal I c b k 7 (ix4 0 0 a h) = den I c b h k (rowOf k a) := by
  rw [den, ← sum_src c fun e => ∑ r : Fin 128, wgt I c b h (rowOf k a) e (rowOf k r), Fin.sum_univ_eight]
  simp only [sVal, sAdd_ix, sNew_ix, sAll_ix, wts_wgt]
  rfl

theorem cVal_ix (c : Dev nD) (b : Fin 2) (k : Fin 4) (a : Fin 128) (h : Fin 8) (d : Fin 64) :
    cVal I c b k 7 (ix4 0 0 a (col h d)) = num I c b h d k (rowOf k a) := by
  rw [num, ← sum_src c fun e => ∑ r : Fin 128, wgt I c b h (rowOf k a) e (rowOf k r) * I.kv e (ix4 1 b (rowOf k r) (gcol c (col h d))),
    Fin.sum_univ_eight]
  simp only [cVal, cAdd_ix, cNew_ix, cAll_ix, wts_wgt, vals, two_blkv]
  rfl

/-- A sum over a device's columns, head by head. -/
theorem sum_cols (f : Fin 512 → EReal) : ∑ n : Fin 512, f n = ∑ h : Fin 8, ∑ d : Fin 64, f (col h d) := by
  rw [← Fintype.sum_prod_type' fun h d => f (col h d)]
  refine (Fintype.sum_equiv (finProdFinEquiv (m := 8) (n := 64)) _ _ fun p => ?_).symm
  refine congrArg f (Fin.ext ?_)
  show 64 * p.1.val + p.2.val = p.2.val + 64 * p.1.val
  omega

/-- Device `c`'s attention for row `i` of batch `b`, head `h`, column `d`. -/
def ctx (c : Dev nD) (b : Fin 2) (i : Fin 512) (h : Fin 8) (d : Fin 64) : EReal :=
  Ideal.div (num I c b h d (kOf i) i) (den I c b h (kOf i) i)

theorem partB_ix (c : Dev nD) (b : Fin 2) (i : Fin 512) (j : Fin 768) :
    partB I c b (ix3 0 i j) = ∑ h : Fin 8, ∑ d : Fin 64, ctx I c b i h d * I.wo c (ix2 (col h d) j) := by
  have e := proj_ix (fun k => quot (sVal I c b k 7) (cVal I c b k 7)) (wov I c) (kOf i) (aOf i) j
  rw [row_kOf] at e
  refine e.trans ?_
  rw [sum_cols, wov_eq]
  simp only [quot_ix, sVal_ix, cVal_ix, row_kOf]
  rfl

theorem out_ix (b : Fin 2) (i : Fin 512) (j : Fin 768) :
    out I (ix3 b i j) = ∑ c : Dev nD, ∑ h : Fin 8, ∑ d : Fin 64, ctx I c b i h d * I.wo c (ix2 (col h d) j) := by
  have e := rsum_ix (rsv I (rowDev i)) b ⟨i.val % 64, Nat.mod_lt _ (by decide)⟩ j
  have h0 : out I (ix3 b i j) = rsum (rsv I (rowDev i)) (ix3 b ⟨i.val % 64, Nat.mod_lt _ (by decide)⟩ j) := rfl
  rw [h0, e, rsv_eq]
  have h1 : ∀ s : Fin 8, rs I (rowDev i) (ix4 s b (⟨i.val % 64, Nat.mod_lt _ (by decide)⟩ : Fin 64) j)
      = partB I (src (rowDev i) s) b (ix3 0 i j) := by
    intro s
    show partB I (src (rowDev i) s) b _ = _
    congr 1
    funext a
    fin_cases a
    · rfl
    · exact Fin.ext (show 64 * (i.val / 64) + i.val % 64 = i.val by omega)
    · rfl
  simp only [h1]
  rw [sum_src (rowDev i) fun e => partB I e b (ix3 0 i j)]
  simp only [partB_ix]

end Cert.KernelIdeal.Att
end
-- ==== Proof.RefMask.lean ====
/- The reference's mask, in named stages: the integer part, the mask. -/
module

public import proofs.«01_k».proof.Proof.Gen.ReferenceIdeal.Run
public import Idealize.ShloMosaic.Lib.Pointwise

@[expose] public section

noncomputable section

namespace Cert.ReferenceIdeal.Att

open Idealize.ShloMosaic Idealize.ShloMosaic.TcCoe Facts₀ Facts

/-- Every entry over 64, rounded down. -/
def fdiv (s : Shape) (hb : S_.BroadcastsInDim s (![] : Fin 0 → Fin s.rank)) (x : IVec s 32) : IVec s 32 :=
  select (andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32)))
    (Host.divsi x (broadcastInDim s ![] hb (id (constantI S_ 32 64#32))))

/-- The modulus 4, with 1 in place of 0. -/
def four : IVec S_ 32 := select (cmpi .eq (id (constantI S_ 32 4#32)) (constantI S_ 32 0#32)) (constantI S_ 32 1#32) (id (constantI S_ 32 4#32))

/-- Every entry modulo 4. -/
def rem4 (s : Shape) (hb : S_.BroadcastsInDim s (![] : Fin 0 → Fin s.rank)) (x : IVec s 32) : IVec s 32 :=
  select (andi (cmpi .ne (cmpi .slt (Host.remsi x (broadcastInDim s ![] hb four)) (broadcastInDim s ![] hb (constantI S_ 32 0#32)))
        (broadcastInDim s ![] hb (cmpi .slt four (constantI S_ 32 0#32))))
      (cmpi .ne (Host.remsi x (broadcastInDim s ![] hb four)) (broadcastInDim s ![] hb (constantI S_ 32 0#32))))
    (addi (Host.remsi x (broadcastInDim s ![] hb four)) (broadcastInDim s ![] hb four))
    (Host.remsi x (broadcastInDim s ![] hb four))

/-- The block of each query row, and of each key row. -/
def qb : IVec S512x1 32 := broadcastInDim S512x1 ![0] bcast_S512_S512x1_0 (fdiv S512 bcast_S_S512 (iotaInDim S512 32 0))
/-- The block of each key row. -/
def kb : IVec S1x4096 32 := broadcastInDim S1x4096 ![1] bcast_S4096_S1x4096_1 (fdiv S4096 bcast_S_S4096 (iotaInDim S4096 32 0))

/-- Row `i` of the 512 query rows lies in block `i / 64`. -/
theorem fdiv512_ix (i : Fin 512) : fdiv S512 bcast_S_S512 (iotaInDim S512 32 0) (ix1 i) = BitVec.ofNat 32 (i.val / 64) := by
  pointwise [fdiv]
  revert i
  decide +kernel

/-- Row `i` of the 4096 key rows lies in block `i / 64`. -/
theorem fdiv4096_ix (i : Fin 4096) : fdiv S4096 bcast_S_S4096 (iotaInDim S4096 32 0) (ix1 i) = BitVec.ofNat 32 (i.val / 64) := by
  pointwise [fdiv]
  revert i
  decide +kernel

/-- The query blocks, entry by entry. -/
theorem qb_ix (i : Fin 512) : qb (ix2 i 0) = BitVec.ofNat 32 (i.val / 64) := by
  pointwise [qb, fdiv512_ix]

/-- The key blocks, entry by entry. -/
theorem kb_ix (i : Fin 4096) : kb (ix2 0 i) = BitVec.ofNat 32 (i.val / 64) := by
  pointwise [kb, fdiv4096_ix]

/-- The query blocks modulo 4, entry by entry. -/
theorem rem4q_ix (i : Fin 512) : rem4 S512x1 bcast_S_S512x1 qb (ix2 i 0) = BitVec.ofNat 32 (i.val / 64 % 4) := by
  pointwise [rem4, four, qb_ix]
  have h : i.val / 64 < 64 := by omega
  generalize i.val / 64 = n at h ⊢
  revert n
  decide +kernel

/-- The key blocks modulo 4, entry by entry. -/
theorem rem4k_ix (i : Fin 4096) : rem4 S1x4096 bcast_S_S1x4096 kb (ix2 0 i) = BitVec.ofNat 32 (i.val / 64 % 4) := by
  pointwise [rem4, four, kb_ix]
  have h : i.val / 64 < 64 := by omega
  generalize i.val / 64 = n at h ⊢
  revert n
  decide +kernel

/-- The mask: same block, or blocks equal modulo 4. -/
def mask : IVec S512x4096 1 :=
  ori (cmpi .eq (broadcastInDim S512x4096 ![0, 1] bcast_S512x1_S512x4096_0_1 qb) (broadcastInDim S512x4096 ![0, 1] bcast_S1x4096_S512x4096_0_1 kb))
    (cmpi .eq (broadcastInDim S512x4096 ![0, 1] bcast_S1x4096_S512x4096_0_1 (rem4 S1x4096 bcast_S_S1x4096 kb))
      (broadcastInDim S512x4096 ![0, 1] bcast_S512x1_S512x4096_0_1 (rem4 S512x1 bcast_S_S512x1 qb)))

/-- Words of small numbers are equal when the numbers are. -/
theorem word_eq {a b : Nat} (ha : a < 4096) (hb : b < 4096) : (BitVec.ofNat 32 a = BitVec.ofNat 32 b) ↔ a = b := by
  constructor
  · intro h
    have := congrArg BitVec.toNat h
    simp only [BitVec.toNat_ofNat] at this
    omega
  · rintro rfl; rfl

/-- The same, as the test of equality. -/
theorem word_beq {a b : Nat} (ha : a < 4096) (hb : b < 4096) : (BitVec.ofNat 32 a == BitVec.ofNat 32 b) = decide (a = b) :=
  (beq_eq_decide _ _).trans (decide_eq_decide.mpr (word_eq ha hb))

/-- A key is kept for a query when their blocks agree modulo 4. -/
theorem mask_ix (i : Fin 512) (j : Fin 4096) : mask (ix2 i j) = if j.val / 64 % 4 = i.val / 64 % 4 then 1#1 else 0#1 := by
  pointwise [mask, qb_ix, kb_ix, rem4q_ix, rem4k_ix]
  have hi := i.isLt
  have hj := j.isLt
  simp only [IntOp.ori, IntOp.cmpi, word_beq (show i.val / 64 < 4096 by omega) (show j.val / 64 < 4096 by omega),
    word_beq (show j.val / 64 % 4 < 4096 by omega) (show i.val / 64 % 4 < 4096 by omega)]
  by_cases h : j.val / 64 % 4 = i.val / 64 % 4
  · simp only [h, decide_true, if_true]
    cases decide (i.val / 64 = j.val / 64) <;> rfl
  · have : ¬ i.val / 64 = j.val / 64 := by omega
    simp [h, this]

/-- Whether a query keeps any key. -/
def keep : IVec S512 1 := Host.reduce IntOp.ori mask (constantI S_ 1 0#1) reducesTo_S512x4096_S512_d1 h_S_

/-- A disjunction with a true member is true. -/
theorem fold_ori_one {ι : Type} [DecidableEq ι] (s : Finset ι) (f : ι → BitVec 1) (a : ι) (ha : a ∈ s) (h : f a = 1#1) :
    s.fold IntOp.ori 0#1 f = 1#1 := by
  rw [← Finset.insert_erase ha, Finset.fold_insert (Finset.notMem_erase a s), h]
  exact (by decide : ∀ x : BitVec 1, IntOp.ori (1#1) x = 1#1) _

/-- Every query keeps some key: the one at its own row. -/
theorem keep_ix (i : Fin 512) : keep (ix1 i) = 1#1 := by
  pointwise [keep, mask_ix]
  have hi := i.isLt
  refine fold_ori_one _ _ ⟨i.val, by omega⟩ (Finset.mem_univ _) ?_
  simp

end Cert.ReferenceIdeal.Att
end
-- ==== Proof.RefStages.lean ====
/- The reference's computation in named stages: queries, mask, scores, weights, context, result. -/
module

public import proofs.«01_k».proof.Proof.Gen.ReferenceIdeal.Run
public import proofs.«01_k».proof.Proof.RefMask
public import Idealize.ShloMosaic.Lib.Pointwise

@[expose] public section

noncomputable section

namespace Cert.ReferenceIdeal.Att

open Idealize.ShloMosaic Idealize.ShloMosaic.TcCoe Facts₀ Facts

variable (x : FVec Ideal S2x512x768 .f32) (wq : FVec Ideal S768x4096 .f32) (k v : FVec Ideal S2x4096x64x64 .f32) (wo : FVec Ideal S4096x768 .f32)

/-- The projected queries, head by head. -/
def queries : FVec Ideal S2x512x64x64 .f32 :=
  shapeCast _ (Host.dotGeneral dot_S2x512x768_S768x4096_S2x512x4096_2_0_01_1_n_n none x wq) shapeCasts_S2x512x4096_S2x512x64x64

/-- Column `64 H + d` of 4096. -/
def hcol (H d : Fin 64) : Fin 4096 := ⟨64 * H.val + d.val, by omega⟩

/-- A query entry is a row of the activations times a column of the projection. -/
theorem queries_ix (b : Fin 2) (i : Fin 512) (H d : Fin 64) :
    queries x wq (ix4 b i H d) = ∑ f : Fin 768, x (ix3 b i f) * wq (ix2 f (hcol H d)) := by
  pointwise [queries]
  have e : (⟨H.val * 64 + d.val, by omega⟩ : Fin 4096) = hcol H d := Fin.ext (by simp only [hcol]; omega)
  exact Finset.sum_congr rfl fun f _ => by rw [← e]

/-- The masked, scaled scores. -/
def scores : FVec Ideal S2x64x512x4096 .f32 :=
  select (broadcastInDim S2x64x512x4096 ![0, 1, 2, 3] bcast_S1x1x512x4096_S2x64x512x4096_0_1_2_3 (broadcastInDim S1x1x512x4096 ![2, 3] bcast_S512x4096_S1x1x512x4096_2_3 mask))
    (mulf (Host.dotGeneral dot_S2x512x64x64_S2x4096x64x64_S2x64x512x4096_3_3_1_1_02_02 none (queries x wq) k)
      (broadcastInDim S2x64x512x4096 ![] bcast_S_S2x64x512x4096 (constant S_ .f32 0x3E000000#32)))
    (broadcastInDim S2x64x512x4096 ![] bcast_S_S2x64x512x4096 (id (constant S_ .f32 0xFF800000#32)))

/-- A kept key has the scaled product of query and key as its score, another the value that stands for it. -/
theorem scores_ix (b : Fin 2) (H : Fin 64) (i : Fin 512) (j : Fin 4096) :
    scores x wq k (ix4 b H i j) = if j.val / 64 % 4 = i.val / 64 % 4
      then (∑ d : Fin 64, (∑ f : Fin 768, x (ix3 b i f) * wq (ix2 f (hcol H d))) * k (ix4 b j H d)) * Ideal.ofBits .f32 0x3E000000#32
      else Ideal.ofBits .f32 0xFF800000#32 := by
  pointwise [scores, mask_ix, queries_ix]
  by_cases h : j.val / 64 % 4 = i.val / 64 % 4
  · simp only [h, if_true, Scalar.select]
    exact if_pos rfl
  · simp only [h, if_false, Scalar.select]; rfl

/-- The largest score of each query. -/
def top : FVec Ideal S2x64x512 .f32 :=
  Host.reduce FloatOps.maximumf (scores x wq k) (constant S_ .f32 0xFF800000#32) reducesTo_S2x64x512x4096_S2x64x512_d3 h_S_

/-- It is the maximum over all keys. -/
theorem top_ix (b : Fin 2) (H : Fin 64) (i : Fin 512) :
    top x wq k (ix3 b H i) = Finset.univ.fold max (Ideal.ofBits .f32 0xFF800000#32) (fun j : Fin 4096 => scores x wq k (ix4 b H i j)) := by
  pointwise [top]

/-- The exponentials of the scores below the largest. -/
def weights : FVec Ideal S2x64x512x4096 .f32 :=
  Host.exp (subf (scores x wq k) (broadcastInDim S2x64x512x4096 ![0, 1, 2, 3] bcast_S2x64x512x1_S2x64x512x4096_0_1_2_3
    (broadcastInDim S2x64x512x1 ![0, 1, 2] bcast_S2x64x512_S2x64x512x1_0_1_2 (top x wq k))))

/-- A weight, entry by entry. -/
theorem weights_ix (b : Fin 2) (H : Fin 64) (i : Fin 512) (j : Fin 4096) :
    weights x wq k (ix4 b H i j) = Ideal.exp (scores x wq k (ix4 b H i j) - top x wq k (ix3 b H i)) := by
  pointwise [weights]

/-- The weights over their sum. -/
def share : FVec Ideal S2x64x512x4096 .f32 :=
  select (broadcastInDim S2x64x512x4096 ![0, 1, 2, 3] bcast_S1x1x512x1_S2x64x512x4096_0_1_2_3 (broadcastInDim S1x1x512x1 ![2] bcast_S512_S1x1x512x1_2 keep))
    (Host.divf (weights x wq k) (broadcastInDim S2x64x512x4096 ![0, 1, 2, 3] bcast_S2x64x512x1_S2x64x512x4096_0_1_2_3
      (select (broadcastInDim S2x64x512x1 ![0, 1, 2, 3] bcast_S1x1x512x1_S2x64x512x1_0_1_2_3 (broadcastInDim S1x1x512x1 ![2] bcast_S512_S1x1x512x1_2 keep))
        (broadcastInDim S2x64x512x1 ![0, 1, 2] bcast_S2x64x512_S2x64x512x1_0_1_2
          (Host.reduceAdd (weights x wq k) (constant S_ .f32 0x00000000#32) reducesTo_S2x64x512x4096_S2x64x512_d3 h_S_))
        (broadcastInDim S2x64x512x1 ![] bcast_S_S2x64x512x1 (id (constant S_ .f32 0x3F800000#32))))))
    (broadcastInDim S2x64x512x4096 ![] bcast_S_S2x64x512x4096 (id (constant S_ .f32 0x00000000#32)))

/-- Since every query keeps a key, a share is the weight over the sum of the weights. -/
theorem share_ix (b : Fin 2) (H : Fin 64) (i : Fin 512) (j : Fin 4096) :
    share x wq k (ix4 b H i j) = Ideal.div (weights x wq k (ix4 b H i j)) (∑ j : Fin 4096, weights x wq k (ix4 b H i j)) := by
  pointwise [share, keep_ix]

/-- The values averaged by the shares, the heads side by side. -/
def context : FVec Ideal S2x512x4096 .f32 :=
  shapeCast _ (transpose S2x512x64x64 [0, 3, 1, 2] (Host.dotGeneral dot_S2x4096x64x64_S2x64x512x4096_S2x64x64x512_1_3_3_2_02_01 none v (share x wq k))
    transposes_S2x64x64x512_S2x512x64x64_0_3_1_2) shapeCasts_S2x512x64x64_S2x512x4096

/-- An entry of head `H`, column `d`, is the sum of the values by the shares. -/
theorem context_ix (b : Fin 2) (i : Fin 512) (H d : Fin 64) :
    context x wq k v (ix3 b i (hcol H d)) = ∑ j : Fin 4096, v (ix4 b j H d) * share x wq k (ix4 b H i j) := by
  pointwise [context]
  have e : (⟨(hcol H d).val / 64, by simp only [hcol]; omega⟩ : Fin 64) = H := Fin.ext (by simp only [hcol]; omega)
  have e' : (⟨(hcol H d).val % 64, by simp only [hcol]; omega⟩ : Fin 64) = d := Fin.ext (by simp only [hcol]; omega)
  exact Finset.sum_congr rfl fun j _ => by rw [e, e']

/-- The output projection of the context. -/
def result : FVec Ideal S2x512x768 .f32 :=
  Host.dotGeneral dot_S2x512x4096_S4096x768_S2x512x768_2_0_01_1_n_n none (context x wq k v) wo

/-- An entry of the result is a row of the context times a column of the projection. -/
theorem result_ix (b : Fin 2) (i : Fin 512) (j : Fin 768) :
    result x wq k v wo (ix3 b i j) = ∑ n : Fin 4096, context x wq k v (ix3 b i n) * wo (ix2 n j) := by
  pointwise [result]

end Cert.ReferenceIdeal.Att
end
-- ==== Proof.Softmax.lean ====
/- Sums of extended reals, and the attention's quotient: the weights that a masked softmax divides one by one,
   subtracting the row's maximum, give the quotient of the two sums over the unmasked keys. -/
module

public import Idealize.ShloMosaic.Lib.Pointwise

@[expose] public section

noncomputable section

namespace Cert.Softmax

open Idealize.ShloMosaic

/-- A finite sum of real numbers is the real number of their sum. -/
theorem sum_coe {ι : Type} (A : Finset ι) (f : ι → ℝ) : ∑ j ∈ A, (f j : EReal) = ((∑ j ∈ A, f j : ℝ) : EReal) := by
  classical
  induction A using Finset.induction_on with
  | empty => simp
  | insert a A ha ih => rw [Finset.sum_insert ha, Finset.sum_insert ha, ih, EReal.coe_add]

/-- A nonnegative real factor goes into a finite sum of any extended reals. -/
theorem sum_mul_coe {ι : Type} (A : Finset ι) (f : ι → EReal) (r : ℝ) (hr : 0 ≤ r) :
    (∑ j ∈ A, f j) * (r : EReal) = ∑ j ∈ A, f j * (r : EReal) := by
  classical
  induction A using Finset.induction_on with
  | empty => simp
  | insert a A ha ih =>
    rw [Finset.sum_insert ha, Finset.sum_insert ha,
      EReal.right_distrib_of_nonneg_of_ne_top (by exact_mod_cast hr) (EReal.coe_ne_top r), ih]

/-- The maximum of a row of reals and bottoms, with one real in it, is real. -/
theorem fold_max_real {ι : Type} [Fintype ι] (A : Finset ι) [DecidablePred (· ∈ A)] (hA : A.Nonempty) (s : ι → ℝ) :
    ∃ μ : ℝ, Finset.univ.fold max (⊥ : EReal) (fun j => if j ∈ A then (s j : EReal) else ⊥) = μ := by
  set M := Finset.univ.fold max (⊥ : EReal) (fun j => if j ∈ A then (s j : EReal) else ⊥) with hM
  obtain ⟨a, ha⟩ := hA
  have h1 : (s a : EReal) ≤ M := by
    rw [hM, Finset.le_fold_max]
    exact .inr ⟨a, Finset.mem_univ a, by rw [if_pos ha]⟩
  have h2 : M < ⊤ := by
    rw [hM, Finset.fold_max_lt]
    refine ⟨bot_lt_top, fun j _ => ?_⟩
    split_ifs
    · exact EReal.coe_lt_top _
    · exact bot_lt_top
  refine ⟨M.toReal, (EReal.coe_toReal h2.ne ?_).symm⟩
  intro h
  rw [h] at h1
  exact absurd h1 (not_le.mpr (EReal.bot_lt_coe _))

/-- The softmax of a masked row, times the values, is the quotient of the unmasked sums. -/
theorem softmax {ι : Type} [Fintype ι] (A : Finset ι) [DecidablePred (· ∈ A)] (hA : A.Nonempty) (s : ι → ℝ) (v : ι → EReal)
    (t w : ι → EReal) (M : EReal) (ht : ∀ j, t j = if j ∈ A then (s j : EReal) else ⊥) (hM : M = Finset.univ.fold max ⊥ t)
    (hw : ∀ j, w j = Ideal.exp (t j - M)) :
    ∑ j, v j * Ideal.div (w j) (∑ j, w j)
      = Ideal.div (∑ j ∈ A, Ideal.exp (s j) * v j) (∑ j ∈ A, Ideal.exp (s j)) := by
  obtain ⟨μ, hμ⟩ := fold_max_real A hA s
  have hM' : M = (μ : EReal) := by rw [hM, funext ht, hμ]
  set U : ℝ := ∑ j ∈ A, Real.exp (s j) with hU
  have hU0 : 0 < U := Finset.sum_pos (fun _ _ => Real.exp_pos _) hA
  have hw' : ∀ j, w j = if j ∈ A then ((Real.exp (s j) * Real.exp (-μ) : ℝ) : EReal) else 0 := by
    intro j
    rw [hw, ht, hM']
    split_ifs
    · rw [← EReal.coe_sub, Ideal.exp_coe, sub_eq_add_neg, Real.exp_add]
    · rw [EReal.bot_sub, Ideal.exp_bot]
  have hW : ∑ j, w j = ((U * Real.exp (-μ) : ℝ) : EReal) := by
    have e : Finset.univ.filter (· ∈ A) = A := by ext j; simp
    rw [funext hw', ← Finset.sum_filter, e, sum_coe, ← Finset.sum_mul]
  have hW0 : U * Real.exp (-μ) ≠ 0 := (mul_pos hU0 (Real.exp_pos _)).ne'
  have hR : ∑ j ∈ A, Ideal.exp (s j) = ((U : ℝ) : EReal) := by
    simp only [Ideal.exp_coe]
    exact sum_coe A _
  rw [hR, hW, Ideal.div_coe hU0.ne', sum_mul_coe _ _ _ (by positivity), ← Finset.sum_subset (Finset.subset_univ A)]
  · refine Finset.sum_congr rfl fun j hj => ?_
    have h1 := (Real.exp_pos (-μ)).ne'
    have h2 := hU0.ne'
    have e : ((Real.exp (s j) * Real.exp (-μ) : ℝ) : EReal) * ((1 / (U * Real.exp (-μ)) : ℝ) : EReal)
        = ((Real.exp (s j) : ℝ) : EReal) * ((1 / U : ℝ) : EReal) := by
      rw [← EReal.coe_mul, ← EReal.coe_mul]
      congr 1
      field_simp
    rw [hw', if_pos hj, Ideal.div_coe hW0, e, Ideal.exp_coe, mul_comm (v j), mul_right_comm]
  · intro j _ hj
    rw [hw', if_neg hj, Ideal.div_coe hW0, zero_mul, mul_zero]

end Cert.Softmax
end
-- ==== Proof.Value.lean ====
/- The kernel and the reference leave the same result: where the inputs a device holds are blocks of the whole arrays, and
   the activations, the projection of the queries and the keys are real. -/
module

public import proofs.«01_k».proof.Proof.Kval
public import proofs.«01_k».proof.Proof.RefStages
public import proofs.«01_k».proof.Proof.Softmax

@[expose] public section

noncomputable section

namespace Cert.Attention

open Idealize.ShloMosaic Cert.KernelIdeal.Att Cert.ReferenceIdeal.Att

/-- The number is real. -/
def IsReal (a : EReal) : Prop := ∃ r : ℝ, a = (r : EReal)

/-- A product of reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of reals is real. -/
theorem IsReal.sum {ι : Type} [Fintype ι] {f : ι → EReal} (h : ∀ i, IsReal (f i)) : IsReal (∑ i, f i) := by
  choose g hg using h
  exact ⟨∑ i, g i, by rw [← Cert.Softmax.sum_coe]; exact Finset.sum_congr rfl fun i _ => hg i⟩

/-- The factor 1/8 is real. -/
theorem c8_real : IsReal c8 := by
  refine ⟨1 / 8, ?_⟩
  simp [c8, Ideal.ofBits, Ideal.ieee]
  rw [← EReal.coe_mul]
  norm_num

/-- The word of minus infinity denotes it. -/
theorem ninf : Ideal.ofBits .f32 0xFF800000#32 = (⊥ : EReal) := by
  simp [Ideal.ofBits, Ideal.ieee]

/-- A sum over all columns, device by device. -/
theorem sum_gcol (f : Fin 4096 → EReal) : ∑ n : Fin 4096, f n = ∑ c : Dev Cert.KernelIdeal.nD, ∑ n : Fin 512, f (gcol c n) := by
  rw [← Fintype.sum_prod_type' fun c n => f (gcol c n)]
  refine (Fintype.sum_equiv (finProdFinEquiv (m := 8) (n := 512)) _ _ fun p => ?_).symm
  refine congrArg f (Fin.ext ?_)
  show 512 * p.1.val + p.2.val = p.2.val + 512 * p.1.val
  omega

/-- A sum over the rows of one class, place by place. -/
theorem sum_class (k : Fin 4) (f : Fin 512 → EReal) :
    (∑ n : Fin 512, if n.val / 64 % 4 = k.val then f n else 0) = ∑ r : Fin 128, f (rowOf k r) := by
  rw [← Finset.sum_filter]
  refine (Finset.sum_nbij' (rowOf k) aOf ?_ ?_ ?_ ?_ fun _ _ => rfl).symm
  · intro r _
    simp only [Finset.mem_filter, Finset.mem_univ, true_and, rowOf]
    omega
  · intro n _
    exact Finset.mem_univ _
  · intro r _
    exact Fin.ext (by simp only [rowOf, aOf]; omega)
  · intro n h
    simp only [Finset.mem_filter, Finset.mem_univ, true_and] at h
    exact Fin.ext (by simp only [rowOf, aOf]; omega)

/-- The keys a query row keeps. -/
def kept (i : Fin 512) : Finset (Fin 4096) := Finset.univ.filter fun j => j.val / 64 % 4 = i.val / 64 % 4

/-- A key is kept when its block agrees with the row's modulo 4. -/
theorem mem_kept {i : Fin 512} {j : Fin 4096} : j ∈ kept i ↔ j.val / 64 % 4 = i.val / 64 % 4 := by
  simp only [kept, Finset.mem_filter, Finset.mem_univ, true_and]

/-- Some key is kept. -/
theorem kept_nonempty (i : Fin 512) : (kept i).Nonempty := ⟨⟨i.val, by omega⟩, mem_kept.mpr rfl⟩

/-- A sum over the kept keys, device by device. -/
theorem sum_kept (i : Fin 512) (f : Fin 4096 → EReal) :
    ∑ j ∈ kept i, f j = ∑ e : Dev Cert.KernelIdeal.nD, ∑ r : Fin 128, f (gcol e (rowOf (kOf i) r)) := by
  rw [kept, Finset.sum_filter, sum_gcol]
  refine Finset.sum_congr rfl fun e _ => ?_
  rw [← sum_class (kOf i) fun n => f (gcol e n)]
  refine Finset.sum_congr rfl fun n _ => ?_
  have h : ((gcol e n).val / 64 % 4 = i.val / 64 % 4) = (n.val / 64 % 4 = (kOf i).val) := by
    simp only [gcol, kOf]
    exact propext ⟨fun h => by omega, fun h => by omega⟩
  simp only [h]

/-- Head `h` of device `c` among the sixty-four. -/
def ghead (c : Dev Cert.KernelIdeal.nD) (h : Fin 8) : Fin 64 := ⟨8 * c.val + h.val, by have := c.isLt; have : Cert.KernelIdeal.nD = 8 := rfl; omega⟩

/-- A head's column among all is the device's column among all. -/
theorem hcol_ghead (c : Dev Cert.KernelIdeal.nD) (h : Fin 8) (d : Fin 64) : hcol (ghead c h) d = gcol c (col h d) :=
  Fin.ext (by simp only [hcol, ghead, gcol, col]; omega)

variable (I : Ins Ideal)
variable (x : FVec Ideal Cert.ReferenceIdeal.S2x512x768 .f32) (wq : FVec Ideal Cert.ReferenceIdeal.S768x4096 .f32)
  (k v : FVec Ideal Cert.ReferenceIdeal.S2x4096x64x64 .f32) (wo : FVec Ideal Cert.ReferenceIdeal.S4096x768 .f32)

/-- The device's inputs are its blocks of the whole arrays. -/
structure Blocks : Prop where
  x : ∀ c, I.x c = x
  wq : ∀ c (f : Fin 768) (n : Fin 512), I.wq c (ix2 f n) = wq (ix2 f (gcol c n))
  k : ∀ e (b : Fin 2) (j : Fin 512) (H d : Fin 64), I.kv e (ix4 0 b j (hcol H d)) = k (ix4 b (gcol e j) H d)
  v : ∀ e (b : Fin 2) (j : Fin 512) (H d : Fin 64), I.kv e (ix4 1 b j (hcol H d)) = v (ix4 b (gcol e j) H d)
  wo : ∀ c (n : Fin 512) (j : Fin 768), I.wo c (ix2 n j) = wo (ix2 (gcol c n) j)

/-- The score of a kept key. -/
def score (b : Fin 2) (H : Fin 64) (i : Fin 512) (j : Fin 4096) : EReal :=
  (∑ d : Fin 64, (∑ f : Fin 768, x (ix3 b i f) * wq (ix2 f (hcol H d))) * k (ix4 b j H d)) * c8

/-- A score is real. -/
theorem score_real (hx : ∀ j, IsReal (x j)) (hwq : ∀ j, IsReal (wq j)) (hk : ∀ j, IsReal (k j))
    (b : Fin 2) (H : Fin 64) (i : Fin 512) (j : Fin 4096) : IsReal (score x wq k b H i j) :=
  (IsReal.sum fun d => (IsReal.sum fun f => (hx _).mul (hwq _)).mul (hk _)).mul c8_real

variable {I x wq k v wo} in
/-- A device's weight is the exponential of the score. -/
theorem wgt_eq (B : Blocks I x wq k v wo) (c e : Dev Cert.KernelIdeal.nD) (b : Fin 2) (h : Fin 8) (i j : Fin 512) :
    wgt I c b h i e j = Ideal.exp (score x wq k b (ghead c h) i (gcol e j)) := by
  simp only [wgt, qry, score, hcol_ghead, B.x, B.wq, ← hcol_ghead, B.k]

/-- The reference's attention: the kept keys' weighted values over the kept keys' weights. -/
theorem context_eq (hx : ∀ j, IsReal (x j)) (hwq : ∀ j, IsReal (wq j)) (hk : ∀ j, IsReal (k j))
    (b : Fin 2) (i : Fin 512) (H d : Fin 64) :
    context x wq k v (ix3 b i (hcol H d))
      = Ideal.div (∑ j ∈ kept i, Ideal.exp (score x wq k b H i j) * v (ix4 b j H d)) (∑ j ∈ kept i, Ideal.exp (score x wq k b H i j)) := by
  choose s hs using score_real x wq k hx hwq hk b H i
  rw [context_ix]
  simp only [share_ix, hs]
  refine Cert.Softmax.softmax (kept i) (kept_nonempty i) s (fun j => v (ix4 b j H d)) (fun j => scores x wq k (ix4 b H i j))
    (fun j => weights x wq k (ix4 b H i j)) (top x wq k (ix3 b H i)) (fun j => ?_) ?_ fun j => weights_ix x wq k b H i j
  · rw [scores_ix, ninf, ← hs]
    simp only [mem_kept]
    rfl
  · rw [top_ix, ninf]

variable {I x wq k v wo} in
/-- The kernel's attention is the reference's. -/
theorem ctx_eq (B : Blocks I x wq k v wo) (hx : ∀ j, IsReal (x j)) (hwq : ∀ j, IsReal (wq j)) (hk : ∀ j, IsReal (k j))
    (c : Dev Cert.KernelIdeal.nD) (b : Fin 2) (i : Fin 512) (h : Fin 8) (d : Fin 64) :
    ctx I c b i h d = context x wq k v (ix3 b i (hcol (ghead c h) d)) := by
  rw [context_eq x wq k v hx hwq hk, sum_kept, sum_kept, ctx, num, den]
  simp only [wgt_eq B, ← hcol_ghead, B.v]

variable {I x wq k v wo} in
/-- Entry by entry, the kernel's result is the reference's. -/
theorem out_eq_at (B : Blocks I x wq k v wo) (hx : ∀ j, IsReal (x j)) (hwq : ∀ j, IsReal (wq j)) (hk : ∀ j, IsReal (k j))
    (b : Fin 2) (i : Fin 512) (j : Fin 768) : out I (ix3 b i j) = result x wq k v wo (ix3 b i j) := by
  rw [out_ix, result_ix, sum_gcol]
  refine Finset.sum_congr rfl fun c _ => ?_
  rw [sum_cols]
  refine Finset.sum_congr rfl fun h _ => Finset.sum_congr rfl fun d _ => ?_
  rw [ctx_eq B hx hwq hk, B.wo, hcol_ghead]

variable {I x wq k v wo} in
/-- The kernel's result is the reference's. -/
theorem out_eq (B : Blocks I x wq k v wo) (hx : ∀ j, IsReal (x j)) (hwq : ∀ j, IsReal (wq j)) (hk : ∀ j, IsReal (k j)) :
    out I = result x wq k v wo := by
  funext j
  have e : j = ix3 (j 0) (j 1) (j 2) := ValueIdx.eq_ix3 j
  exact (congrArg (out I) e).trans ((out_eq_at B hx hwq hk (j 0) (j 1) (j 2)).trans (congrArg (result x wq k v wo) e).symm)

end Cert.Attention
end
-- ==== Proof.Inputs.lean ====
/- What the kernel's inputs are, entry by entry, in terms of the arrays of its arguments. -/
module

public import proofs.«01_k».proof.Proof.Value
public import proofs.«01_k».proof.Proof.Region
public import proofs.«01_k».proof.Pre_finite_KernelIdeal
public import Idealize.ShloMosaic.Lib.StableHlo.ReadAt
public import Idealize.ShloMosaic.Lib.Layout

@[expose] public section

noncomputable section

namespace Cert.KernelIdeal.Att

open Idealize.ShloMosaic Idealize.ShloMosaic.TcCoe Facts₀ Facts Cert.ReferenceIdeal.Att

variable (m : (ℓ : Loc nD τ sig) → Buf (Elt Ideal) ℓ)

/-- The activations the kernel reads are its first argument. -/
theorem ins_x (c : Dev nD) : (ins m).x c = m ((c : Thread nD τ).loc main_arg0) := Gen.V_main_arg0 m c
/-- The projection it reads is its second. -/
theorem ins_wq (c : Dev nD) : (ins m).wq c = m ((c : Thread nD τ).loc main_arg1) := Gen.V_main_arg1 m c
/-- The output projection it reads is its fifth. -/
theorem ins_wo (c : Dev nD) : (ins m).wo c = m ((c : Thread nD τ).loc main_arg4) := Gen.V_main_arg4 m c

/-- The first half of the stacked array holds the keys, the heads side by side. -/
theorem ins_k (c : Dev nD) (b : Fin 2) (j : Fin 512) (H d : Fin 64) :
    (ins m).kv c (ix4 0 b j (hcol H d)) = (m ((c : Thread nD τ).loc main_arg2) : FVec Ideal S2x512x64x64 .f32) (ix4 b j H d) := by
  show (StableHlo.after Gen.hostOps0 (fun b => m (c, b)) main_v6 : FVec Ideal S2x2x512x4096 .bf16) (ix4 0 b j (hcol H d)) = _
  after_reads_at
  after_reads_at
  have e : (⟨(hcol H d).val / 64, by simp only [hcol]; omega⟩ : Fin 64) = H := Fin.ext (by simp only [hcol]; omega)
  have e' : (⟨(hcol H d).val % 64, by simp only [hcol]; omega⟩ : Fin 64) = d := Fin.ext (by simp only [hcol]; omega)
  rw [e, e']

/-- The second half holds the values. -/
theorem ins_v (c : Dev nD) (b : Fin 2) (j : Fin 512) (H d : Fin 64) :
    (ins m).kv c (ix4 1 b j (hcol H d)) = (m ((c : Thread nD τ).loc main_arg3) : FVec Ideal S2x512x64x64 .f32) (ix4 b j H d) := by
  show (StableHlo.after Gen.hostOps0 (fun b => m (c, b)) main_v6 : FVec Ideal S2x2x512x4096 .bf16) (ix4 1 b j (hcol H d)) = _
  after_reads_at
  after_reads_at
  have e : (⟨(hcol H d).val / 64, by simp only [hcol]; omega⟩ : Fin 64) = H := Fin.ext (by simp only [hcol]; omega)
  have e' : (⟨(hcol H d).val % 64, by simp only [hcol]; omega⟩ : Fin 64) = d := Fin.ext (by simp only [hcol]; omega)
  rw [e, e']

end Cert.KernelIdeal.Att

namespace Cert.Attention

open Idealize.ShloMosaic

/-- The word of infinity denotes it. -/
theorem pinf : Ideal.ofBits .f32 0x7F800000#32 = (⊤ : EReal) := by
  simp [Ideal.ofBits, Ideal.ieee]

/-- A number whose absolute value is below infinity is real. -/
theorem real_of_lt (a : EReal) (h : BitVec.ofBool (decide (FloatOps.absf (F := Ideal) (φ := .f32) a < Ideal.ofBits .f32 0x7F800000#32)) = 1#1) : IsReal a := by
  rw [pinf] at h
  have h1 : max a (-a) < (⊤ : EReal) := by
    by_contra hn
    rw [show decide (FloatOps.absf (F := Ideal) (φ := .f32) a < (⊤ : EReal)) = false from decide_eq_false hn] at h
    exact absurd h (by decide)
  induction a with
  | bot => simp at h1
  | top => simp at h1
  | coe r => exact ⟨r, rfl⟩

instance : Cert.Pre_finite_KernelIdeal.Facts := ⟨by decide, by decide, by decide⟩

variable (x : FVec Ideal Cert.Pre_finite_KernelIdeal.S2x512x768 .f32) (wq : FVec Ideal Cert.Pre_finite_KernelIdeal.S768x512 .f32)
  (k v : FVec Ideal Cert.Pre_finite_KernelIdeal.S2x512x64x64 .f32) (wo : FVec Ideal Cert.Pre_finite_KernelIdeal.S512x768 .f32)

/-- Under the precondition the activations are real. -/
theorem fn_x (h : (Cert.Pre_finite_KernelIdeal.fn (F := Ideal) x wq k v wo).1 = fun _ => 1#1) (j) : IsReal (x j) := real_of_lt _ (congrFun h j)
/-- So is the device's part of the projection. -/
theorem fn_wq (h : (Cert.Pre_finite_KernelIdeal.fn (F := Ideal) x wq k v wo).2.1 = fun _ => 1#1) (j) : IsReal (wq j) := real_of_lt _ (congrFun h j)
/-- So are the device's keys. -/
theorem fn_k (h : (Cert.Pre_finite_KernelIdeal.fn (F := Ideal) x wq k v wo).2.2 = fun _ => 1#1) (j) : IsReal (k j) := real_of_lt _ (congrFun h j)

/-! ## Blocks of whole arrays -/

section Whole

open Cert.KernelIdeal.Att

variable {α : Type}

/-- A device's part of an array cut along its columns. -/
theorem block_cols (c : Fin 8) (w : (⟨2, ![768, 4096]⟩ : Shape).Idx → α) (f : Fin 768) (n : Fin 512) :
    Layout.block ⟨2, ![768, 512]⟩ ⟨2, ![768, 4096]⟩ 1 8 c w (by decide) (ix2 f n) = w (ix2 f (gcol c n)) := by
  refine congrArg w (funext fun a => Fin.ext ?_)
  fin_cases a
  · rfl
  · exact congrArg (· + n.val) (Nat.mul_comm c.val 512)

/-- A device's part of an array cut along its rows. -/
theorem block_rows (c : Fin 8) (w : (⟨2, ![4096, 768]⟩ : Shape).Idx → α) (n : Fin 512) (j : Fin 768) :
    Layout.block ⟨2, ![512, 768]⟩ ⟨2, ![4096, 768]⟩ 0 8 c w (by decide) (ix2 n j) = w (ix2 (gcol c n) j) := by
  refine congrArg w (funext fun a => Fin.ext ?_)
  fin_cases a
  · exact congrArg (· + n.val) (Nat.mul_comm c.val 512)
  · rfl

/-- A device's part of the keys or values. -/
theorem block_keys (c : Fin 8) (w : (⟨4, ![2, 4096, 64, 64]⟩ : Shape).Idx → α) (b : Fin 2) (j : Fin 512) (H d : Fin 64) :
    Layout.block ⟨4, ![2, 512, 64, 64]⟩ ⟨4, ![2, 4096, 64, 64]⟩ 1 8 c w (by decide) (ix4 b j H d) = w (ix4 b (gcol c j) H d) := by
  refine congrArg w (funext fun a => Fin.ext ?_)
  fin_cases a
  · rfl
  · exact congrArg (· + j.val) (Nat.mul_comm c.val 512)
  · rfl
  · rfl

/-- Every column is some device's. -/
theorem gcol_surj (n : Fin 4096) : ∃ (c : Fin 8) (j : Fin 512), n = gcol c j :=
  ⟨⟨n.val / 512, by omega⟩, ⟨n.val % 512, by omega⟩, Fin.ext (by simp only [gcol]; omega)⟩

/-- An array cut along its columns is real when every part is. -/
theorem real_cols (w : (⟨2, ![768, 4096]⟩ : Shape).Idx → EReal)
    (h : ∀ (c : Fin 8) (j : (⟨2, ![768, 512]⟩ : Shape).Idx), IsReal (Layout.block ⟨2, ![768, 512]⟩ ⟨2, ![768, 4096]⟩ 1 8 c w (by decide) j)) (j) : IsReal (w j) := by
  have e : j = ix2 (j 0) (j 1) := ValueIdx.eq_ix2 j
  obtain ⟨c, n, hn⟩ := gcol_surj (j 1)
  have h' : IsReal (w (ix2 (j 0) (gcol c n))) := (congrArg IsReal (block_cols c w (j 0) n)).mp (h c (ix2 (j 0) n))
  exact (congrArg (fun t => IsReal (w t)) (e.trans (congrArg (ix2 (j 0)) hn))).mpr h'

/-- The keys are real when every part is. -/
theorem real_keys (w : (⟨4, ![2, 4096, 64, 64]⟩ : Shape).Idx → EReal)
    (h : ∀ (c : Fin 8) (j : (⟨4, ![2, 512, 64, 64]⟩ : Shape).Idx),
      IsReal (Layout.block ⟨4, ![2, 512, 64, 64]⟩ ⟨4, ![2, 4096, 64, 64]⟩ 1 8 c w (by decide) j)) (j) : IsReal (w j) := by
  have e : j = ix4 (j 0) (j 1) (j 2) (j 3) := ValueIdx.eq_ix4 j
  obtain ⟨c, n, hn⟩ := gcol_surj (j 1)
  have h' : IsReal (w (ix4 (j 0) (gcol c n) (j 2) (j 3))) :=
    (congrArg IsReal (block_keys c w (j 0) n (j 2) (j 3))).mp (h c (ix4 (j 0) n (j 2) (j 3)))
  exact (congrArg (fun t => IsReal (w t)) (e.trans (congrArg (fun t => ix4 (j 0) t (j 2) (j 3)) hn))).mpr h'

end Whole

end Cert.Attention
end
-- ==== Proof.RefResult.lean ====
/- What the reference's run leaves is its last stage. -/
module

public import proofs.«01_k».proof.Proof.Gen.ReferenceIdeal.Run
public import proofs.«01_k».proof.Proof.RefStages

@[expose] public section

noncomputable section

namespace Cert.ReferenceIdeal.Att

open Idealize.ShloMosaic Idealize.ShloMosaic.TcCoe Facts₀ Facts

/-- The result the reference's run leaves, as the stages compose. -/
theorem res_eq (m : (ℓ : Loc nD τ sig) → Buf (Elt Ideal) ℓ) (c : Dev nD) :
    Value.res_main_v39 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Att
end
-- ==== Proof.lean ====
/- The frames of the three programs, and that the kernel over the reals leaves the reference's result: every claim is
   read off one run of the kernel's program on the mesh and one run of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Bits.Main
public import proofs.«01_k».proof.Proof.Inputs
public import proofs.«01_k».proof.Proof.RefResult
public import Idealize.ShloMosaic.Adequacy
public import Idealize.ShloMosaic.Init

@[expose] public section

noncomputable section

namespace Cert.Proof

open Idealize.ShloMosaic Idealize.SL.Sem

/-- The kernel terminates on every device, gives every argument back and leaves every semaphore at zero. -/
theorem quiescent_kernel : Cert.quiescent_Kernel (hKernel := Cert.Kernel.Gen.facts) := by
  intro m ρ _
  exact (θ_run Cert.Kernel.defs _ _).mono (fun _ h => ⟨fun c => (h.1 c).2, h.2⟩)
    (Cert.Kernel.Att.run_main (F := Bits) m ρ)

/-- The same of the kernel over the reals. -/
theorem quiescent_kernelIdeal : Cert.quiescent_KernelIdeal (hKernelIdeal := Cert.KernelIdeal.Gen.facts) := by
  intro m ρ _
  exact (θ_run Cert.KernelIdeal.defs _ _).mono (fun _ h => ⟨fun c => (h.1 c).2, h.2⟩)
    (Cert.KernelIdeal.Att.run_main (F := Ideal) m ρ)

/-- The same of the reference. -/
theorem quiescent_referenceIdeal :
    Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The side conditions of the precondition's two readings. -/
theorem finite_kernelIdeal : Cert.Pre_finite_KernelIdeal.Facts := ⟨by decide, by decide, by decide⟩
theorem finite_referenceIdeal : Cert.Pre_finite_ReferenceIdeal.Facts := ⟨by decide, by decide, by decide⟩

/-- The kernel over the reals leaves, on every device, the result the reference leaves. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := finite_kernelIdeal) := by
  intro m g m' g' hf hin
  have B : Cert.Attention.Blocks (Cert.KernelIdeal.Att.ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (Cert.KernelIdeal.Att.ins_x m c).trans (hin c).1
      wq := fun c f n => (congrFun ((Cert.KernelIdeal.Att.ins_wq m c).trans (hin c).2.1) _).trans (Cert.Attention.block_cols c _ f n)
      k := fun c b j H d => (Cert.KernelIdeal.Att.ins_k m c b j H d).trans ((congrFun (hin c).2.2.1 _).trans (Cert.Attention.block_keys c _ b j H d))
      v := fun c b j H d => (Cert.KernelIdeal.Att.ins_v m c b j H d).trans ((congrFun (hin c).2.2.2.1 _).trans (Cert.Attention.block_keys c _ b j H d))
      wo := fun c n j => (congrFun ((Cert.KernelIdeal.Att.ins_wo m c).trans (hin c).2.2.2.2) _).trans (Cert.Attention.block_rows c _ n j) }
  have e := Cert.Attention.out_eq B
    (fun j => (hin 0).1 ▸ Cert.Attention.fn_x _ _ _ _ _ (hf 0).1 j)
    (Cert.Attention.real_cols _ fun c j => (hin c).2.1 ▸ Cert.Attention.fn_wq _ _ _ _ _ (hf c).2.1 j)
    (Cert.Attention.real_keys _ fun c j => (hin c).2.2.1 ▸ Cert.Attention.fn_k _ _ _ _ _ (hf c).2.2 j)
  refine ⟨Cert.KernelIdeal.Att.out (Cert.KernelIdeal.Att.ins m), ?_, ?_⟩
  · exact (θ_run Cert.KernelIdeal.defs _ _).mono (fun _ h => h.1) (Cert.KernelIdeal.Att.run_main (F := Ideal) m g)
  · refine (θ_run Cert.ReferenceIdeal.defs _ _).mono (fun r h => ⟨(h 0).1.trans ((Cert.ReferenceIdeal.Att.res_eq m' 0).trans e.symm), (h 0).2⟩)
      (Cert.ReferenceIdeal.Value.run (F := Ideal) m' g')

/-- All the claims. -/
theorem claim : Cert.Claim :=
  ⟨Cert.Kernel.Gen.facts, Cert.KernelIdeal.Gen.facts, Cert.ReferenceIdeal.Gen.facts, finite_kernelIdeal, finite_referenceIdeal,
    quiescent_kernel, quiescent_kernelIdeal, fun m ρ _ => quiescent_kernelIdeal m ρ True.intro,
    quiescent_referenceIdeal, fun m ρ _ => quiescent_referenceIdeal m ρ True.intro, trivial, algebraic⟩

end Cert.Proof

end
